-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18)
      ∧ r.2.mem ((c.tc : Thread Cert.Kernel2.nD Cert.Kernel2.τ).loc Cert.Kernel2.main_arg19) = m ((c.tc : Thread Cert.Kernel2.nD Cert.Kernel2.τ).loc Cert.Kernel2.main_arg19)
      ∧ r.2.mem ((c.tc : Thread Cert.Kernel2.nD Cert.Kernel2.τ).loc Cert.Kernel2.main_arg20) = m ((c.tc : Thread Cert.Kernel2.nD Cert.Kernel2.τ).loc Cert.Kernel2.main_arg20))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "inv_ln2" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)
      ∧ m' ((c.tc : Thread Cert.Reference2Ideal.nD Cert.Reference2Ideal.τ).loc Cert.Reference2Ideal.main_arg19) = m ((c.tc : Thread Cert.Kernel2Ideal.nD Cert.Kernel2Ideal.τ).loc Cert.Kernel2Ideal.main_arg19)
      ∧ m' ((c.tc : Thread Cert.Reference2Ideal.nD Cert.Reference2Ideal.τ).loc Cert.Reference2Ideal.main_arg20) = m ((c.tc : Thread Cert.Kernel2Ideal.nD Cert.Kernel2Ideal.τ).loc Cert.Kernel2Ideal.main_arg20)) →
    ∃ (v0 : (c : Dev Cert.Kernel2Ideal.nD) → Buf (Elt Ideal) ((c.tc : Thread Cert.Kernel2Ideal.nD Cert.Kernel2Ideal.τ).loc Cert.Kernel2Ideal.main_v47)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v47) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
          ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
          ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v102) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18)
          ∧ r.2.mem ((c.tc : Thread Cert.Reference2Ideal.nD Cert.Reference2Ideal.τ).loc Cert.Reference2Ideal.main_arg19) = m' ((c.tc : Thread Cert.Reference2Ideal.nD Cert.Reference2Ideal.τ).loc Cert.Reference2Ideal.main_arg19)
          ∧ r.2.mem ((c.tc : Thread Cert.Reference2Ideal.nD Cert.Reference2Ideal.τ).loc Cert.Reference2Ideal.main_arg20) = m' ((c.tc : Thread Cert.Reference2Ideal.nD Cert.Reference2Ideal.τ).loc Cert.Reference2Ideal.main_arg20))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S16x4096x512 : Shape := ⟨3, ![16, 4096, 512]⟩
abbrev S_ : Shape := ⟨0, ![]⟩
abbrev S65536x512 : Shape := ⟨2, ![65536, 512]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S2x128x256 : Shape := ⟨3, ![2, 128, 256]⟩
abbrev S16x4096x128 : Shape := ⟨3, ![16, 4096, 128]⟩
abbrev S1x4096x512 : Shape := ⟨3, ![1, 4096, 512]⟩
abbrev S1x4096x128 : Shape := ⟨3, ![1, 4096, 128]⟩
abbrev S128x128 : Shape := ⟨2, ![128, 128]⟩
abbrev S256x128 : Shape := ⟨2, ![256, 128]⟩
abbrev S1x128x128 : Shape := ⟨3, ![1, 128, 128]⟩
abbrev S1x256x128 : Shape := ⟨3, ![1, 256, 128]⟩
abbrev S256x256 : Shape := ⟨2, ![256, 256]⟩

abbrev nBuf : Space → Nat
  | .hbm => 56
  | .vmem => 11
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4096x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16x4096x512, .f32⟩
  | .hbm, ⟨8, _⟩ => ⟨S16x4096x512, .f32⟩
  | .hbm, ⟨9, _⟩ => ⟨S16x4096x512, .bf16⟩
  | .hbm, ⟨10, _⟩ => ⟨S65536x512, .bf16⟩
  | .hbm, ⟨11, _⟩ => ⟨S16x4096x512, .bf16⟩
  | .hbm, ⟨12, _⟩ => ⟨S65536x512, .bf16⟩
  | .hbm, ⟨13, _⟩ => ⟨S16x4096x512, .bf16⟩
  | .hbm, ⟨14, _⟩ => ⟨S65536x512, .bf16⟩
  | .hbm, ⟨15, _⟩ => ⟨S128, .i32⟩
  | .hbm, ⟨16, _⟩ => ⟨S128x1, .i32⟩
  | .hbm, ⟨17, _⟩ => ⟨S256, .i32⟩
  | .hbm, ⟨18, _⟩ => ⟨S1x256, .i32⟩
  | .hbm, ⟨19, _⟩ => ⟨S_, .i32⟩
  | .hbm, ⟨20, _⟩ => ⟨S128x1, .i32⟩
  | .hbm, ⟨21, _⟩ => ⟨S128x1, .i32⟩
  | .hbm, ⟨22, _⟩ => ⟨S128x256, .i32⟩
  | .hbm, ⟨23, _⟩ => ⟨S128x256, .i32⟩
  | .hbm, ⟨24, _⟩ => ⟨S128x256, .i32⟩
  | .hbm, ⟨25, _⟩ => ⟨S_, .i32⟩
  | .hbm, ⟨26, _⟩ => ⟨S128x256, .i32⟩
  | .hbm, ⟨27, _⟩ => ⟨S128x256, .i1⟩
  | .hbm, ⟨28, _⟩ => ⟨S_, .i32⟩
  | .hbm, ⟨29, _⟩ => ⟨S128x256, .i32⟩
  | .hbm, ⟨30, _⟩ => ⟨S128x256, .i1⟩
  | .hbm, ⟨31, _⟩ => ⟨S128x256, .i1⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S1x128x256, .i1⟩
  | .hbm, ⟨43, _⟩ => ⟨S1x128x256, .i1⟩
  | .hbm, ⟨44, _⟩ => ⟨S2x128x256, .i1⟩
  | .hbm, ⟨45, _⟩ => ⟨S_, .f32⟩
  | .hbm, ⟨46, _⟩ => ⟨S_, .f32⟩
  | .hbm, ⟨47, _⟩ => ⟨S2x128x256, .f32⟩
  | .hbm, ⟨48, _⟩ => ⟨S2x128x256, .f32⟩
  | .hbm, ⟨49, _⟩ => ⟨S2x128x256, .f32⟩
  | .hbm, ⟨50, _⟩ => ⟨S2x128x256, .f32⟩
  | .hbm, ⟨51, _⟩ => ⟨S16x4096x512, .bf16⟩
  | .hbm, ⟨52, _⟩ => ⟨S16x4096x512, .bf16⟩
  | .hbm, ⟨53, _⟩ => ⟨S16x4096x512, .bf16⟩
  | .hbm, ⟨54, _⟩ => ⟨S16x4096x512, .bf16⟩
  | .hbm, ⟨55, _⟩ => ⟨S16x4096x128, .f32⟩
  | .local _ .vmem, ⟨0, _⟩ => ⟨S2x128x256, .f32⟩
  | .local _ .vmem, ⟨1, _⟩ => ⟨S1x4096x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x4096x512, .bf16⟩
  | .local _ .vmem, ⟨7, _⟩ => ⟨S1x4096x512, .bf16⟩
  | .local _ .vmem, ⟨8, _⟩ => ⟨S1x4096x512, .bf16⟩
  | .local _ .vmem, ⟨9, _⟩ => ⟨S1x4096x128, .f32⟩
  | .local _ .vmem, ⟨10, _⟩ => ⟨S1x4096x128, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_3 : Ref sig .tc := ⟨.hbm, 35, rfl⟩
abbrev main_v27 : Ref sig .tc := ⟨.hbm, 36, rfl⟩
abbrev main_v28 : Ref sig .tc := ⟨.hbm, 37, rfl⟩
abbrev main_c_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_cst_6 : Ref sig .tc := ⟨.hbm, 46, rfl⟩
abbrev main_call0_v0 : Ref sig .tc := ⟨.hbm, 47, rfl⟩
abbrev main_call0_v1 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40_0 : Ref sig .tc := ⟨.hbm, 54, rfl⟩
abbrev main_v40_1 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 1, 1], ![false, false, false]⟩

def k0_mult1 (i : grid0.Coords) : BitVec 32 :=
  let arg2 : BitVec 32 := BitVec.ofNat 32 (i 2).val
  let c32_i32 : BitVec 32 := 32#32
  let v4 : BitVec 32 := Scalar.muli arg2 c32_i32
  let c0_i32 : BitVec 32 := 0#32
  let v5 : BitVec 32 := Scalar.addi v4 c0_i32
  let c1_i32 : BitVec 32 := 1#32
  let v6 : BitVec 32 := Scalar.subi v5 c1_i32
  let c0_i32_0 : BitVec 32 := 0#32
  let v7 : BitVec 32 := Scalar.maxsi v6 c0_i32_0
  let c128_i32 : BitVec 32 := 128#32
  let v8 : BitVec 32 := Scalar.muli v7 c128_i32
  v8
def k0_off1 (i : grid0.Coords) (c0_i32 : BitVec 32) : Fin 3 → Nat :=
  let arg2 : BitVec 32 := BitVec.ofNat 32 (i 2).val
  let c32_i32 : BitVec 32 := 32#32
  let v4 : BitVec 32 := Scalar.muli arg2 c32_i32
  let v5 : BitVec 32 := Scalar.addi v4 c0_i32
  let c0_i32_1 : BitVec 32 := 0#32
  let v10 : BitVec 1 := Scalar.cmpi .eq v5 c0_i32_1
  let c1_i32_2 : BitVec 32 := 1#32
  let c0_i32_3 : BitVec 32 := 0#32
  let v11 : BitVec 32 := Scalar.select v10 c1_i32_2 c0_i32_3
  let v12 : Index := Scalar.indexCast v11
  let c0 : Index := 0#32
  let c0_4 : Index := 0#32
  ![v12.toNat, 0, 0]
def k0_off2 (i : grid0.Coords) (c0_i32 : BitVec 32) : Fin 3 → Nat :=
  let c0_11 : Index := 0#32
  let arg2 : BitVec 32 := BitVec.ofNat 32 (i 2).val
  let c32_i32 : BitVec 32 := 32#32
  let v4 : BitVec 32 := Scalar.muli arg2 c32_i32
  let v5 : BitVec 32 := Scalar.addi v4 c0_i32
  let c1_i32 : BitVec 32 := 1#32
  let v6 : BitVec 32 := Scalar.subi v5 c1_i32
  let c0_i32_0 : BitVec 32 := 0#32
  let v7 : BitVec 32 := Scalar.maxsi v6 c0_i32_0
  let c128_i32 : BitVec 32 := 128#32
  let v8 : BitVec 32 := Scalar.muli v7 c128_i32
  let v9 : BitVec 32 := v8
  let v21 : Index := Scalar.indexCast v9
  let c0_12 : Index := 0#32
  ![0, v21.toNat, 0]
def k0_off3 (i : grid0.Coords) (c0_i32 : BitVec 32) : Fin 3 → Nat :=
  let c0_33 : Index := 0#32
  let arg2 : BitVec 32 := BitVec.ofNat 32 (i 2).val
  let c32_i32 : BitVec 32 := 32#32
  let v4 : BitVec 32 := Scalar.muli arg2 c32_i32
  let v5 : BitVec 32 := Scalar.addi v4 c0_i32
  let c1_i32 : BitVec 32 := 1#32
  let v6 : BitVec 32 := Scalar.subi v5 c1_i32
  let c0_i32_0 : BitVec 32 := 0#32
  let v7 : BitVec 32 := Scalar.maxsi v6 c0_i32_0
  let c128_i32 : BitVec 32 := 128#32
  let v8 : BitVec 32 := Scalar.muli v7 c128_i32
  let v9 : BitVec 32 := v8
  let v80 : Index := Scalar.indexCast v9
  let c128_34 : Index := 128#32
  ![0, v80.toNat, 128]
def k0_off4 (i : grid0.Coords) (c0_i32 : BitVec 32) : Fin 3 → Nat :=
  let c0_53 : Index := 0#32
  let arg2 : BitVec 32 := BitVec.ofNat 32 (i 2).val
  let c32_i32 : BitVec 32 := 32#32
  let v4 : BitVec 32 := Scalar.muli arg2 c32_i32
  let v5 : BitVec 32 := Scalar.addi v4 c0_i32
  let c1_i32 : BitVec 32 := 1#32
  let v6 : BitVec 32 := Scalar.subi v5 c1_i32
  let c0_i32_0 : BitVec 32 := 0#32
  let v7 : BitVec 32 := Scalar.maxsi v6 c0_i32_0
  let c128_i32 : BitVec 32 := 128#32
  let v8 : BitVec 32 := Scalar.muli v7 c128_i32
  let v9 : BitVec 32 := v8
  let v139 : Index := Scalar.indexCast v9
  let c256_54 : Index := 256#32
  ![0, v139.toNat, 256]
def k0_off5 (i : grid0.Coords) (c0_i32 : BitVec 32) : Fin 3 → Nat :=
  let c0_73 : Index := 0#32
  let arg2 : BitVec 32 := BitVec.ofNat 32 (i 2).val
  let c32_i32 : BitVec 32 := 32#32
  let v4 : BitVec 32 := Scalar.muli arg2 c32_i32
  let v5 : BitVec 32 := Scalar.addi v4 c0_i32
  let c1_i32 : BitVec 32 := 1#32
  let v6 : BitVec 32 := Scalar.subi v5 c1_i32
  let c0_i32_0 : BitVec 32 := 0#32
  let v7 : BitVec 32 := Scalar.maxsi v6 c0_i32_0
  let c128_i32 : BitVec 32 := 128#32
  let v8 : BitVec 32 := Scalar.muli v7 c128_i32
  let v9 : BitVec 32 := v8
  let v198 : Index := Scalar.indexCast v9
  let c384_74 : Index := 384#32
  ![0, v198.toNat, 384]
def k0_mult2 (i : grid0.Coords) : BitVec 32 :=
  let arg2 : BitVec 32 := BitVec.ofNat 32 (i 2).val
  let c32_i32_95 : BitVec 32 := 32#32
  let v262 : BitVec 32 := Scalar.muli arg2 c32_i32_95
  let c1_i32_96 : BitVec 32 := 1#32
  let v263 : BitVec 32 := Scalar.addi v262 c1_i32_96
  let c1_i32_97 : BitVec 32 := 1#32
  let v264 : BitVec 32 := Scalar.subi v263 c1_i32_97
  let c0_i32_98 : BitVec 32 := 0#32
  let v265 : BitVec 32 := Scalar.maxsi v264 c0_i32_98
  let c128_i32_99 : BitVec 32 := 128#32
  let v266 : BitVec 32 := Scalar.muli v265 c128_i32_99
  v266
def k0_mult3 (i : grid0.Coords) : BitVec 32 :=
  let arg2 : BitVec 32 := BitVec.ofNat 32 (i 2).val
  let c32_i32_204 : BitVec 32 := 32#32
  let v520 : BitVec 32 := Scalar.muli arg2 c32_i32_204
  let c2_i32_205 : BitVec 32 := 2#32
  let v521 : BitVec 32 := Scalar.addi v520 c2_i32_205
  let c1_i32_206 : BitVec 32 := 1#32
  let v522 : BitVec 32 := Scalar.subi v521 c1_i32_206
  let c0_i32_207 : BitVec 32 := 0#32
  let v523 : BitVec 32 := Scalar.maxsi v522 c0_i32_207
  let c128_i32_208 : BitVec 32 := 128#32
  let v524 : BitVec 32 := Scalar.muli v523 c128_i32_208
  v524
def k0_mult4 (i : grid0.Coords) : BitVec 32 :=
  let arg2 : BitVec 32 := BitVec.ofNat 32 (i 2).val
  let c32_i32_313 : BitVec 32 := 32#32
  let v778 : BitVec 32 := Scalar.muli arg2 c32_i32_313
  let c3_i32_314 : BitVec 32 := 3#32
  let v779 : BitVec 32 := Scalar.addi v778 c3_i32_314
  let c1_i32_315 : BitVec 32 := 1#32
  let v780 : BitVec 32 := Scalar.subi v779 c1_i32_315
  let c0_i32_316 : BitVec 32 := 0#32
  let v781 : BitVec 32 := Scalar.maxsi v780 c0_i32_316
  let c128_i32_317 : BitVec 32 := 128#32
  let v782 : BitVec 32 := Scalar.muli v781 c128_i32_317
  v782
def k0_mult5 (i : grid0.Coords) : BitVec 32 :=
  let arg2 : BitVec 32 := BitVec.ofNat 32 (i 2).val
  let c32_i32_422 : BitVec 32 := 32#32
  let v1036 : BitVec 32 := Scalar.muli arg2 c32_i32_422
  let c4_i32_423 : BitVec 32 := 4#32
  let v1037 : BitVec 32 := Scalar.addi v1036 c4_i32_423
  let c1_i32_424 : BitVec 32 := 1#32
  let v1038 : BitVec 32 := Scalar.subi v1037 c1_i32_424
  let c0_i32_425 : BitVec 32 := 0#32
  let v1039 : BitVec 32 := Scalar.maxsi v1038 c0_i32_425
  let c128_i32_426 : BitVec 32 := 128#32
  let v1040 : BitVec 32 := Scalar.muli v1039 c128_i32_426
  v1040
def k0_mult6 (i : grid0.Coords) : BitVec 32 :=
  let arg2 : BitVec 32 := BitVec.ofNat 32 (i 2).val
  let c32_i32_530 : BitVec 32 := 32#32
  let v1294 : BitVec 32 := Scalar.muli arg2 c32_i32_530
  let c5_i32_531 : BitVec 32 := 5#32
  let v1295 : BitVec 32 := Scalar.addi v1294 c5_i32_531
  let c1_i32_532 : BitVec 32 := 1#32
  let v1296 : BitVec 32 := Scalar.subi v1295 c1_i32_532
  let c0_i32_533 : BitVec 32 := 0#32
  let v1297 : BitVec 32 := Scalar.maxsi v1296 c0_i32_533
  let c128_i32_534 : BitVec 32 := 128#32
  let v1298 : BitVec 32 := Scalar.muli v1297 c128_i32_534
  v1298
def k0_mult7 (i : grid0.Coords) : BitVec 32 :=
  let arg2 : BitVec 32 := BitVec.ofNat 32 (i 2).val
  let c32_i32_638 : BitVec 32 := 32#32
  let v1552 : BitVec 32 := Scalar.muli arg2 c32_i32_638
  let c6_i32_639 : BitVec 32 := 6#32
  let v1553 : BitVec 32 := Scalar.addi v1552 c6_i32_639
  let c1_i32_640 : BitVec 32 := 1#32
  let v1554 : BitVec 32 := Scalar.subi v1553 c1_i32_640
  let c0_i32_641 : BitVec 32 := 0#32
  let v1555 : BitVec 32 := Scalar.maxsi v1554 c0_i32_641
  let c128_i32_642 : BitVec 32 := 128#32
  let v1556 : BitVec 32 := Scalar.muli v1555 c128_i32_642
  v1556
def k0_mult8 (i : grid0.Coords) : BitVec 32 :=
  let arg2 : BitVec 32 := BitVec.ofNat 32 (i 2).val
  let c32_i32_746 : BitVec 32 := 32#32
  let v1810 : BitVec 32 := Scalar.muli arg2 c32_i32_746
  let c7_i32_747 : BitVec 32 := 7#32
  let v1811 : BitVec 32 := Scalar.addi v1810 c7_i32_747
  let c1_i32_748 : BitVec 32 := 1#32
  let v1812 : BitVec 32 := Scalar.subi v1811 c1_i32_748
  let c0_i32_749 : BitVec 32 := 0#32
  let v1813 : BitVec 32 := Scalar.maxsi v1812 c0_i32_749
  let c128_i32_750 : BitVec 32 := 128#32
  let v1814 : BitVec 32 := Scalar.muli v1813 c128_i32_750
  v1814
def k0_mult9 (i : grid0.Coords) : BitVec 32 :=
  let arg2 : BitVec 32 := BitVec.ofNat 32 (i 2).val
  let c32_i32_854 : BitVec 32 := 32#32
  let v2068 : BitVec 32 := Scalar.muli arg2 c32_i32_854
  let c8_i32 : BitVec 32 := 8#32
  let v2069 : BitVec 32 := Scalar.addi v2068 c8_i32
  let c1_i32_855 : BitVec 32 := 1#32
  let v2070 : BitVec 32 := Scalar.subi v2069 c1_i32_855
  let c0_i32_856 : BitVec 32 := 0#32
  let v2071 : BitVec 32 := Scalar.maxsi v2070 c0_i32_856
  let c128_i32_857 : BitVec 32 := 128#32
  let v2072 : BitVec 32 := Scalar.muli v2071 c128_i32_857
  v2072
def k0_mult10 (i : grid0.Coords) : BitVec 32 :=
  let arg2 : BitVec 32 := BitVec.ofNat 32 (i 2).val
  let c32_i32_961 : BitVec 32 := 32#32
  let v2326 : BitVec 32 := Scalar.muli arg2 c32_i32_961
  let c9_i32 : BitVec 32 := 9#32
  let v2327 : BitVec 32 := Scalar.addi v2326 c9_i32
  let c1_i32_962 : BitVec 32 := 1#32
  let v2328 : BitVec 32 := Scalar.subi v2327 c1_i32_962
  let c0_i32_963 : BitVec 32 := 0#32
  let v2329 : BitVec 32 := Scalar.maxsi v2328 c0_i32_963
  let c128_i32_964 : BitVec 32 := 128#32
  let v2330 : BitVec 32 := Scalar.muli v2329 c128_i32_964
  v2330
def k0_mult11 (i : grid0.Coords) : BitVec 32 :=
  let arg2 : BitVec 32 := BitVec.ofNat 32 (i 2).val
  let c32_i32_1068 : BitVec 32 := 32#32
  let v2584 : BitVec 32 := Scalar.muli arg2 c32_i32_1068
  let c10_i32 : BitVec 32 := 10#32
  let v2585 : BitVec 32 := Scalar.addi v2584 c10_i32
  let c1_i32_1069 : BitVec 32 := 1#32
  let v2586 : BitVec 32 := Scalar.subi v2585 c1_i32_1069
  let c0_i32_1070 : BitVec 32 := 0#32
  let v2587 : BitVec 32 := Scalar.maxsi v2586 c0_i32_1070
  let c128_i32_1071 : BitVec 32 := 128#32
  let v2588 : BitVec 32 := Scalar.muli v2587 c128_i32_1071
  v2588
def k0_mult12 (i : grid0.Coords) : BitVec 32 :=
  let arg2 : BitVec 32 := BitVec.ofNat 32 (i 2).val
  let c32_i32_1175 : BitVec 32 := 32#32
  let v2842 : BitVec 32 := Scalar.muli arg2 c32_i32_1175
  let c11_i32 : BitVec 32 := 11#32
  let v2843 : BitVec 32 := Scalar.addi v2842 c11_i32
  let c1_i32_1176 : BitVec 32 := 1#32
  let v2844 : BitVec 32 := Scalar.subi v2843 c1_i32_1176
  let c0_i32_1177 : BitVec 32 := 0#32
  let v2845 : BitVec 32 := Scalar.maxsi v2844 c0_i32_1177
  let c128_i32_1178 : BitVec 32 := 128#32
  let v2846 : BitVec 32 := Scalar.muli v2845 c128_i32_1178
  v2846
def k0_mult13 (i : grid0.Coords) : BitVec 32 :=
  let arg2 : BitVec 32 := BitVec.ofNat 32 (i 2).val
  let c32_i32_1282 : BitVec 32 := 32#32
  let v3100 : BitVec 32 := Scalar.muli arg2 c32_i32_1282
  let c12_i32 : BitVec 32 := 12#32
  let v3101 : BitVec 32 := Scalar.addi v3100 c12_i32
  let c1_i32_1283 : BitVec 32 := 1#32
  let v3102 : BitVec 32 := Scalar.subi v3101 c1_i32_1283
  let c0_i32_1284 : BitVec 32 := 0#32
  let v3103 : BitVec 32 := Scalar.maxsi v3102 c0_i32_1284
  let c128_i32_1285 : BitVec 32 := 128#32
  let v3104 : BitVec 32 := Scalar.muli v3103 c128_i32_1285
  v3104
def k0_mult14 (i : grid0.Coords) : BitVec 32 :=
  let arg2 : BitVec 32 := BitVec.ofNat 32 (i 2).val
  let c32_i32_1389 : BitVec 32 := 32#32
  let v3358 : BitVec 32 := Scalar.muli arg2 c32_i32_1389
  let c13_i32 : BitVec 32 := 13#32
  let v3359 : BitVec 32 := Scalar.addi v3358 c13_i32
  let c1_i32_1390 : BitVec 32 := 1#32
  let v3360 : BitVec 32 := Scalar.subi v3359 c1_i32_1390
  let c0_i32_1391 : BitVec 32 := 0#32
  let v3361 : BitVec 32 := Scalar.maxsi v3360 c0_i32_1391
  let c128_i32_1392 : BitVec 32 := 128#32
  let v3362 : BitVec 32 := Scalar.muli v3361 c128_i32_1392
  v3362
def k0_mult15 (i : grid0.Coords) : BitVec 32 :=
  let arg2 : BitVec 32 := BitVec.ofNat 32 (i 2).val
  let c32_i32_1496 : BitVec 32 := 32#32
  let v3616 : BitVec 32 := Scalar.muli arg2 c32_i32_1496
  let c14_i32 : BitVec 32 := 14#32
  let v3617 : BitVec 32 := Scalar.addi v3616 c14_i32
  let c1_i32_1497 : BitVec 32 := 1#32
  let v3618 : BitVec 32 := Scalar.subi v3617 c1_i32_1497
  let c0_i32_1498 : BitVec 32 := 0#32
  let v3619 : BitVec 32 := Scalar.maxsi v3618 c0_i32_1498
  let c128_i32_1499 : BitVec 32 := 128#32
  let v3620 : BitVec 32 := Scalar.muli v3619 c128_i32_1499
  v3620
def k0_mult16 (i : grid0.Coords) : BitVec 32 :=
  let arg2 : BitVec 32 := BitVec.ofNat 32 (i 2).val
  let c32_i32_1603 : BitVec 32 := 32#32
  let v3874 : BitVec 32 := Scalar.muli arg2 c32_i32_1603
  let c15_i32 : BitVec 32 := 15#32
  let v3875 : BitVec 32 := Scalar.addi v3874 c15_i32
  let c1_i32_1604 : BitVec 32 := 1#32
  let v3876 : BitVec 32 := Scalar.subi v3875 c1_i32_1604
  let c0_i32_1605 : BitVec 32 := 0#32
  let v3877 : BitVec 32 := Scalar.maxsi v3876 c0_i32_1605
  let c128_i32_1606 : BitVec 32 := 128#32
  let v3878 : BitVec 32 := Scalar.muli v3877 c128_i32_1606
  v3878
def k0_mult17 (i : grid0.Coords) : BitVec 32 :=
  let arg2 : BitVec 32 := BitVec.ofNat 32 (i 2).val
  let c32_i32_1710 : BitVec 32 := 32#32
  let v4132 : BitVec 32 := Scalar.muli arg2 c32_i32_1710
  let c16_i32 : BitVec 32 := 16#32
  let v4133 : BitVec 32 := Scalar.addi v4132 c16_i32
  let c1_i32_1711 : BitVec 32 := 1#32
  let v4134 : BitVec 32 := Scalar.subi v4133 c1_i32_1711
  let c0_i32_1712 : BitVec 32 := 0#32
  let v4135 : BitVec 32 := Scalar.maxsi v4134 c0_i32_1712
  let c128_i32_1713 : BitVec 32 := 128#32
  let v4136 : BitVec 32 := Scalar.muli v4135 c128_i32_1713
  v4136
def k0_mult18 (i : grid0.Coords) : BitVec 32 :=
  let arg2 : BitVec 32 := BitVec.ofNat 32 (i 2).val
  let c32_i32_1817 : BitVec 32 := 32#32
  let v4390 : BitVec 32 := Scalar.muli arg2 c32_i32_1817
  let c17_i32 : BitVec 32 := 17#32
  let v4391 : BitVec 32 := Scalar.addi v4390 c17_i32
  let c1_i32_1818 : BitVec 32 := 1#32
  let v4392 : BitVec 32 := Scalar.subi v4391 c1_i32_1818
  let c0_i32_1819 : BitVec 32 := 0#32
  let v4393 : BitVec 32 := Scalar.maxsi v4392 c0_i32_1819
  let c128_i32_1820 : BitVec 32 := 128#32
  let v4394 : BitVec 32 := Scalar.muli v4393 c128_i32_1820
  v4394
def k0_mult19 (i : grid0.Coords) : BitVec 32 :=
  let arg2 : BitVec 32 := BitVec.ofNat 32 (i 2).val
  let c32_i32_1924 : BitVec 32 := 32#32
  let v4648 : BitVec 32 := Scalar.muli arg2 c32_i32_1924
  let c18_i32 : BitVec 32 := 18#32
  let v4649 : BitVec 32 := Scalar.addi v4648 c18_i32
  let c1_i32_1925 : BitVec 32 := 1#32
  let v4650 : BitVec 32 := Scalar.subi v4649 c1_i32_1925
  let c0_i32_1926 : BitVec 32 := 0#32
  let v4651 : BitVec 32 := Scalar.maxsi v4650 c0_i32_1926
  let c128_i32_1927 : BitVec 32 := 128#32
  let v4652 : BitVec 32 := Scalar.muli v4651 c128_i32_1927
  v4652
def k0_mult20 (i : grid0.Coords) : BitVec 32 :=
  let arg2 : BitVec 32 := BitVec.ofNat 32 (i 2).val
  let c32_i32_2031 : BitVec 32 := 32#32
  let v4906 : BitVec 32 := Scalar.muli arg2 c32_i32_2031
  let c19_i32 : BitVec 32 := 19#32
  let v4907 : BitVec 32 := Scalar.addi v4906 c19_i32
  let c1_i32_2032 : BitVec 32 := 1#32
  let v4908 : BitVec 32 := Scalar.subi v4907 c1_i32_2032
  let c0_i32_2033 : BitVec 32 := 0#32
  let v4909 : BitVec 32 := Scalar.maxsi v4908 c0_i32_2033
  let c128_i32_2034 : BitVec 32 := 128#32
  let v4910 : BitVec 32 := Scalar.muli v4909 c128_i32_2034
  v4910
def k0_mult21 (i : grid0.Coords) : BitVec 32 :=
  let arg2 : BitVec 32 := BitVec.ofNat 32 (i 2).val
  let c32_i32_2138 : BitVec 32 := 32#32
  let v5164 : BitVec 32 := Scalar.muli arg2 c32_i32_2138
  let c20_i32 : BitVec 32 := 20#32
  let v5165 : BitVec 32 := Scalar.addi v5164 c20_i32
  let c1_i32_2139 : BitVec 32 := 1#32
  let v5166 : BitVec 32 := Scalar.subi v5165 c1_i32_2139
  let c0_i32_2140 : BitVec 32 := 0#32
  let v5167 : BitVec 32 := Scalar.maxsi v5166 c0_i32_2140
  let c128_i32_2141 : BitVec 32 := 128#32
  let v5168 : BitVec 32 := Scalar.muli v5167 c128_i32_2141
  v5168
def k0_mult22 (i : grid0.Coords) : BitVec 32 :=
  let arg2 : BitVec 32 := BitVec.ofNat 32 (i 2).val
  let c32_i32_2245 : BitVec 32 := 32#32
  let v5422 : BitVec 32 := Scalar.muli arg2 c32_i32_2245
  let c21_i32 : BitVec 32 := 21#32
  let v5423 : BitVec 32 := Scalar.addi v5422 c21_i32
  let c1_i32_2246 : BitVec 32 := 1#32
  let v5424 : BitVec 32 := Scalar.subi v5423 c1_i32_2246
  let c0_i32_2247 : BitVec 32 := 0#32
  let v5425 : BitVec 32 := Scalar.maxsi v5424 c0_i32_2247
  let c128_i32_2248 : BitVec 32 := 128#32
  let v5426 : BitVec 32 := Scalar.muli v5425 c128_i32_2248
  v5426
def k0_mult23 (i : grid0.Coords) : BitVec 32 :=
  let arg2 : BitVec 32 := BitVec.ofNat 32 (i 2).val
  let c32_i32_2352 : BitVec 32 := 32#32
  let v5680 : BitVec 32 := Scalar.muli arg2 c32_i32_2352
  let c22_i32 : BitVec 32 := 22#32
  let v5681 : BitVec 32 := Scalar.addi v5680 c22_i32
  let c1_i32_2353 : BitVec 32 := 1#32
  let v5682 : BitVec 32 := Scalar.subi v5681 c1_i32_2353
  let c0_i32_2354 : BitVec 32 := 0#32
  let v5683 : BitVec 32 := Scalar.maxsi v5682 c0_i32_2354
  let c128_i32_2355 : BitVec 32 := 128#32
  let v5684 : BitVec 32 := Scalar.muli v5683 c128_i32_2355
  v5684
def k0_mult24 (i : grid0.Coords) : BitVec 32 :=
  let arg2 : BitVec 32 := BitVec.ofNat 32 (i 2).val
  let c32_i32_2459 : BitVec 32 := 32#32
  let v5938 : BitVec 32 := Scalar.muli arg2 c32_i32_2459
  let c23_i32 : BitVec 32 := 23#32
  let v5939 : BitVec 32 := Scalar.addi v5938 c23_i32
  let c1_i32_2460 : BitVec 32 := 1#32
  let v5940 : BitVec 32 := Scalar.subi v5939 c1_i32_2460
  let c0_i32_2461 : BitVec 32 := 0#32
  let v5941 : BitVec 32 := Scalar.maxsi v5940 c0_i32_2461
  let c128_i32_2462 : BitVec 32 := 128#32
  let v5942 : BitVec 32 := Scalar.muli v5941 c128_i32_2462
  v5942
def k0_mult25 (i : grid0.Coords) : BitVec 32 :=
  let arg2 : BitVec 32 := BitVec.ofNat 32 (i 2).val
  let c32_i32_2566 : BitVec 32 := 32#32
  let v6196 : BitVec 32 := Scalar.muli arg2 c32_i32_2566
  let c24_i32 : BitVec 32 := 24#32
  let v6197 : BitVec 32 := Scalar.addi v6196 c24_i32
  let c1_i32_2567 : BitVec 32 := 1#32
  let v6198 : BitVec 32 := Scalar.subi v6197 c1_i32_2567
  let c0_i32_2568 : BitVec 32 := 0#32
  let v6199 : BitVec 32 := Scalar.maxsi v6198 c0_i32_2568
  let c128_i32_2569 : BitVec 32 := 128#32
  let v6200 : BitVec 32 := Scalar.muli v6199 c128_i32_2569
  v6200
def k0_mult26 (i : grid0.Coords) : BitVec 32 :=
  let arg2 : BitVec 32 := BitVec.ofNat 32 (i 2).val
  let c32_i32_2673 : BitVec 32 := 32#32
  let v6454 : BitVec 32 := Scalar.muli arg2 c32_i32_2673
  let c25_i32 : BitVec 32 := 25#32
  let v6455 : BitVec 32 := Scalar.addi v6454 c25_i32
  let c1_i32_2674 : BitVec 32 := 1#32
  let v6456 : BitVec 32 := Scalar.subi v6455 c1_i32_2674
  let c0_i32_2675 : BitVec 32 := 0#32
  let v6457 : BitVec 32 := Scalar.maxsi v6456 c0_i32_2675
  let c128_i32_2676 : BitVec 32 := 128#32
  let v6458 : BitVec 32 := Scalar.muli v6457 c128_i32_2676
  v6458
def k0_mult27 (i : grid0.Coords) : BitVec 32 :=
  let arg2 : BitVec 32 := BitVec.ofNat 32 (i 2).val
  let c32_i32_2780 : BitVec 32 := 32#32
  let v6712 : BitVec 32 := Scalar.muli arg2 c32_i32_2780
  let c26_i32 : BitVec 32 := 26#32
  let v6713 : BitVec 32 := Scalar.addi v6712 c26_i32
  let c1_i32_2781 : BitVec 32 := 1#32
  let v6714 : BitVec 32 := Scalar.subi v6713 c1_i32_2781
  let c0_i32_2782 : BitVec 32 := 0#32
  let v6715 : BitVec 32 := Scalar.maxsi v6714 c0_i32_2782
  let c128_i32_2783 : BitVec 32 := 128#32
  let v6716 : BitVec 32 := Scalar.muli v6715 c128_i32_2783
  v6716
def k0_mult28 (i : grid0.Coords) : BitVec 32 :=
  let arg2 : BitVec 32 := BitVec.ofNat 32 (i 2).val
  let c32_i32_2887 : BitVec 32 := 32#32
  let v6970 : BitVec 32 := Scalar.muli arg2 c32_i32_2887
  let c27_i32 : BitVec 32 := 27#32
  let v6971 : BitVec 32 := Scalar.addi v6970 c27_i32
  let c1_i32_2888 : BitVec 32 := 1#32
  let v6972 : BitVec 32 := Scalar.subi v6971 c1_i32_2888
  let c0_i32_2889 : BitVec 32 := 0#32
  let v6973 : BitVec 32 := Scalar.maxsi v6972 c0_i32_2889
  let c128_i32_2890 : BitVec 32 := 128#32
  let v6974 : BitVec 32 := Scalar.muli v6973 c128_i32_2890
  v6974
def k0_mult29 (i : grid0.Coords) : BitVec 32 :=
  let arg2 : BitVec 32 := BitVec.ofNat 32 (i 2).val
  let c32_i32_2994 : BitVec 32 := 32#32
  let v7228 : BitVec 32 := Scalar.muli arg2 c32_i32_2994
  let c28_i32 : BitVec 32 := 28#32
  let v7229 : BitVec 32 := Scalar.addi v7228 c28_i32
  let c1_i32_2995 : BitVec 32 := 1#32
  let v7230 : BitVec 32 := Scalar.subi v7229 c1_i32_2995
  let c0_i32_2996 : BitVec 32 := 0#32
  let v7231 : BitVec 32 := Scalar.maxsi v7230 c0_i32_2996
  let c128_i32_2997 : BitVec 32 := 128#32
  let v7232 : BitVec 32 := Scalar.muli v7231 c128_i32_2997
  v7232
def k0_mult30 (i : grid0.Coords) : BitVec 32 :=
  let arg2 : BitVec 32 := BitVec.ofNat 32 (i 2).val
  let c32_i32_3101 : BitVec 32 := 32#32
  let v7486 : BitVec 32 := Scalar.muli arg2 c32_i32_3101
  let c29_i32 : BitVec 32 := 29#32
  let v7487 : BitVec 32 := Scalar.addi v7486 c29_i32
  let c1_i32_3102 : BitVec 32 := 1#32
  let v7488 : BitVec 32 := Scalar.subi v7487 c1_i32_3102
  let c0_i32_3103 : BitVec 32 := 0#32
  let v7489 : BitVec 32 := Scalar.maxsi v7488 c0_i32_3103
  let c128_i32_3104 : BitVec 32 := 128#32
  let v7490 : BitVec 32 := Scalar.muli v7489 c128_i32_3104
  v7490
def k0_mult31 (i : grid0.Coords) : BitVec 32 :=
  let arg2 : BitVec 32 := BitVec.ofNat 32 (i 2).val
  let c32_i32_3208 : BitVec 32 := 32#32
  let v7744 : BitVec 32 := Scalar.muli arg2 c32_i32_3208
  let c30_i32 : BitVec 32 := 30#32
  let v7745 : BitVec 32 := Scalar.addi v7744 c30_i32
  let c1_i32_3209 : BitVec 32 := 1#32
  let v7746 : BitVec 32 := Scalar.subi v7745 c1_i32_3209
  let c0_i32_3210 : BitVec 32 := 0#32
  let v7747 : BitVec 32 := Scalar.maxsi v7746 c0_i32_3210
  let c128_i32_3211 : BitVec 32 := 128#32
  let v7748 : BitVec 32 := Scalar.muli v7747 c128_i32_3211
  v7748
def k0_mult32 (i : grid0.Coords) : BitVec 32 :=
  let arg2 : BitVec 32 := BitVec.ofNat 32 (i 2).val
  let c32_i32_3315 : BitVec 32 := 32#32
  let v8002 : BitVec 32 := Scalar.muli arg2 c32_i32_3315
  let c31_i32 : BitVec 32 := 31#32
  let v8003 : BitVec 32 := Scalar.addi v8002 c31_i32
  let c1_i32_3316 : BitVec 32 := 1#32
  let v8004 : BitVec 32 := Scalar.subi v8003 c1_i32_3316
  let c0_i32_3317 : BitVec 32 := 0#32
  let v8005 : BitVec 32 := Scalar.maxsi v8004 c0_i32_3317
  let c128_i32_3318 : BitVec 32 := 128#32
  let v8006 : BitVec 32 := Scalar.muli v8005 c128_i32_3318
  v8006
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S2x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "inv_ln2" => some (((Real.log 2)⁻¹ : ℝ) : EReal)
  | "mask" => some ⊥
  | _ => none
-- ==== ReferenceIdeal.lean ====
abbrev S16x4096x512 : Shape := ⟨3, ![16, 4096, 512]⟩
abbrev S16x4096x8x64 : Shape := ⟨4, ![16, 4096, 8, 64]⟩
abbrev S16x8x4096x64 : Shape := ⟨4, ![16, 8, 4096, 64]⟩
abbrev S_ : Shape := ⟨0, ![]⟩
abbrev S16x8x4096x1x64 : Shape := ⟨5, ![16, 8, 4096, 1, 64]⟩
abbrev S16x8x1x4096x64 : Shape := ⟨5, ![16, 8, 1, 4096, 64]⟩
abbrev S16x8x1x32x128x64 : Shape := ⟨6, ![16, 8, 1, 32, 128, 64]⟩
abbrev S16x8x1x31x128x64 : Shape := ⟨6, ![16, 8, 1, 31, 128, 64]⟩
abbrev S16x8x1x32x256x64 : Shape := ⟨6, ![16, 8, 1, 32, 256, 64]⟩
abbrev S16x8x1x32x128x256 : Shape := ⟨6, ![16, 8, 1, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1 : Shape := ⟨1, ![1]⟩
abbrev S1x1x1x1 : Shape := ⟨4, ![1, 1, 1, 1]⟩
abbrev S32 : Shape := ⟨1, ![32]⟩
abbrev S1x32x1x1 : Shape := ⟨4, ![1, 32, 1, 1]⟩
abbrev S1x1x1x256 : Shape := ⟨4, ![1, 1, 1, 256]⟩
abbrev S1x32x1x256 : Shape := ⟨4, ![1, 32, 1, 256]⟩
abbrev S1x1x128x256 : Shape := ⟨4, ![1, 1, 128, 256]⟩
abbrev S1x32x128x256 : Shape := ⟨4, ![1, 32, 128, 256]⟩
abbrev S16x8x1x32x128 : Shape := ⟨5, ![16, 8, 1, 32, 128]⟩
abbrev S16x8x1x32x128x1 : Shape := ⟨6, ![16, 8, 1, 32, 128, 1]⟩
abbrev S16x8x1x4096 : Shape := ⟨4, ![16, 8, 1, 4096]⟩
abbrev S16x8x4096x1 : Shape := ⟨4, ![16, 8, 4096, 1]⟩
abbrev S16x8x4096 : Shape := ⟨3, ![16, 8, 4096]⟩
abbrev S16x4096x8 : Shape := ⟨3, ![16, 4096, 8]⟩
abbrev S16x4096x128 : Shape := ⟨3, ![16, 4096, 128]⟩

abbrev nBuf : Space → Nat
  | .hbm => 131
  | .vmem => 0
  | .smem => 0
  | _ => 0

abbrev hbmTy0_0 (i : Nat) : BufTy := match i % 128 with
  | 0 => ⟨S16x4096x512, .f32⟩
  | 1 => ⟨S16x4096x512, .f32⟩
  | 2 => ⟨S16x4096x512, .f32⟩
  | 3 => ⟨S16x4096x8x64, .f32⟩
  | 4 => ⟨S16x8x4096x64, .f32⟩
  | 5 => ⟨S16x4096x8x64, .f32⟩
  | 6 => ⟨S16x8x4096x64, .f32⟩
  | 7 => ⟨S16x4096x8x64, .f32⟩
  | 8 => ⟨S16x8x4096x64, .f32⟩
  | 9 => ⟨S_, .i32⟩
  | 10 => ⟨S_, .f32⟩
  | 11 => ⟨S16x8x4096x64, .f32⟩
  | 12 => ⟨S16x8x4096x1x64, .f32⟩
  | 13 => ⟨S16x8x1x4096x64, .f32⟩
  | 14 => ⟨S16x8x1x32x128x64, .f32⟩
  | 15 => ⟨S_, .i32⟩
  | 16 => ⟨S_, .f32⟩
  | 17 => ⟨S16x8x4096x64, .f32⟩
  | 18 => ⟨S16x8x4096x1x64, .f32⟩
  | 19 => ⟨S16x8x1x4096x64, .f32⟩
  | 20 => ⟨S16x8x1x32x128x64, .f32⟩
  | 21 => ⟨S_, .i32⟩
  | 22 => ⟨S_, .f32⟩
  | 23 => ⟨S16x8x4096x64, .f32⟩
  | 24 => ⟨S16x8x4096x1x64, .f32⟩
  | 25 => ⟨S16x8x1x4096x64, .f32⟩
  | 26 => ⟨S16x8x1x32x128x64, .f32⟩
  | 27 => ⟨S16x8x1x31x128x64, .f32⟩
  | 28 => ⟨S_, .i32⟩
  | 29 => ⟨S_, .f32⟩
  | 30 => ⟨S16x8x1x32x128x64, .f32⟩
  | 31 => ⟨S16x8x1x32x256x64, .f32⟩
  | 32 => ⟨S16x8x1x31x128x64, .f32⟩
  | 33 => ⟨S_, .i32⟩
  | 34 => ⟨S_, .f32⟩
  | 35 => ⟨S16x8x1x32x128x64, .f32⟩
  | 36 => ⟨S16x8x1x32x256x64, .f32⟩
  | 37 => ⟨S16x8x1x32x128x256, .f32⟩
  | 38 => ⟨S_, .f32⟩
  | 39 => ⟨S16x8x1x32x128x256, .f32⟩
  | 40 => ⟨S16x8x1x32x128x256, .f32⟩
  | 41 => ⟨S128, .i32⟩
  | 42 => ⟨S128x1, .i32⟩
  | 43 => ⟨S256, .i32⟩
  | 44 => ⟨S1x256, .i32⟩
  | 45 => ⟨S_, .i32⟩
  | 46 => ⟨S128x1, .i32⟩
  | 47 => ⟨S128x1, .i32⟩
  | 48 => ⟨S128x256, .i32⟩
  | 49 => ⟨S128x256, .i32⟩
  | 50 => ⟨S128x256, .i32⟩
  | 51 => ⟨S1, .i32⟩
  | 52 => ⟨S1x1x1x1, .i32⟩
  | 53 => ⟨S32, .i32⟩
  | 54 => ⟨S1x32x1x1, .i32⟩
  | 55 => ⟨S_, .i32⟩
  | 56 => ⟨S1x32x1x1, .i32⟩
  | 57 => ⟨S1x32x1x1, .i32⟩
  | 58 => ⟨S_, .i32⟩
  | 59 => ⟨S1x32x1x1, .i32⟩
  | 60 => ⟨S1x32x1x1, .i32⟩
  | 61 => ⟨S1x1x1x256, .i32⟩
  | 62 => ⟨S1x32x1x256, .i32⟩
  | 63 => ⟨S1x32x1x256, .i32⟩
  | 64 => ⟨S1x32x1x256, .i32⟩
  | 65 => ⟨S_, .i32⟩
  | 66 => ⟨S1x32x1x256, .i32⟩
  | 67 => ⟨S1x32x1x256, .i32⟩
  | 68 => ⟨S1x32x1x256, .i32⟩
  | 69 => ⟨S1x32x1x256, .i32⟩
  | 70 => ⟨S_, .i32⟩
  | 71 => ⟨S1x32x1x256, .i32⟩
  | 72 => ⟨S1x32x1x256, .i32⟩
  | 73 => ⟨S_, .i32⟩
  | 74 => ⟨S128x256, .i32⟩
  | 75 => ⟨S128x256, .i1⟩
  | 76 => ⟨S_, .i32⟩
  | 77 => ⟨S128x256, .i32⟩
  | 78 => ⟨S128x256, .i1⟩
  | 79 => ⟨S128x256, .i1⟩
  | 80 => ⟨S_, .i32⟩
  | 81 => ⟨S1x32x1x256, .i32⟩
  | 82 => ⟨S1x32x1x256, .i1⟩
  | 83 => ⟨S1x1x128x256, .i1⟩
  | 84 => ⟨S1x32x128x256, .i1⟩
  | 85 => ⟨S1x32x128x256, .i1⟩
  | 86 => ⟨S1x32x128x256, .i1⟩
  | 87 => ⟨S_, .f32⟩
  | 88 => ⟨S_, .f32⟩
  | 89 => ⟨S16x8x1x32x128x256, .i1⟩
  | 90 => ⟨S16x8x1x32x128x256, .f32⟩
  | 91 => ⟨S16x8x1x32x128x256, .f32⟩
  | 92 => ⟨S_, .f32⟩
  | 93 => ⟨S16x8x1x32x128, .f32⟩
  | 94 => ⟨S16x8x1x32x128x1, .f32⟩
  | 95 => ⟨S16x8x1x32x128x256, .f32⟩
  | 96 => ⟨S16x8x1x32x128x256, .f32⟩
  | 97 => ⟨S16x8x1x32x128x256, .f32⟩
  | 98 => ⟨S_, .f32⟩
  | 99 => ⟨S_, .f32⟩
  | 100 => ⟨S16x8x1x32x128x256, .i1⟩
  | 101 => ⟨S16x8x1x32x128x256, .f32⟩
  | 102 => ⟨S16x8x1x32x128x256, .f32⟩
  | 103 => ⟨S_, .f32⟩
  | 104 => ⟨S16x8x1x32x128, .f32⟩
  | 105 => ⟨S16x8x1x32x128x64, .f32⟩
  | 106 => ⟨S16x8x1x4096, .f32⟩
  | 107 => ⟨S16x8x4096x1, .f32⟩
  | 108 => ⟨S16x8x4096, .f32⟩
  | 109 => ⟨S16x8x1x4096, .f32⟩
  | 110 => ⟨S16x8x4096x1, .f32⟩
  | 111 => ⟨S16x8x4096, .f32⟩
  | 112 => ⟨S16x8x1x4096x64, .f32⟩
  | 113 => ⟨S16x8x4096x1x64, .f32⟩
  | 114 => ⟨S16x8x4096x64, .f32⟩
  | 115 => ⟨S16x8x4096x1, .f32⟩
  | 116 => ⟨S16x8x4096x64, .f32⟩
  | 117 => ⟨S16x8x4096x64, .f32⟩
  | 118 => ⟨S16x4096x8x64, .f32⟩
  | 119 => ⟨S16x4096x512, .f32⟩
  | 120 => ⟨S16x4096x512, .bf16⟩
  | 121 => ⟨S16x8x4096, .f32⟩
  | 122 => ⟨S16x8x4096, .f32⟩
  | 123 => ⟨S_, .f32⟩
  | 124 => ⟨S_, .f32⟩
  | 125 => ⟨S16x8x4096, .f32⟩
  | 126 => ⟨S16x8x4096, .f32⟩
  | 127 => ⟨S16x4096x8, .f32⟩
  | _ => ⟨S16x4096x512, .f32⟩

abbrev hbmTy0_1 (i : Nat) : BufTy := match i % 128 with
  | 0 => ⟨S_, .i32⟩
  | 1 => ⟨S_, .f32⟩
  | 2 => ⟨S16x4096x128, .f32⟩
  | _ => ⟨S16x4096x512, .f32⟩

abbrev hbmTy (i : Nat) : BufTy := match i / 128 with
  | 0 => hbmTy0_0 i
  | 1 => hbmTy0_1 i
  | _ => ⟨S16x4096x512, .f32⟩

abbrev bufTy : (tb : Table) → Fin (tcTables nBuf tb) → BufTy
  | .hbm, ⟨i, _⟩ => hbmTy i
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_call2_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_call3_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_call4_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_5 : Ref sig .tc := ⟨.hbm, 55, rfl⟩
abbrev main_v40 : Ref sig .tc := ⟨.hbm, 56, rfl⟩
abbrev main_v41 : Ref sig .tc := ⟨.hbm, 57, rfl⟩
abbrev main_c_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_8 : Ref sig .tc := ⟨.hbm, 70, rfl⟩
abbrev main_v52 : Ref sig .tc := ⟨.hbm, 71, rfl⟩
abbrev main_v53 : Ref sig .tc := ⟨.hbm, 72, rfl⟩
abbrev main_c_9 : Ref sig .tc := ⟨.hbm, 73, rfl⟩
abbrev main_v54 : Ref sig .tc := ⟨.hbm, 74, rfl⟩
abbrev main_v55 : Ref sig .tc := ⟨.hbm, 75, rfl⟩
abbrev main_c_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_call6_v0 : Ref sig .tc := ⟨.hbm, 99, rfl⟩
abbrev main_call6_v1 : Ref sig .tc := ⟨.hbm, 100, rfl⟩
abbrev main_call6_v2 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_16 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_c_17 : Ref sig .tc := ⟨.hbm, 128, rfl⟩
abbrev main_call7_v0 : Ref sig .tc := ⟨.hbm, 129, rfl⟩
abbrev main_v95 : Ref sig .tc := ⟨.hbm, 130, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x4096x512 : Shape := ⟨3, ![16, 4096, 512]⟩
abbrev S16x4096x128 : Shape := ⟨3, ![16, 4096, 128]⟩
abbrev S1x16x4096x256 : Shape := ⟨4, ![1, 16, 4096, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1024 : Shape := ⟨1, ![1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S65536x512 : Shape := ⟨2, ![65536, 512]⟩
abbrev S16384x2048 : Shape := ⟨2, ![16384, 2048]⟩
abbrev S4096x8192 : Shape := ⟨2, ![4096, 8192]⟩
abbrev S65536x128 : Shape := ⟨2, ![65536, 128]⟩
abbrev S16384x512 : Shape := ⟨2, ![16384, 512]⟩
abbrev S4096x2048 : Shape := ⟨2, ![4096, 2048]⟩
abbrev S65536x1024 : Shape := ⟨2, ![65536, 1024]⟩
abbrev S16x4096x256 : Shape := ⟨3, ![16, 4096, 256]⟩
abbrev S65536x256 : Shape := ⟨2, ![65536, 256]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S256x1024 : Shape := ⟨2, ![256, 1024]⟩
abbrev S512 : Shape := ⟨1, ![512]⟩
abbrev S1x512 : Shape := ⟨2, ![1, 512]⟩
abbrev S_ : Shape := ⟨0, ![]⟩
abbrev S128 : Shape := ⟨1, ![128]⟩
abbrev S128x1 : Shape := ⟨2, ![128, 1]⟩
abbrev S128x512 : Shape := ⟨2, ![128, 512]⟩
abbrev S512x512 : Shape := ⟨2, ![512, 512]⟩
abbrev S128x2048 : Shape := ⟨2, ![128, 2048]⟩
abbrev S32x8192 : Shape := ⟨2, ![32, 8192]⟩
abbrev S512x128 : Shape := ⟨2, ![512, 128]⟩
abbrev S32x2048 : Shape := ⟨2, ![32, 2048]⟩
abbrev S512x256 : Shape := ⟨2, ![512, 256]⟩
abbrev S2x4x512x128 : Shape := ⟨4, ![2, 4, 512, 128]⟩
abbrev S2x1x512x128 : Shape := ⟨4, ![2, 1, 512, 128]⟩
abbrev S128x128 : Shape := ⟨2, ![128, 128]⟩
abbrev S1x1x512x128 : Shape := ⟨4, ![1, 1, 512, 128]⟩
abbrev S1x512x128 : Shape := ⟨3, ![1, 512, 128]⟩
abbrev S1x128x128 : Shape := ⟨3, ![1, 128, 128]⟩
abbrev S32x128 : Shape := ⟨2, ![32, 128]⟩
abbrev S1x32x128 : Shape := ⟨3, ![1, 32, 128]⟩
abbrev S1x4x512x128 : Shape := ⟨4, ![1, 4, 512, 128]⟩
abbrev S4x512x128 : Shape := ⟨3, ![4, 512, 128]⟩
abbrev S512x1 : Shape := ⟨2, ![512, 1]⟩
abbrev S1024x256 : Shape := ⟨2, ![1024, 256]⟩

abbrev nBuf : Space → Nat
  | .hbm => 90
  | .vmem => 37
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S16x4096x512, .f32⟩
  | .hbm, ⟨4, _⟩ => ⟨S16x4096x128, .f32⟩
  | .hbm, ⟨5, _⟩ => ⟨S16x4096x128, .f32⟩
  | .hbm, ⟨6, _⟩ => ⟨S16x4096x128, .f32⟩
  | .hbm, ⟨7, _⟩ => ⟨S16x4096x512, .f32⟩
  | .hbm, ⟨8, _⟩ => ⟨S16x4096x1024, .f32⟩
  | .hbm, ⟨9, _⟩ => ⟨S16x4096x1024, .f32⟩
  | .hbm, ⟨10, _⟩ => ⟨S1x16x4096x256, .f32⟩
  | .hbm, ⟨11, _⟩ => ⟨S1x512x1024, .f32⟩
  | .hbm, ⟨12, _⟩ => ⟨S1x512x1024, .f32⟩
  | .hbm, ⟨13, _⟩ => ⟨S1x1024x1024, .f32⟩
  | .hbm, ⟨14, _⟩ => ⟨S1x1024, .f32⟩
  | .hbm, ⟨15, _⟩ => ⟨S1x1024, .f32⟩
  | .hbm, ⟨16, _⟩ => ⟨S1024, .f32⟩
  | .hbm, ⟨17, _⟩ => ⟨S1x1024x5632, .f32⟩
  | .hbm, ⟨18, _⟩ => ⟨S1x2816x1024, .f32⟩
  | .hbm, ⟨19, _⟩ => ⟨S1x256x1024, .f32⟩
  | .hbm, ⟨20, _⟩ => ⟨S1x1024x1024, .f32⟩
  | .hbm, ⟨21, _⟩ => ⟨S16x4096x512, .bf16⟩
  | .hbm, ⟨22, _⟩ => ⟨S65536x512, .bf16⟩
  | .hbm, ⟨23, _⟩ => ⟨S16x4096x512, .bf16⟩
  | .hbm, ⟨24, _⟩ => ⟨S16384x2048, .bf16⟩
  | .hbm, ⟨25, _⟩ => ⟨S16x4096x512, .bf16⟩
  | .hbm, ⟨26, _⟩ => ⟨S4096x8192, .bf16⟩
  | .hbm, ⟨27, _⟩ => ⟨S65536x128, .f32⟩
  | .hbm, ⟨28, _⟩ => ⟨S16384x512, .f32⟩
  | .hbm, ⟨29, _⟩ => ⟨S4096x2048, .f32⟩
  | .hbm, ⟨30, _⟩ => ⟨S65536x1024, .f32⟩
  | .hbm, ⟨31, _⟩ => ⟨S16x4096x512, .bf16⟩
  | .hbm, ⟨32, _⟩ => ⟨S65536x512, .bf16⟩
  | .hbm, ⟨33, _⟩ => ⟨S16x4096x1024, .bf16⟩
  | .hbm, ⟨34, _⟩ => ⟨S65536x1024, .bf16⟩
  | .hbm, ⟨35, _⟩ => ⟨S16x4096x1024, .bf16⟩
  | .hbm, ⟨36, _⟩ => ⟨S65536x1024, .bf16⟩
  | .hbm, ⟨37, _⟩ => ⟨S16x4096x256, .f32⟩
  | .hbm, ⟨38, _⟩ => ⟨S65536x256, .f32⟩
  | .hbm, ⟨39, _⟩ => ⟨S512x1024, .f32⟩
  | .hbm, ⟨40, _⟩ => ⟨S512x1024, .bf16⟩
  | .hbm, ⟨41, _⟩ => ⟨S512x1024, .f32⟩
  | .hbm, ⟨42, _⟩ => ⟨S512x1024, .bf16⟩
  | .hbm, ⟨43, _⟩ => ⟨S1024x1024, .f32⟩
  | .hbm, ⟨44, _⟩ => ⟨S1024x1024, .bf16⟩
  | .hbm, ⟨45, _⟩ => ⟨S1024, .f32⟩
  | .hbm, ⟨46, _⟩ => ⟨S1x1024, .f32⟩
  | .hbm, ⟨47, _⟩ => ⟨S1024, .f32⟩
  | .hbm, ⟨48, _⟩ => ⟨S1x1024, .f32⟩
  | .hbm, ⟨49, _⟩ => ⟨S1x1024, .f32⟩
  | .hbm, ⟨50, _⟩ => ⟨S1024x5632, .f32⟩
  | .hbm, ⟨51, _⟩ => ⟨S1024x5632, .bf16⟩
  | .hbm, ⟨52, _⟩ => ⟨S2816x1024, .f32⟩
  | .hbm, ⟨53, _⟩ => ⟨S2816x1024, .bf16⟩
  | .hbm, ⟨54, _⟩ => ⟨S256x1024, .f32⟩
  | .hbm, ⟨55, _⟩ => ⟨S256x1024, .bf16⟩
  | .hbm, ⟨56, _⟩ => ⟨S1024x1024, .f32⟩
  | .hbm, ⟨57, _⟩ => ⟨S1024x1024, .bf16⟩
  | .hbm, ⟨58, _⟩ => ⟨S512, .i32⟩
  | .hbm, ⟨59, _⟩ => ⟨S1x512, .i32⟩
  | .hbm, ⟨60, _⟩ => ⟨S_, .i32⟩
  | .hbm, ⟨61, _⟩ => ⟨S_, .i32⟩
  | .hbm, ⟨62, _⟩ => ⟨S1x512, .i32⟩
  | .hbm, ⟨63, _⟩ => ⟨S1x512, .i32⟩
  | .hbm, ⟨64, _⟩ => ⟨S1x512, .i32⟩
  | .hbm, ⟨65, _⟩ => ⟨S_, .i32⟩
  | .hbm, ⟨66, _⟩ => ⟨S1x512, .i32⟩
  | .hbm, ⟨67, _⟩ => ⟨S1x512, .i1⟩
  | .hbm, ⟨68, _⟩ => ⟨S1x512, .i32⟩
  | .hbm, ⟨69, _⟩ => ⟨S1x512, .i32⟩
  | .hbm, ⟨70, _⟩ => ⟨S_, .i32⟩
  | .hbm, ⟨71, _⟩ => ⟨S1x512, .i32⟩
  | .hbm, ⟨72, _⟩ => ⟨S1x512, .i1⟩
  | .hbm, ⟨73, _⟩ => ⟨S1x512, .i1⟩
  | .hbm, ⟨74, _⟩ => ⟨S_, .i32⟩
  | .hbm, ⟨75, _⟩ => ⟨S1x512, .i32⟩
  | .hbm, ⟨76, _⟩ => ⟨S1x512, .i32⟩
  | .hbm, ⟨77, _⟩ => ⟨S1x512, .i32⟩
  | .hbm, ⟨78, _⟩ => ⟨S128, .i32⟩
  | .hbm, ⟨79, _⟩ => ⟨S128x1, .i32⟩
  | .hbm, ⟨80, _⟩ => ⟨S128x512, .i32⟩
  | .hbm, ⟨81, _⟩ => ⟨S128x512, .i32⟩
  | .hbm, ⟨82, _⟩ => ⟨S128x512, .i1⟩
  | .hbm, ⟨83, _⟩ => ⟨S_, .f32⟩
  | .hbm, ⟨84, _⟩ => ⟨S_, .f32⟩
  | .hbm, ⟨85, _⟩ => ⟨S128x512, .f32⟩
  | .hbm, ⟨86, _⟩ => ⟨S128x512, .f32⟩
  | .hbm, ⟨87, _⟩ => ⟨S128x512, .f32⟩
  | .hbm, ⟨88, _⟩ => ⟨S128x512, .bf16⟩
  | .hbm, ⟨89, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S128x2048, .bf16⟩
  | .local _ .vmem, ⟨5, _⟩ => ⟨S128x2048, .bf16⟩
  | .local _ .vmem, ⟨6, _⟩ => ⟨S32x8192, .bf16⟩
  | .local _ .vmem, ⟨7, _⟩ => ⟨S32x8192, .bf16⟩
  | .local _ .vmem, ⟨8, _⟩ => ⟨S512x128, .f32⟩
  | .local _ .vmem, ⟨9, _⟩ => ⟨S512x128, .f32⟩
  | .local _ .vmem, ⟨10, _⟩ => ⟨S128x512, .f32⟩
  | .local _ .vmem, ⟨11, _⟩ => ⟨S128x512, .f32⟩
  | .local _ .vmem, ⟨12, _⟩ => ⟨S32x2048, .f32⟩
  | .local _ .vmem, ⟨13, _⟩ => ⟨S32x2048, .f32⟩
  | .local _ .vmem, ⟨14, _⟩ => ⟨S512x512, .bf16⟩
  | .local _ .vmem, ⟨15, _⟩ => ⟨S512x512, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x256, .f32⟩
  | .local _ .vmem, ⟨21, _⟩ => ⟨S512x256, .f32⟩
  | .local _ .vmem, ⟨22, _⟩ => ⟨S128x512, .bf16⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1024x5632, .bf16⟩
  | .local _ .vmem, ⟨30, _⟩ => ⟨S2816x1024, .bf16⟩
  | .local _ .vmem, ⟨31, _⟩ => ⟨S256x1024, .bf16⟩
  | .local _ .vmem, ⟨32, _⟩ => ⟨S1024x1024, .bf16⟩
  | .local _ .vmem, ⟨33, _⟩ => ⟨S512x1024, .f32⟩
  | .local _ .vmem, ⟨34, _⟩ => ⟨S512x1024, .f32⟩
  | .local _ .vmem, ⟨35, _⟩ => ⟨S2x4x512x128, .f32⟩
  | .local _ .vmem, ⟨36, _⟩ => ⟨S2x1x512x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_v8 : Ref sig .tc := ⟨.hbm, 69, rfl⟩
abbrev main_call0_c : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_c_0 : Ref sig .tc := ⟨.hbm, 74, rfl⟩
abbrev main_call0_v12 : Ref sig .tc := ⟨.hbm, 75, rfl⟩
abbrev main_call0_v13 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst : Ref sig .tc := ⟨.hbm, 83, rfl⟩
abbrev main_cst_0 : Ref sig .tc := ⟨.hbm, 84, rfl⟩
abbrev main_call1_v0 : Ref sig .tc := ⟨.hbm, 85, rfl⟩
abbrev main_call1_v1 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg22_1 : Ref sig .tc := ⟨.vmem, 34, rfl⟩
abbrev cc0_scratch0 : Ref sig .tc := ⟨.vmem, 35, rfl⟩
abbrev cc0_scratch1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem22_0 : DmaSem sig := 33
abbrev cc0_sem22_1 : DmaSem sig := 34

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x5632 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2816x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference2Ideal.lean ====
abbrev S16x4096x1024 : Shape := ⟨3, ![16, 4096, 1024]⟩
abbrev S16x4096x512 : Shape := ⟨3, ![16, 4096, 512]⟩
abbrev S16x4096x128 : Shape := ⟨3, ![16, 4096, 128]⟩
abbrev S1x16x4096x256 : Shape := ⟨4, ![1, 16, 4096, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1024 : Shape := ⟨1, ![1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S1x16x4096x128 : Shape := ⟨4, ![1, 16, 4096, 128]⟩
abbrev S3x16x4096x128 : Shape := ⟨4, ![3, 16, 4096, 128]⟩
abbrev S3x16x4096x8 : Shape := ⟨4, ![3, 16, 4096, 8]⟩
abbrev S_ : Shape := ⟨0, ![]⟩
abbrev S1x16x4096x512 : Shape := ⟨4, ![1, 16, 4096, 512]⟩
abbrev S3x16x4096x512 : Shape := ⟨4, ![3, 16, 4096, 512]⟩
abbrev S3x16x4096x8x64 : Shape := ⟨5, ![3, 16, 4096, 8, 64]⟩
abbrev S16x4096x8 : Shape := ⟨3, ![16, 4096, 8]⟩
abbrev S1x16x4096x8 : Shape := ⟨4, ![1, 16, 4096, 8]⟩
abbrev S3x16x4096x8x1 : Shape := ⟨5, ![3, 16, 4096, 8, 1]⟩
abbrev S16x4096x8x64 : Shape := ⟨4, ![16, 4096, 8, 64]⟩
abbrev S512x1024 : Shape := ⟨2, ![512, 1024]⟩
abbrev S1024x1024 : Shape := ⟨2, ![1024, 1024]⟩
abbrev S16x4096 : Shape := ⟨2, ![16, 4096]⟩
abbrev S16x4096x1 : Shape := ⟨3, ![16, 4096, 1]⟩
abbrev S1x1x1024 : Shape := ⟨3, ![1, 1, 1024]⟩
abbrev S1024x5632 : Shape := ⟨2, ![1024, 5632]⟩
abbrev S16x4096x5632 : Shape := ⟨3, ![16, 4096, 5632]⟩
abbrev S16x4096x2816 : Shape := ⟨3, ![16, 4096, 2816]⟩
abbrev S2816x1024 : Shape := ⟨2, ![2816, 1024]⟩
abbrev S16x4096x256 : Shape := ⟨3, ![16, 4096, 256]⟩
abbrev S256x1024 : Shape := ⟨2, ![256, 1024]⟩
abbrev S65536x1024 : Shape := ⟨2, ![65536, 1024]⟩

abbrev nBuf : Space → Nat
  | .hbm => 148
  | .vmem => 0
  | .smem => 0
  | _ => 0

abbrev hbmTy0_0 (i : Nat) : BufTy := match i % 128 with
  | 0 => ⟨S16x4096x1024, .f32⟩
  | 1 => ⟨S16x4096x512, .f32⟩
  | 2 => ⟨S16x4096x512, .f32⟩
  | 3 => ⟨S16x4096x512, .f32⟩
  | 4 => ⟨S16x4096x128, .f32⟩
  | 5 => ⟨S16x4096x128, .f32⟩
  | 6 => ⟨S16x4096x128, .f32⟩
  | 7 => ⟨S16x4096x512, .f32⟩
  | 8 => ⟨S16x4096x1024, .f32⟩
  | 9 => ⟨S16x4096x1024, .f32⟩
  | 10 => ⟨S1x16x4096x256, .f32⟩
  | 11 => ⟨S1x512x1024, .f32⟩
  | 12 => ⟨S1x512x1024, .f32⟩
  | 13 => ⟨S1x1024x1024, .f32⟩
  | 14 => ⟨S1x1024, .f32⟩
  | 15 => ⟨S1x1024, .f32⟩
  | 16 => ⟨S1024, .f32⟩
  | 17 => ⟨S1x1024x5632, .f32⟩
  | 18 => ⟨S1x2816x1024, .f32⟩
  | 19 => ⟨S1x256x1024, .f32⟩
  | 20 => ⟨S1x1024x1024, .f32⟩
  | 21 => ⟨S1x16x4096x128, .f32⟩
  | 22 => ⟨S1x16x4096x128, .f32⟩
  | 23 => ⟨S1x16x4096x128, .f32⟩
  | 24 => ⟨S3x16x4096x128, .f32⟩
  | 25 => ⟨S3x16x4096x8, .f32⟩
  | 26 => ⟨S_, .f32⟩
  | 27 => ⟨S_, .f32⟩
  | 28 => ⟨S3x16x4096x8, .f32⟩
  | 29 => ⟨S3x16x4096x8, .f32⟩
  | 30 => ⟨S1x16x4096x512, .f32⟩
  | 31 => ⟨S1x16x4096x512, .f32⟩
  | 32 => ⟨S1x16x4096x512, .f32⟩
  | 33 => ⟨S3x16x4096x512, .f32⟩
  | 34 => ⟨S3x16x4096x8x64, .f32⟩
  | 35 => ⟨S_, .f32⟩
  | 36 => ⟨S16x4096x8, .f32⟩
  | 37 => ⟨S1x16x4096x8, .f32⟩
  | 38 => ⟨S3x16x4096x8, .f32⟩
  | 39 => ⟨S3x16x4096x8, .f32⟩
  | 40 => ⟨S3x16x4096x8, .f32⟩
  | 41 => ⟨S_, .f32⟩
  | 42 => ⟨S16x4096x8, .f32⟩
  | 43 => ⟨S1x16x4096x8, .f32⟩
  | 44 => ⟨S_, .f32⟩
  | 45 => ⟨S1x16x4096x8, .f32⟩
  | 46 => ⟨S1x16x4096x8, .f32⟩
  | 47 => ⟨S3x16x4096x8, .f32⟩
  | 48 => ⟨S3x16x4096x8, .f32⟩
  | 49 => ⟨S3x16x4096x8x1, .f32⟩
  | 50 => ⟨S3x16x4096x8x64, .f32⟩
  | 51 => ⟨S3x16x4096x8x64, .f32⟩
  | 52 => ⟨S_, .f32⟩
  | 53 => ⟨S16x4096x8x64, .f32⟩
  | 54 => ⟨S16x4096x512, .f32⟩
  | 55 => ⟨S512x1024, .f32⟩
  | 56 => ⟨S16x4096x1024, .f32⟩
  | 57 => ⟨S16x4096x1024, .f32⟩
  | 58 => ⟨S512x1024, .f32⟩
  | 59 => ⟨S16x4096x1024, .f32⟩
  | 60 => ⟨S16x4096x1024, .f32⟩
  | 61 => ⟨S16x4096x1024, .f32⟩
  | 62 => ⟨S1024x1024, .f32⟩
  | 63 => ⟨S16x4096x1024, .f32⟩
  | 64 => ⟨S16x4096x1024, .f32⟩
  | 65 => ⟨S1024, .f32⟩
  | 66 => ⟨S16x4096x1024, .f32⟩
  | 67 => ⟨S_, .f32⟩
  | 68 => ⟨S16x4096, .f32⟩
  | 69 => ⟨S16x4096x1, .f32⟩
  | 70 => ⟨S_, .f32⟩
  | 71 => ⟨S16x4096x1, .f32⟩
  | 72 => ⟨S16x4096x1, .f32⟩
  | 73 => ⟨S_, .f32⟩
  | 74 => ⟨S16x4096x1, .f32⟩
  | 75 => ⟨S16x4096x1, .f32⟩
  | 76 => ⟨S16x4096x1, .f32⟩
  | 77 => ⟨S16x4096x1024, .f32⟩
  | 78 => ⟨S16x4096x1024, .f32⟩
  | 79 => ⟨S1x1x1024, .f32⟩
  | 80 => ⟨S16x4096x1024, .f32⟩
  | 81 => ⟨S16x4096x1024, .f32⟩
  | 82 => ⟨S1024x5632, .f32⟩
  | 83 => ⟨S16x4096x5632, .f32⟩
  | 84 => ⟨S16x4096x2816, .f32⟩
  | 85 => ⟨S16x4096x2816, .f32⟩
  | 86 => ⟨S16x4096x2816, .f32⟩
  | 87 => ⟨S16x4096x2816, .f32⟩
  | 88 => ⟨S_, .f32⟩
  | 89 => ⟨S16x4096x2816, .f32⟩
  | 90 => ⟨S16x4096x2816, .f32⟩
  | 91 => ⟨S_, .f32⟩
  | 92 => ⟨S16x4096x2816, .f32⟩
  | 93 => ⟨S16x4096x2816, .f32⟩
  | 94 => ⟨S16x4096x2816, .f32⟩
  | 95 => ⟨S16x4096x2816, .f32⟩
  | 96 => ⟨S2816x1024, .f32⟩
  | 97 => ⟨S16x4096x1024, .f32⟩
  | 98 => ⟨S16x4096x1024, .f32⟩
  | 99 => ⟨S1024, .f32⟩
  | 100 => ⟨S16x4096x1024, .f32⟩
  | 101 => ⟨S_, .f32⟩
  | 102 => ⟨S16x4096, .f32⟩
  | 103 => ⟨S16x4096x1, .f32⟩
  | 104 => ⟨S_, .f32⟩
  | 105 => ⟨S16x4096x1, .f32⟩
  | 106 => ⟨S16x4096x1, .f32⟩
  | 107 => ⟨S_, .f32⟩
  | 108 => ⟨S16x4096x1, .f32⟩
  | 109 => ⟨S16x4096x1, .f32⟩
  | 110 => ⟨S16x4096x1, .f32⟩
  | 111 => ⟨S16x4096x1024, .f32⟩
  | 112 => ⟨S16x4096x1024, .f32⟩
  | 113 => ⟨S1x1x1024, .f32⟩
  | 114 => ⟨S16x4096x1024, .f32⟩
  | 115 => ⟨S16x4096x1024, .f32⟩
  | 116 => ⟨S16x4096x256, .f32⟩
  | 117 => ⟨S256x1024, .f32⟩
  | 118 => ⟨S16x4096x1024, .f32⟩
  | 119 => ⟨S1024x1024, .f32⟩
  | 120 => ⟨S16x4096x1024, .f32⟩
  | 121 => ⟨S16x4096x1024, .f32⟩
  | 122 => ⟨S16x4096x1024, .f32⟩
  | 123 => ⟨S_, .f32⟩
  | 124 => ⟨S16x4096x1024, .f32⟩
  | 125 => ⟨S16x4096x1024, .f32⟩
  | 126 => ⟨S_, .f32⟩
  | 127 => ⟨S16x4096x1024, .f32⟩
  | _ => ⟨S16x4096x1024, .f32⟩

abbrev hbmTy0_1 (i : Nat) : BufTy := match i % 128 with
  | 0 => ⟨S16x4096x1024, .f32⟩
  | 1 => ⟨S16x4096x1024, .f32⟩
  | 2 => ⟨S16x4096x1024, .f32⟩
  | 3 => ⟨S16x4096x1024, .f32⟩
  | 4 => ⟨S_, .f32⟩
  | 5 => ⟨S16x4096, .f32⟩
  | 6 => ⟨S16x4096x1, .f32⟩
  | 7 => ⟨S_, .f32⟩
  | 8 => ⟨S16x4096x1, .f32⟩
  | 9 => ⟨S16x4096x1, .f32⟩
  | 10 => ⟨S_, .f32⟩
  | 11 => ⟨S16x4096x1, .f32⟩
  | 12 => ⟨S16x4096x1, .f32⟩
  | 13 => ⟨S16x4096x1, .f32⟩
  | 14 => ⟨S16x4096x1024, .f32⟩
  | 15 => ⟨S16x4096x1024, .f32⟩
  | 16 => ⟨S1x1x1024, .f32⟩
  | 17 => ⟨S16x4096x1024, .f32⟩
  | 18 => ⟨S16x4096x1024, .f32⟩
  | 19 => ⟨S65536x1024, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_v19 : Ref sig .tc := ⟨.hbm, 43, rfl⟩
abbrev main_cst_2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call0_v0 : Ref sig .tc := ⟨.hbm, 86, rfl⟩
abbrev main_call0_v1 : Ref sig .tc := ⟨.hbm, 87, rfl⟩
abbrev main_call0_cst : Ref sig .tc := ⟨.hbm, 88, rfl⟩
abbrev main_call0_v2 : Ref sig .tc := ⟨.hbm, 89, rfl⟩
abbrev main_call0_v3 : Ref sig .tc := ⟨.hbm, 90, rfl⟩
abbrev main_call0_cst_0 : Ref sig .tc := ⟨.hbm, 91, rfl⟩
abbrev main_call0_v4 : Ref sig .tc := ⟨.hbm, 92, rfl⟩
abbrev main_call0_v5 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_7 : Ref sig .tc := ⟨.hbm, 101, rfl⟩
abbrev main_v64 : Ref sig .tc := ⟨.hbm, 102, rfl⟩
abbrev main_v65 : Ref sig .tc := ⟨.hbm, 103, rfl⟩
abbrev main_cst_8 : Ref sig .tc := ⟨.hbm, 104, rfl⟩
abbrev main_v66 : Ref sig .tc := ⟨.hbm, 105, rfl⟩
abbrev main_v67 : Ref sig .tc := ⟨.hbm, 106, rfl⟩
abbrev main_cst_9 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_10 : Ref sig .tc := ⟨.hbm, 123, rfl⟩
abbrev main_v83 : Ref sig .tc := ⟨.hbm, 124, rfl⟩
abbrev main_v84 : Ref sig .tc := ⟨.hbm, 125, rfl⟩
abbrev main_cst_11 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_12 : Ref sig .tc := ⟨.hbm, 132, rfl⟩
abbrev main_v90 : Ref sig .tc := ⟨.hbm, 133, rfl⟩
abbrev main_v91 : Ref sig .tc := ⟨.hbm, 134, rfl⟩
abbrev main_cst_13 : Ref sig .tc := ⟨.hbm, 135, rfl⟩
abbrev main_v92 : Ref sig .tc := ⟨.hbm, 136, rfl⟩
abbrev main_v93 : Ref sig .tc := ⟨.hbm, 137, rfl⟩
abbrev main_cst_14 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩

abbrev nD : Nat := 1
abbrev τ : Topo := Topo.v7x

variable {F : FTy → Type} [FloatOps F]
-- ==== Proof.Unit.lean ====
/-
  One unit of the attention kernel — 128 queries of a sequence against a band of 256 keys — as functions of what the unit
  loads, and the unit's stores for every unit and head pair.
-/
module

public import proofs.«01_k».proof.Proof.Gen.KernelIdeal.Skeleton

@[expose] public section

noncomputable section

namespace Attn

open Idealize.ShloMosaic Idealize.ShloMosaic.TcCoe Cert.KernelIdeal Cert.KernelIdeal.Gen

variable {F : FTy → Type} [FloatOps F] [Named F]

/-- The lanes' numbers. -/
def lanes : IVec S128x128 32 := iota .tc S128x128 32 [1] iota_S128x128_d1_w32

/-- The lanes of a pair's first head. -/
def lowHalf : IVec S128x128 1 := cmpi .slt lanes (broadcast S128x128 64#32)

/-- The lanes of a pair's head `h`. -/
def half : Bool → IVec S128x128 1
  | false => lowHalf
  | true => xori lowHalf (constantI S128x128 1 1#1)

/-- A block's share of the mask. -/
def maskOf (b : Vec F S1x128x256 .f32) : FVec F S128x256 .f32 :=
  mulf (shapeCast S128x256 b shapeCasts_S1x128x256_S128x256) (broadcast S128x256 (Named.named κ "mask" 0xF149F2CA#32))

/-- The scores of head `h` of a pair. -/
def scores (h : Bool) (b : Vec F S1x128x256 .f32) (q : Vec F S1x128x128 .bf16) (k : Vec F S1x256x128 .bf16) : FVec F S128x256 .f32 :=
  addf (matmul dot_S128x128_S256x128_S128x256_1_1_0_0_n_n none
    (select (half h) (shapeCast S128x128 q shapeCasts_S1x128x128_S128x128) (broadcast S128x128 (Scalar.ofBits .bf16 0x0000#16)))
    (shapeCast S256x128 k shapeCasts_S1x256x128_S256x128) (constant S128x256 .f32 0x00000000#32)) (maskOf b)

/-- The greatest score of each query. -/
def rowMax (s : FVec F S128x256 .f32) : FVec F S128x1 .f32 :=
  shapeCast S128x1 (multiReduction .maximumf [1] S128 s 0xFF800000#32 reduces_S128x256_S128 (.inl rfl) rfl) shapeCasts_S128_S128x1

/-- The weighted sums of the values, and in the other lanes of the weights. -/
def wsum (s : FVec F S128x256 .f32) (v : Vec F S1x256x128 .bf16) : FVec F S128x256 .f32 :=
  matmul dot_S128x256_S256x256_S128x256_1_0_0_1_n_n none
    (truncf .bf16 (exp2 (subf s (broadcastTo S128x256 (rowMax s) broadcasts_S128x1_S128x256))) bitsLt_bf16_f32)
    (concatenate S256x256 1 [⟨S256x128, shapeCast S256x128 v shapeCasts_S1x256x128_S256x128⟩,
      ⟨S256x128, broadcast S256x128 (Scalar.ofBits .bf16 0x3F80#16)⟩] concatenates_S256x128_S256x128_S256x256_d1)
    (constant S128x256 .f32 0x00000000#32)

def nums (w : FVec F S128x256 .f32) : FVec F S128x128 .f32 := extractStridedSlice S128x128 ![0, 0] w slices_S128x256_o0_0_S128x128
def dens (w : FVec F S128x256 .f32) : FVec F S128x128 .f32 := extractStridedSlice S128x128 ![0, 128] w slices_S128x256_o0_128_S128x128

/-- What a unit stores of a pair of heads. -/
def outU (b : Vec F S1x128x256 .f32) (q : Vec F S1x128x128 .bf16) (k v : Vec F S1x256x128 .bf16) : FVec F S1x128x128 .bf16 :=
  shapeCast S1x128x128 (truncf .bf16 (divf
    (select lowHalf (nums (wsum (scores false b q k) v)) (nums (wsum (scores true b q k) v)))
    (select lowHalf (dens (wsum (scores false b q k) v)) (dens (wsum (scores true b q k) v)))) bitsLt_bf16_f32) shapeCasts_S128x128_S1x128x128

/-- The lanes that hold head number `h`. -/
def laneIs (h : BitVec 32) : IVec S128x128 1 := cmpi .eq lanes (broadcast S128x128 h)

/-- The tile of the heads' greatest scores, after one more head. -/
def mxStep (h : BitVec 32) (s : FVec F S128x256 .f32) (t : FVec F S128x128 .f32) : FVec F S128x128 .f32 :=
  select (laneIs h) (broadcastTo S128x128 (shapeCast S128x1 (rowMax s) shapeCasts_S128x1_S128x1) broadcasts_S128x1_S128x128) t

/-- The tile of the heads' denominators, after one more head. -/
def denStep (h : BitVec 32) (s : FVec F S128x256 .f32) (v : Vec F S1x256x128 .bf16) (t : FVec F S128x128 .f32) : FVec F S128x128 .f32 :=
  select (laneIs h) (dens (wsum s v)) t

/-- The two tiles after the first `n` heads of a unit, head `2 p + h` being head `h` of pair `p`. -/
def tiles (b : Vec F S1x128x256 .f32) (q : ℕ → Vec F S1x128x128 .bf16) (k v : ℕ → Vec F S1x256x128 .bf16) : ℕ → FVec F S128x128 .f32 × FVec F S128x128 .f32
  | 0 => (broadcast S128x128 (Scalar.ofBits .f32 0x00000000#32), broadcast S128x128 (Scalar.ofBits .f32 0x3F800000#32))
  | n + 1 =>
    (mxStep (BitVec.ofNat 32 n) (scores (n % 2 == 1) b (q (n / 2)) (k (n / 2))) (tiles b q k v n).1,
     denStep (BitVec.ofNat 32 n) (scores (n % 2 == 1) b (q (n / 2)) (k (n / 2))) (v (n / 2)) (tiles b q k v n).2)

/-- What a unit stores of its heads' logarithms. -/
def lseU (b : Vec F S1x128x256 .f32) (q : ℕ → Vec F S1x128x128 .bf16) (k v : ℕ → Vec F S1x256x128 .bf16) : FVec F S1x128x128 .f32 :=
  shapeCast S1x128x128 (addf (tiles b q k v 8).1 (mulf (log (tiles b q k v 8).2)
    (broadcast S128x128 (Named.named κ "inv_ln2" 0x3FB8AA3B#32)))) shapeCasts_S128x128_S1x128x128

/-! ## The stores -/

theorem inbO (u p : ℕ) : ∀ a : Fin 3, (![0, 128 * (u % 32), 128 * (p % 4)] : Fin 3 → ℕ) a + S1x128x128.size a ≤ S1x4096x512.size a := by
  have h1 := Nat.mod_lt u (show 0 < 32 by omega)
  have h2 := Nat.mod_lt p (show 0 < 4 by omega)
  intro a
  fin_cases a <;> simp [S1x128x128, S1x4096x512] <;> omega

theorem inbL (u : ℕ) : ∀ a : Fin 3, (![0, 128 * (u % 32), 0] : Fin 3 → ℕ) a + S1x128x128.size a ≤ S1x4096x128.size a := by
  have h1 := Nat.mod_lt u (show 0 < 32 by omega)
  intro a
  fin_cases a <;> simp [S1x128x128, S1x4096x128] <;> omega

end Attn
-- ==== Proof.Stores.lean ====
/-
  The stores of the attention kernel at a grid point, every unit and head pair by one function: 128 blocks of the output and
  32 of the logarithms.
-/
module

public import proofs.«01_k».proof.Proof.Unit
public import proofs.«01_k».proof.Proof.Gen.KernelIdeal.Frame.RunA
public import Idealize.ShloMosaic.Lib.Tactic
public import Idealize.ShloMosaic.Lib.Pipeline.Value

@[expose] public section

set_option maxRecDepth 16384

noncomputable section

namespace Attn

open Idealize.ShloMosaic Idealize.ShloMosaic.TcCoe Cert.KernelIdeal Cert.KernelIdeal.Gen

variable {F : FTy → Type} [FloatOps F] [Named F]

/-- The first key of unit `u`'s band, as the kernel computes it. -/
def bandWord (i : grid0.Coords) (u : ℕ) : BitVec 32 :=
  Scalar.muli (Scalar.maxsi (Scalar.subi (Scalar.addi (Scalar.muli (BitVec.ofNat 32 (i 2).val) 32#32) (BitVec.ofNat 32 (u % 32))) 1#32) 0#32) 128#32

def bandOff (i : grid0.Coords) (u p : ℕ) : Fin 3 → ℕ := ![0, (bandWord i u).toNat, 128 * (p % 4)]

theorem coord2 (i : grid0.Coords) : (i 2).val = 0 := by
  have : (i 2).val < 1 := (i 2).isLt
  omega

/-- The band starts one block before the unit's, but for the first. -/
theorem bandWord_eq (i : grid0.Coords) (u : ℕ) : (bandWord i u).toNat = 128 * (u % 32 - 1) := by
  unfold bandWord
  rw [coord2]
  have h : ∀ w : Fin 32, (Scalar.muli (Scalar.maxsi (Scalar.subi (Scalar.addi (Scalar.muli (BitVec.ofNat 32 0) 32#32) (BitVec.ofNat 32 w.val)) 1#32) 0#32) 128#32).toNat
      = 128 * (w.val - 1) := by decide
  exact h ⟨u % 32, Nat.mod_lt _ (by omega)⟩

theorem inbBand (i : grid0.Coords) (u p : ℕ) : ∀ a, bandOff i u p a + S1x256x128.size a ≤ S1x4096x512.size a := by
  have h1 := Nat.mod_lt u (show 0 < 32 by omega)
  have h2 := Nat.mod_lt p (show 0 < 4 by omega)
  have h3 := bandWord_eq i u
  intro a
  fin_cases a <;> simp [bandOff, S1x256x128, S1x4096x512, h3] <;> omega

/-- The block of the table that unit `u` takes, the second for the first unit. -/
theorem tabOff_eq (i : grid0.Coords) (u : ℕ) : k0_off1 i (BitVec.ofNat 32 (u % 32)) = ![if u % 32 = 0 then 1 else 0, 0, 0] := by
  have h : ∀ w : Fin 32, (Scalar.indexCast (Scalar.select (Scalar.cmpi .eq (Scalar.addi (Scalar.muli (BitVec.ofNat 32 0) 32#32) (BitVec.ofNat 32 w.val)) 0#32) (1#32 : BitVec 32) 0#32)).toNat
      = if w.val = 0 then 1 else 0 := by decide
  unfold k0_off1
  rw [coord2]
  exact congrArg (fun n => (![n, 0, 0] : Fin 3 → ℕ)) (h ⟨u % 32, Nat.mod_lt _ (by omega)⟩)

section

variable (c : Dev nD) (i : grid0.Coords) (arg3 : Memref sig .tc .vmem S2x128x256 .f32) (harg3 : arg3.IsWhole)
  (arg4 : Memref sig .tc .vmem S1x4096x512 .bf16) (harg4 : arg4.IsWhole) (arg5 : Memref sig .tc .vmem S1x4096x512 .bf16) (harg5 : arg5.IsWhole)
  (arg6 : Memref sig .tc .vmem S1x4096x512 .bf16) (harg6 : arg6.IsWhole) (arg7 : Memref sig .tc .vmem S1x4096x512 .bf16) (harg7 : arg7.IsWhole)
  (arg8 : Memref sig .tc .vmem S1x4096x128 .f32) (harg8 : arg8.IsWhole)
  (x0 : Vec F S2x128x256 .f32) (x1 x2 x3 : Vec F S1x4096x512 .bf16)

/-- The rectangles a unit loads. -/
abbrev tabRect (u : ℕ) : Rect S2x128x256 :=
  Rect.unit (k0_off1 i (BitVec.ofNat 32 (u % 32))) S1x128x256.size (k0_off1_inb i ⟨u % 32, Nat.mod_lt _ (by decide)⟩)
abbrev unitRect (u p : ℕ) : Rect S1x4096x512 := Rect.unit ![0, 128 * (u % 32), 128 * (p % 4)] S1x128x128.size (inbO u p)
abbrev bandRect (u p : ℕ) : Rect S1x4096x512 := Rect.unit (bandOff i u p) S1x256x128.size (inbBand i u p)
abbrev lseRect (u : ℕ) : Rect S1x4096x128 := Rect.unit ![0, 128 * (u % 32), 0] S1x128x128.size (inbL u)

/-- The `k`-th store of the output: pair `k % 4` of unit `k / 4`. -/
def oPiece (k : ℕ) : View.Piece (Elt F) S1x4096x512 .bf16 :=
  ⟨unitRect (k / 4) k, outU (View.ld x0 (tabRect i (k / 4))) (View.ld x1 (unitRect (k / 4) k)) (View.ld x2 (bandRect i (k / 4) k))
    (View.ld x3 (bandRect i (k / 4) k))⟩

/-- The store of unit `u`'s logarithms. -/
def lPiece (u : ℕ) : View.Piece (Elt F) S1x4096x128 .f32 :=
  ⟨lseRect u, lseU (View.ld x0 (tabRect i u)) (fun p => View.ld x1 (unitRect u p)) (fun p => View.ld x2 (bandRect i u p))
    (fun p => View.ld x3 (bandRect i u p))⟩

/-- The first `n` of a family of stores, the last first. -/
def firsts {α : Type*} (P : ℕ → α) : ℕ → List α
  | 0 => []
  | n + 1 => P n :: firsts P n

theorem mem_firsts {α : Type*} (P : ℕ → α) {x : α} : ∀ {n : ℕ}, x ∈ firsts P n → ∃ k < n, x = P k
  | 0, h => absurd h List.not_mem_nil
  | n + 1, h => by
    rcases List.mem_cons.mp h with rfl | h
    · exact ⟨n, n.lt_succ_self, rfl⟩
    · obtain ⟨k, hk, e⟩ := mem_firsts P h
      exact ⟨k, hk.trans n.lt_succ_self, e⟩

theorem oStores :
    (kernelRun0_A c i arg3 harg3 arg4 harg4 arg5 harg5 arg6 harg6 arg7 harg7 arg8 harg8 x0 x1 x2 x3).1
    = firsts (oPiece i (View.read (Elt F) arg3.view (harg3.unread x0)) (View.read (Elt F) arg4.view (harg4.unread x1))
        (View.read (Elt F) arg5.view (harg5.unread x2)) (View.read (Elt F) arg6.view (harg6.unread x3))) 128 := by
  sl_kernel_rfl

theorem lStores :
    (kernelRun0_A c i arg3 harg3 arg4 harg4 arg5 harg5 arg6 harg6 arg7 harg7 arg8 harg8 x0 x1 x2 x3).2.1
    = firsts (lPiece i (View.read (Elt F) arg3.view (harg3.unread x0)) (View.read (Elt F) arg4.view (harg4.unread x1))
        (View.read (Elt F) arg5.view (harg5.unread x2)) (View.read (Elt F) arg6.view (harg6.unread x3))) 32 := by
  sl_kernel_rfl

end

end Attn
-- ==== Proof.Soft.lean ====
/-
  The arithmetic of one attention row over the extended reals: a softmax taken with base-2 exponentials of scores that carry
  the factor 1 / log 2, against one taken with natural exponentials.
-/
module

public import Idealize.ShloMosaic.PureOps.Ideal
public import Mathlib.Data.EReal.Operations
public import Mathlib.Algebra.BigOperators.Fin

@[expose] public section

noncomputable section

namespace Attn

open Idealize.ShloMosaic Finset

/-- A positive real times a sum. -/
theorem pos_mul_add {c : ℝ} (hc : 0 < c) (a b : EReal) : (c : EReal) * (a + b) = c * a + c * b :=
  EReal.left_distrib_of_nonneg_of_ne_top (by exact_mod_cast hc.le) (EReal.coe_ne_top c) a b

theorem pos_mul_bot {c : ℝ} (hc : 0 < c) : (c : EReal) * ⊥ = ⊥ := EReal.coe_mul_bot_of_pos hc

theorem pos_mul_sub {c : ℝ} (hc : 0 < c) (a b : EReal) : (c : EReal) * (a - b) = c * a - c * b := by
  rw [sub_eq_add_neg, pos_mul_add hc, mul_neg, ← sub_eq_add_neg]

theorem pos_mul_sum {ι : Type*} {c : ℝ} (hc : 0 < c) (s : Finset ι) (f : ι → EReal) :
    (c : EReal) * ∑ i ∈ s, f i = ∑ i ∈ s, (c : EReal) * f i := by
  classical
  induction s using Finset.induction_on with
  | empty => simp
  | insert i s h ih => rw [Finset.sum_insert h, Finset.sum_insert h, pos_mul_add hc, ih]

theorem pos_mul_mono {c : ℝ} (hc : 0 < c) : Monotone fun a : EReal => (c : EReal) * a :=
  fun _ _ h => mul_le_mul_of_nonneg_left h (by exact_mod_cast hc.le)

theorem pos_mul_fold {ι : Type*} {c : ℝ} (hc : 0 < c) (s : Finset ι) (f : ι → EReal) :
    (c : EReal) * s.fold max ⊥ f = s.fold max ⊥ fun i => (c : EReal) * f i := by
  classical
  induction s using Finset.induction_on with
  | empty => simp [pos_mul_bot hc]
  | insert i s h ih => rw [Finset.fold_insert h, Finset.fold_insert h, (pos_mul_mono hc).map_max, ih]

/-- The base-2 exponential of a number divided by log 2 is its natural exponential. -/
theorem exp2_log2 (y : EReal) : Ideal.exp2 (((Real.log 2)⁻¹ : ℝ) * y) = Ideal.exp y := by
  have h2 : 0 < Real.log 2 := Real.log_pos (by norm_num)
  have hc : (0 : ℝ) < (Real.log 2)⁻¹ := inv_pos.mpr h2
  induction y using EReal.rec with
  | bot => rw [pos_mul_bot hc]; rfl
  | top => rw [EReal.coe_mul_top_of_pos hc]; rfl
  | coe r =>
    rw [← EReal.coe_mul]
    show ((Real.rpow 2 ((Real.log 2)⁻¹ * r) : ℝ) : EReal) = ((Real.exp r : ℝ) : EReal)
    congr 1
    rw [Real.rpow_eq_pow, Real.rpow_def_of_pos (by norm_num), ← mul_assoc, mul_inv_cancel₀ h2.ne', one_mul]

/-- The factor between the two scores. -/
abbrev τ : ℝ := (Real.log 2)⁻¹

theorem τ_pos : 0 < τ := inv_pos.mpr (Real.log_pos (by norm_num))

section Row

variable {n : ℕ} (m m' : Fin n → Prop) [DecidablePred m] [DecidablePred m'] (X X' V V' : Fin n → EReal) (e : Fin n ≃ Fin n)

/-- The scores of the base-2 softmax: the masked ones −∞, the others multiplied by 1 / log 2. -/
def sc2 (c : Fin n) : EReal := if m c then (τ : EReal) * X c else ⊥

/-- The scores of the natural softmax. -/
def sc (c : Fin n) : EReal := if m c then X c else ⊥

theorem sc2_eq (c : Fin n) : sc2 m X c = (τ : EReal) * sc m X c := by
  unfold sc2 sc; split_ifs
  · rfl
  · exact (pos_mul_bot τ_pos).symm

/-- The row maximum. -/
def top (S : Fin n → EReal) : EReal := Finset.univ.fold max ⊥ S

/-- The base-2 weights. -/
def w2 (S : Fin n → EReal) (c : Fin n) : EReal := Ideal.exp2 (S c - top S)

/-- The natural weights, the masked ones 0. -/
def w (c : Fin n) : EReal := if m c then Ideal.exp (sc m X c - top (sc m X)) else 0

theorem top_sc2 : top (sc2 m X) = (τ : EReal) * top (sc m X) := by
  unfold top; rw [pos_mul_fold τ_pos]; exact congrArg (fun f => Finset.fold max ⊥ f Finset.univ) (funext fun c => sc2_eq m X c)

theorem w2_eq (c : Fin n) : w2 (sc2 m X) c = w m X c := by
  unfold w2 w
  rw [top_sc2, sc2_eq, ← pos_mul_sub τ_pos, exp2_log2]
  split_ifs with h
  · rfl
  · rw [sc, if_neg h, sub_eq_add_neg, EReal.bot_add]; rfl

variable {m m' X X'}

theorem fold_equiv (f g : Fin n → EReal) (h : ∀ c, g (e c) = f c) : top g = top f := by
  unfold top
  have := Finset.fold_image (op := max) (b := (⊥ : EReal)) (f := g) (s := Finset.univ) (g := e) (fun x _ y _ hxy => e.injective hxy)
  rw [Finset.image_univ_equiv] at this
  rw [this]; exact congrArg (fun f => Finset.fold max ⊥ f Finset.univ) (funext h)

theorem sc_equiv (hm : ∀ c, m' (e c) ↔ m c) (hX : ∀ c, m c → X' (e c) = X c) (c : Fin n) : sc m' X' (e c) = sc m X c := by
  unfold sc; by_cases h : m c
  · rw [if_pos h, if_pos ((hm c).mpr h), hX c h]
  · rw [if_neg h, if_neg (fun h' => h ((hm c).mp h'))]

theorem top_equiv (hm : ∀ c, m' (e c) ↔ m c) (hX : ∀ c, m c → X' (e c) = X c) : top (sc m' X') = top (sc m X) :=
  fold_equiv e _ _ (sc_equiv e hm hX)

theorem w_equiv (hm : ∀ c, m' (e c) ↔ m c) (hX : ∀ c, m c → X' (e c) = X c) (c : Fin n) : w m' X' (e c) = w m X c := by
  unfold w; rw [sc_equiv e hm hX, top_equiv e hm hX]
  by_cases h : m c
  · rw [if_pos h, if_pos ((hm c).mpr h)]
  · rw [if_neg h, if_neg (fun h' => h ((hm c).mp h'))]

/-- The weighted sums of the two arrangements of the keys. -/
theorem num_equiv (hm : ∀ c, m' (e c) ↔ m c) (hX : ∀ c, m c → X' (e c) = X c) (hV : ∀ c, m c → V' (e c) = V c) :
    ∑ c, w m' X' c * V' c = ∑ c, w2 (sc2 m X) c * V c := by
  rw [← Equiv.sum_comp e]
  refine Finset.sum_congr rfl fun c _ => ?_
  rw [w2_eq, w_equiv e hm hX]
  by_cases h : m c
  · rw [hV c h]
  · rw [w, if_neg h, zero_mul, zero_mul]

theorem den_equiv (hm : ∀ c, m' (e c) ↔ m c) (hX : ∀ c, m c → X' (e c) = X c) :
    ∑ c, w m' X' c = ∑ c, w2 (sc2 m X) c := by
  rw [← Equiv.sum_comp e]
  exact Finset.sum_congr rfl fun c _ => by rw [w2_eq, w_equiv e hm hX]

end Row

end Attn
-- ==== Proof.UnitVal.lean ====
/-
  A unit of the attention kernel over the extended reals, read at an index.
-/
module

public import proofs.«01_k».proof.Proof.Unit
public import proofs.«01_k».proof.Proof.Soft
public import Idealize.ShloMosaic.Lib.Pointwise

@[expose] public section

set_option maxRecDepth 16384

noncomputable section

namespace Attn

open Idealize.ShloMosaic Idealize.ShloMosaic.TcCoe Cert.KernelIdeal Cert.KernelIdeal.Gen

theorem mask_bot : (Named.named κ "mask" 0xF149F2CA#32 : Ideal .f32) = ⊥ := rfl

theorem invLn2 : (Named.named κ "inv_ln2" 0x3FB8AA3B#32 : Ideal .f32) = ((τ : ℝ) : EReal) := rfl

theorem select_ite {α : Type} (c : BitVec 1) (P : Prop) [Decidable P] (h : c = if P then 1#1 else 0#1) (a b : α) :
    Scalar.select c a b = if P then a else b := by
  subst h; split_ifs <;> rfl

theorem low_word (x : Fin 128) : IntOp.cmpi .slt (BitVec.ofNat 32 x.val) 64#32 = if (decide (64 ≤ x.val) = false) then 1#1 else 0#1 := by
  revert x; decide

theorem high_word (x : Fin 128) : IntOp.xori (IntOp.cmpi .slt (BitVec.ofNat 32 x.val) 64#32) 1#1 = if (decide (64 ≤ x.val) = true) then 1#1 else 0#1 := by
  revert x; decide

/-- A unit's score of query `r` and key `j`, head `h` of a pair. -/
def raw (h : Bool) (b : Vec Ideal S1x128x256 .f32) (q : Vec Ideal S1x128x128 .bf16) (k : Vec Ideal S1x256x128 .bf16) (r : Fin 128) (j : Fin 256) : EReal :=
  (∑ x : Fin 128, if decide (64 ≤ x.val) = h then q (ix3 0 r x) * k (ix3 0 j x) else 0) + b (ix3 0 r j) * (⊥ : EReal)

theorem scores_apply (h : Bool) (b : Vec Ideal S1x128x256 .f32) (q : Vec Ideal S1x128x128 .bf16) (k : Vec Ideal S1x256x128 .bf16)
    (r : Fin 128) (j : Fin 256) : scores (F := Ideal) h b q k (ix2 r j : S128x256.Idx) = raw h b q k r j := by
  cases h
  · pointwise [scores, half, lowHalf, lanes, maskOf]
    exact congrArg₂ (· + ·) (Finset.sum_congr rfl fun x _ => select_ite _ _ (low_word x) _ _) rfl
  · pointwise [scores, half, lowHalf, lanes, maskOf]
    exact congrArg₂ (· + ·) (Finset.sum_congr rfl fun x _ => select_ite _ _ (high_word x) _ _) rfl

theorem rowMax_apply (s : FVec Ideal S128x256 .f32) (r : Fin 128) (z : Fin 1) :
    rowMax (F := Ideal) s (ix2 r z : S128x1.Idx) = top fun j => s (ix2 r j) := by
  pointwise [rowMax]
  rfl

/-- The weighted sum of the values' lane `l`. -/
def wsumR (S : Fin 256 → EReal) (v : Vec Ideal S1x256x128 .bf16) (l : Fin 256) : EReal :=
  ∑ j : Fin 256, w2 S j * if h : l.val < 128 then v (ix3 0 j ⟨l.val, h⟩) else 1

theorem wsum_apply (s : FVec Ideal S128x256 .f32) (v : Vec Ideal S1x256x128 .bf16) (r : Fin 128) (l : Fin 256) :
    wsum (F := Ideal) s v (ix2 r l : S128x256.Idx) = wsumR (fun j => s (ix2 r j)) v l := by
  pointwise [wsum]
  simp only [rowMax_apply]
  rfl

theorem wsumR_den (S : Fin 256 → EReal) (v : Vec Ideal S1x256x128 .bf16) (l : Fin 128) (h : 128 + l.val < 256) :
    wsumR S v ⟨128 + l.val, h⟩ = ∑ j, w2 S j := by
  unfold wsumR
  exact Finset.sum_congr rfl fun j _ => by rw [dif_neg (by simp), mul_one]

theorem wsumR_num (S : Fin 256 → EReal) (v : Vec Ideal S1x256x128 .bf16) (l : Fin 128) (h : l.val < 256) :
    wsumR S v ⟨l.val, h⟩ = ∑ j, w2 S j * v (ix3 0 j l) := by
  unfold wsumR
  exact Finset.sum_congr rfl fun j _ => by rw [dif_pos l.isLt]

/-- A quotient of one row: the weighted mean of the values' lane `l`. -/
def meanR (S : Fin 256 → EReal) (v : Vec Ideal S1x256x128 .bf16) (l : Fin 128) : EReal :=
  Ideal.div (∑ j, w2 S j * v (ix3 0 j l)) (∑ j, w2 S j)

theorem outU_apply (b : Vec Ideal S1x128x256 .f32) (q : Vec Ideal S1x128x128 .bf16) (k v : Vec Ideal S1x256x128 .bf16)
    (z : Fin 1) (r l : Fin 128) :
    outU (F := Ideal) b q k v (ix3 z r l : S1x128x128.Idx) = meanR (raw (decide (64 ≤ l.val)) b q k r) v l := by
  pointwise [outU, lowHalf, lanes, nums, dens]
  rw [select_ite _ _ (low_word l), select_ite _ _ (low_word l)]
  simp only [wsum_apply, scores_apply, wsumR_den, wsumR_num]
  cases decide (64 ≤ l.val) <;> rfl

theorem lane_word (n : ℕ) (hn : n < 8) (l : Fin 128) : IntOp.cmpi .eq (BitVec.ofNat 32 l.val) (BitVec.ofNat 32 n) = if l.val = n then 1#1 else 0#1 := by
  interval_cases n <;> revert l <;> decide

theorem mxStep_apply (n : ℕ) (hn : n < 8) (s : FVec Ideal S128x256 .f32) (t : FVec Ideal S128x128 .f32) (r l : Fin 128) :
    mxStep (F := Ideal) (BitVec.ofNat 32 n) s t (ix2 r l : S128x128.Idx) = if l.val = n then top (fun j => s (ix2 r j)) else t (ix2 r l) := by
  rw [← rowMax_apply s r 0, ← select_ite _ _ (lane_word n hn l)]
  pointwise [mxStep, laneIs, lanes]

theorem denStep_apply (n : ℕ) (hn : n < 8) (s : FVec Ideal S128x256 .f32) (v : Vec Ideal S1x256x128 .bf16) (t : FVec Ideal S128x128 .f32) (r l : Fin 128) :
    denStep (F := Ideal) (BitVec.ofNat 32 n) s v t (ix2 r l : S128x128.Idx) = if l.val = n then ∑ j, w2 (fun j => s (ix2 r j)) j else t (ix2 r l) := by
  rw [← wsumR_den _ v l (by omega), ← wsum_apply, ← select_ite _ _ (lane_word n hn l)]
  pointwise [denStep, laneIs, lanes, dens]

/-- The tiles after `n` heads: head `l`'s number in lane `l < n`. -/
theorem tiles_apply (b : Vec Ideal S1x128x256 .f32) (q : ℕ → Vec Ideal S1x128x128 .bf16) (k v : ℕ → Vec Ideal S1x256x128 .bf16) (r l : Fin 128) :
    ∀ n ≤ 8, (tiles b q k v n).1 (ix2 r l) = (if l.val < n then top (raw (l.val % 2 == 1) b (q (l.val / 2)) (k (l.val / 2)) r) else 0)
      ∧ (tiles b q k v n).2 (ix2 r l) = (if l.val < n then ∑ j, w2 (raw (l.val % 2 == 1) b (q (l.val / 2)) (k (l.val / 2)) r) j else 1)
  | 0, _ => by
    constructor
    · rw [if_neg (by omega)]; unfold tiles; pointwise
    · rw [if_neg (by omega)]; unfold tiles; pointwise
  | n + 1, hn => by
    obtain ⟨h1, h2⟩ := tiles_apply b q k v r l n (by omega)
    constructor
    · rw [tiles]; dsimp only; rw [mxStep_apply n (by omega), h1]
      by_cases e : l.val = n
      · subst e; rw [if_pos rfl, if_pos (by omega)]; simp only [scores_apply]
      · rw [if_neg e]; exact if_congr (by omega) rfl rfl
    · rw [tiles]; dsimp only; rw [denStep_apply n (by omega), h2]
      by_cases e : l.val = n
      · subst e; rw [if_pos rfl, if_pos (by omega)]; simp only [scores_apply]
      · rw [if_neg e]; exact if_congr (by omega) rfl rfl

/-- A row's logarithm in base 2. -/
def lse2 (S : Fin 256 → EReal) : EReal := top S + Ideal.log (∑ j, w2 S j) * ((τ : ℝ) : EReal)

theorem lseU_apply (b : Vec Ideal S1x128x256 .f32) (q : ℕ → Vec Ideal S1x128x128 .bf16) (k v : ℕ → Vec Ideal S1x256x128 .bf16)
    (z : Fin 1) (r l : Fin 128) :
    lseU (F := Ideal) b q k v (ix3 z r l : S1x128x128.Idx)
    = if l.val < 8 then lse2 (raw (l.val % 2 == 1) b (q (l.val / 2)) (k (l.val / 2)) r) else 0 := by
  obtain ⟨h1, h2⟩ := tiles_apply b q k v r l 8 le_rfl
  pointwise [lseU]
  rw [h1, h2, invLn2]
  split_ifs with h
  · rfl
  · have : Ideal.log 1 = 0 := by
      rw [show (1 : EReal) = ((1 : ℝ) : EReal) from rfl, Ideal.log_coe]
      norm_num
    rw [this, zero_mul, zero_add]

end Attn
-- ==== Proof.Point.lean ====
/-
  What a grid point of the attention call leaves in its two output blocks, from its input blocks.
-/
module

public import proofs.«01_k».proof.Proof.Stores
public import proofs.«01_k».proof.Proof.UnitVal
public import proofs.«01_k».proof.Proof.Gen.KernelIdeal.Frame
public import Idealize.ShloMosaic.Lib.Pipeline.ValueKit.Tiles

@[expose] public section

set_option maxRecDepth 16384

noncomputable section

namespace Attn

open Idealize.ShloMosaic Idealize.ShloMosaic.TcCoe Cert.KernelIdeal Cert.KernelIdeal.Gen

variable (x0 : Vec Ideal S2x128x256 .f32) (x1 x2 x3 : Vec Ideal S1x4096x512 .bf16)

/-- The `j`-th key of the band of query `s`. -/
def key (s : Fin 4096) (j : Fin 256) : Fin 4096 := ⟨128 * (s.val / 128 - 1) + j.val, by omega⟩

/-- Lane `x` of head pair `p`. -/
def lane (p : Fin 4) (x : Fin 128) : Fin 512 := ⟨128 * p.val + x.val, by omega⟩

/-- Row `s` within its block. -/
def inBlk (s : Fin 4096) : Fin 128 := ⟨s.val % 128, Nat.mod_lt _ (by decide)⟩

/-- The part of the table that row `s` uses. -/
def part (s : Fin 4096) : Fin 2 := if s.val / 128 = 0 then 1 else 0

/-- The score of query `s` and the `j`-th key of its band, in head `h` of pair `p`. -/
def rawB (s : Fin 4096) (p : Fin 4) (h : Bool) (j : Fin 256) : EReal :=
  (∑ x : Fin 128, if decide (64 ≤ x.val) = h then x1 (ix3 0 s (lane p x)) * x2 (ix3 0 (key s j) (lane p x)) else 0)
    + x0 (ix3 (part s) (inBlk s) j) * (⊥ : EReal)

def pairOf (l : Fin 512) : Fin 4 := ⟨l.val / 128, by omega⟩
def highOf (l : Fin 512) : Bool := decide (64 ≤ l.val % 128)

/-- The output's block. -/
def meanB (s : Fin 4096) (l : Fin 512) : EReal :=
  Ideal.div (∑ j, w2 (rawB x0 x1 x2 s (pairOf l) (highOf l)) j * x3 (ix3 0 (key s j) l))
    (∑ j, w2 (rawB x0 x1 x2 s (pairOf l) (highOf l)) j)

/-- The logarithms' block. -/
def lseB (s : Fin 4096) (l : Fin 128) : EReal :=
  if h : l.val < 8 then lse2 (rawB x0 x1 x2 s ⟨l.val / 2, by omega⟩ (l.val % 2 == 1)) else 0

section

variable (i : grid0.Coords)

def row (u : ℕ) (r : Fin 128) : Fin 4096 := ⟨128 * (u % 32) + r.val, by have := Nat.mod_lt u (show 0 < 32 by omega); omega⟩

theorem raw_ld (u p : ℕ) (r : Fin 128) (h : Bool) (j : Fin 256) :
    raw h (View.ld x0 (tabRect i u)) (View.ld x1 (unitRect u p)) (View.ld x2 (bandRect i u p)) r j
    = rawB x0 x1 x2 (row u r) ⟨p % 4, Nat.mod_lt _ (by decide)⟩ h j := by
  have hu := Nat.mod_lt u (show 0 < 32 by omega)
  have hp := Nat.mod_lt p (show 0 < 4 by omega)
  have hd : (128 * (u % 32) + r.val) / 128 = u % 32 := by omega
  have hm : (128 * (u % 32) + r.val) % 128 = r.val := by omega
  unfold raw rawB
  refine congrArg₂ (· + ·) (Finset.sum_congr rfl fun x _ => ?_) (congrArg (· * (⊥ : EReal)) ?_)
  · refine if_congr Iff.rfl (congrArg₂ (· * ·) ?_ ?_) rfl
    · refine View.ld_unit_apply_of _ _ _ _ _ _ fun a => ?_
      fin_cases a <;> simp [ix3, row, lane]
    · refine View.ld_unit_apply_of _ _ _ _ _ _ fun a => ?_
      have hb := bandWord_eq i u
      fin_cases a <;> simp [ix3, row, lane, key, bandOff, hb, hd]
  · refine View.ld_unit_apply_of _ _ _ _ _ _ fun a => ?_
    refine Eq.trans ?_ (congrArg (· + _) (congrFun (tabOff_eq i u) a).symm)
    fin_cases a
    · simp [ix3, row, part, hd]; split_ifs <;> rfl
    · simp [ix3, row, inBlk, hm]
    · simp [ix3]

theorem ld_band (u p : ℕ) (r : Fin 128) (j : Fin 256) (l : Fin 128) :
    View.ld x3 (bandRect i u p) (ix3 0 j l) = x3 (ix3 0 (key (row u r) j) (lane ⟨p % 4, Nat.mod_lt _ (by decide)⟩ l)) := by
  have hu := Nat.mod_lt u (show 0 < 32 by omega)
  have hd : (128 * (u % 32) + r.val) / 128 = u % 32 := by omega
  refine View.ld_unit_apply_of _ _ _ _ _ _ fun a => ?_
  have hb := bandWord_eq i u
  fin_cases a <;> simp [ix3, row, lane, key, bandOff, hb, hd]

/-- A store of the output is a block of `meanB`. -/
theorem oPiece_apply (k : ℕ) (x : S1x128x128.Idx) :
    (oPiece (F := Ideal) i x0 x1 x2 x3 k).2 x
    = (fun y : S1x4096x512.Idx => meanB x0 x1 x2 x3 (y 1) (y 2)) ((oPiece (F := Ideal) i x0 x1 x2 x3 k).1.emb x) := by
  obtain ⟨z, r, l, rfl⟩ : ∃ (z : Fin 1) (r l : Fin 128), x = ix3 z r l := ⟨x 0, x 1, x 2, by funext a; fin_cases a <;> rfl⟩
  have e1 : ((oPiece (F := Ideal) i x0 x1 x2 x3 k).1.emb (ix3 z r l)) 1 = row (k / 4) r :=
    Fin.ext (Rect.idx_unit_val _ _ (inbO (k / 4) k) _ _)
  have e2 : ((oPiece (F := Ideal) i x0 x1 x2 x3 k).1.emb (ix3 z r l)) 2 = lane ⟨k % 4, Nat.mod_lt _ (by decide)⟩ l :=
    Fin.ext (Rect.idx_unit_val _ _ (inbO (k / 4) k) _ _)
  show outU (F := Ideal) _ _ _ _ (ix3 z r l) = meanB x0 x1 x2 x3 _ _
  rw [e1, e2, outU_apply]
  have hk := Nat.mod_lt k (show 0 < 4 by omega)
  have hp : pairOf (lane ⟨k % 4, Nat.mod_lt _ (by decide)⟩ l) = ⟨k % 4, Nat.mod_lt _ (by decide)⟩ := Fin.ext (by simp [pairOf, lane]; omega)
  have hh : highOf (lane ⟨k % 4, Nat.mod_lt _ (by decide)⟩ l) = decide (64 ≤ l.val) := by
    unfold highOf lane; congr 1; simp only; rw [Nat.mul_add_mod, Nat.mod_eq_of_lt l.isLt]
  unfold meanR meanB
  rw [hp, hh, show raw (decide (64 ≤ l.val)) _ _ _ r = _ from funext fun j => raw_ld x0 x1 x2 i (k / 4) k r _ j]
  simp only [ld_band x3 i (k / 4) k r]

/-- A store of the logarithms is a block of `lseB`. -/
theorem lPiece_apply (u : ℕ) (x : S1x128x128.Idx) :
    (lPiece (F := Ideal) i x0 x1 x2 x3 u).2 x
    = (fun y : S1x4096x128.Idx => lseB x0 x1 x2 (y 1) (y 2)) ((lPiece (F := Ideal) i x0 x1 x2 x3 u).1.emb x) := by
  obtain ⟨z, r, l, rfl⟩ : ∃ (z : Fin 1) (r l : Fin 128), x = ix3 z r l := ⟨x 0, x 1, x 2, by funext a; fin_cases a <;> rfl⟩
  have e1 : ((lPiece (F := Ideal) i x0 x1 x2 x3 u).1.emb (ix3 z r l)) 1 = row u r :=
    Fin.ext (Rect.idx_unit_val _ _ (inbL u) _ _)
  have e2 : ((lPiece (F := Ideal) i x0 x1 x2 x3 u).1.emb (ix3 z r l)) 2 = l :=
    Fin.ext ((Rect.idx_unit_val _ _ (inbL u) _ _).trans (Nat.zero_add _))
  show lseU (F := Ideal) _ _ _ _ (ix3 z r l) = lseB x0 x1 x2 _ _
  rw [e1, e2, lseU_apply]
  unfold lseB
  split_ifs with h
  · rw [show raw (l.val % 2 == 1) _ _ _ r = _ from funext fun j => raw_ld x0 x1 x2 i u (l.val / 2) r _ j]
    congr 2
    exact Fin.ext (Nat.mod_eq_of_lt (by omega))
  · rfl

end

section

variable (c : Dev nD) (i : grid0.Coords) (arg3 : Memref sig .tc .vmem S2x128x256 .f32) (harg3 : arg3.IsWhole)
  (arg4 : Memref sig .tc .vmem S1x4096x512 .bf16) (harg4 : arg4.IsWhole) (arg5 : Memref sig .tc .vmem S1x4096x512 .bf16) (harg5 : arg5.IsWhole)
  (arg6 : Memref sig .tc .vmem S1x4096x512 .bf16) (harg6 : arg6.IsWhole) (arg7 : Memref sig .tc .vmem S1x4096x512 .bf16) (harg7 : arg7.IsWhole)
  (arg8 : Memref sig .tc .vmem S1x4096x128 .f32) (harg8 : arg8.IsWhole)

theorem out4_apply (y : S1x4096x512.Idx) :
    out0_A_4 (F := Ideal) c i arg3 harg3 arg4 harg4 arg5 harg5 arg6 harg6 arg7 harg7 arg8 harg8 x0 x1 x2 x3 y
    = meanB x0 x1 x2 x3 (y 1) (y 2) := by
  have hc := cover0_A_4 (F := Ideal) c i arg3 harg3 arg4 harg4 arg5 harg5 arg6 harg6 arg7 harg7 arg8 harg8 x0 x1 x2 x3 y
  unfold out0_A_4
  rw [View.read_writes_junk_eq_canon]
  rw [oStores, harg3.read_unread, harg4.read_unread, harg5.read_unread, harg6.read_unread] at hc ⊢
  refine View.canon_apply_of_pieces (fun y : S1x4096x512.Idx => meanB x0 x1 x2 x3 (y 1) (y 2)) _ (fun p hp x => ?_) y hc
  obtain ⟨k, -, rfl⟩ := mem_firsts _ hp
  exact oPiece_apply x0 x1 x2 x3 i k x

theorem out5_apply (y : S1x4096x128.Idx) :
    out0_A_5 (F := Ideal) c i arg3 harg3 arg4 harg4 arg5 harg5 arg6 harg6 arg7 harg7 arg8 harg8 x0 x1 x2 x3 y
    = lseB x0 x1 x2 (y 1) (y 2) := by
  have hc := cover0_A_5 (F := Ideal) c i arg3 harg3 arg4 harg4 arg5 harg5 arg6 harg6 arg7 harg7 arg8 harg8 x0 x1 x2 x3 y
  unfold out0_A_5
  rw [View.read_writes_junk_eq_canon]
  rw [lStores, harg3.read_unread, harg4.read_unread, harg5.read_unread, harg6.read_unread] at hc ⊢
  refine View.canon_apply_of_pieces (fun y : S1x4096x128.Idx => lseB x0 x1 x2 (y 1) (y 2)) _ (fun p hp x => ?_) y hc
  obtain ⟨u, -, rfl⟩ := mem_firsts _ hp
  exact lPiece_apply x0 x1 x2 x3 i u x

end

end Attn
-- ==== Proof.Words.lean ====
/-
  Constants and index words of the two programs.
-/
module

public import Idealize.ShloMosaic.Lib.Pointwise
public import Idealize.ShloMosaic.PureOps.Ideal.Laws

@[expose] public section

noncomputable section

namespace Attn

open Idealize.ShloMosaic

theorem eighth : Ideal.ofBits FTy.f32 0x3E000000#32 = ((1 / 8 : ℝ) : EReal) := by
  simp [Ideal.ofBits, Ideal.ieee, -EReal.coe_mul]; norm_num

theorem two : Ideal.ofBits FTy.f32 0x40000000#32 = ((2 : ℝ) : EReal) := by
  simp [Ideal.ofBits, Ideal.ieee, -EReal.coe_mul]; norm_num

theorem minus_inf : Ideal.ofBits FTy.f32 0xFF800000#32 = ⊥ := by
  simp [Ideal.ofBits, Ideal.ieee]

theorem sitofp_zero : (FloatOps.sitofp (F := Ideal) FTy.f32 (0#32) : EReal) = 0 := by
  show (((0#32 : BitVec 32).toInt : ℝ) : EReal) = 0
  simp

theorem range_word (k : Fin 512) :
    IntOp.andi (IntOp.cmpi CmpIPredicate.sge (BitVec.ofNat 32 (4294967040 + k.val)) 0#32)
      (IntOp.cmpi CmpIPredicate.sle (BitVec.ofNat 32 (4294967040 + k.val)) 128#32)
    = if 256 ≤ k.val ∧ k.val ≤ 384 then 1#1 else 0#1 := by
  revert k; decide +kernel

theorem band_word (a b : ℕ) (ha : a < 256) (hb : b < 256) :
    IntOp.andi (IntOp.cmpi CmpIPredicate.sge (IntOp.subi (BitVec.ofNat 32 a) (BitVec.ofNat 32 b)) 0#32)
      (IntOp.cmpi CmpIPredicate.sle (IntOp.subi (BitVec.ofNat 32 a) (BitVec.ofNat 32 b)) 128#32)
    = if b ≤ a ∧ a ≤ b + 128 then 1#1 else 0#1 := by
  have e : IntOp.subi (BitVec.ofNat 32 a) (BitVec.ofNat 32 b) = BitVec.ofNat 32 (4294967040 + (a + 256 - b)) := by
    apply BitVec.eq_of_toNat_eq
    unfold IntOp.subi
    rw [BitVec.toNat_sub, BitVec.toNat_ofNat, BitVec.toNat_ofNat, BitVec.toNat_ofNat]
    omega
  rw [e, range_word ⟨a + 256 - b, by omega⟩]
  exact if_congr (by simp only []; omega) rfl rfl

theorem first_word (r : Fin 128) (j : Fin 256) :
    IntOp.andi (IntOp.cmpi CmpIPredicate.sge (IntOp.subi (BitVec.ofNat 32 r.val) (BitVec.ofNat 32 j.val)) 0#32)
      (IntOp.cmpi CmpIPredicate.sle (IntOp.subi (BitVec.ofNat 32 r.val) (BitVec.ofNat 32 j.val)) 128#32)
    = if j.val ≤ r.val then 1#1 else 0#1 := by
  rw [band_word r.val j.val (by omega) (by omega)]
  exact if_congr (by omega) rfl rfl

theorem normal_word (r : Fin 128) (j : Fin 256) :
    IntOp.andi (IntOp.cmpi CmpIPredicate.sge (IntOp.subi (IntOp.addi (BitVec.ofNat 32 r.val) 128#32) (BitVec.ofNat 32 j.val)) 0#32)
      (IntOp.cmpi CmpIPredicate.sle (IntOp.subi (IntOp.addi (BitVec.ofNat 32 r.val) 128#32) (BitVec.ofNat 32 j.val)) 128#32)
    = if r.val ≤ j.val ∧ j.val ≤ r.val + 128 then 1#1 else 0#1 := by
  rw [show IntOp.addi (BitVec.ofNat 32 r.val) 128#32 = BitVec.ofNat 32 (r.val + 128) from (BitVec.ofNat_add ..).symm,
    band_word (r.val + 128) j.val (by omega) (by omega)]
  exact if_congr (by omega) rfl rfl

theorem block_word (n : Fin 32) (e : Fin 256) :
    IntOp.cmpi CmpIPredicate.sge
        (IntOp.subi
          (IntOp.addi
            (IntOp.muli (IntOp.addi (IntOp.muli (IntOp.subi (BitVec.ofNat 32 n.val) 1#32) 128#32) (BitVec.ofNat 32 e.val))
              1#32)
            0#32)
          0#32)
        0#32
    = if 1 ≤ n.val ∨ 128 ≤ e.val then 1#1 else 0#1 := by
  revert n e; decide +kernel

theorem and_word (P Q : Prop) [Decidable P] [Decidable Q] :
    IntOp.andi (if P then 1#1 else 0#1) (if Q then 1#1 else 0#1) = if P ∧ Q then 1#1 else 0#1 := by
  by_cases hP : P <;> by_cases hQ : Q <;> simp [hP, hQ] <;> rfl

end Attn
-- ==== Proof.Host.lean ====
/-
  The operands of the attention call, as the host prepares them.
-/
module

public import proofs.«01_k».proof.Proof.Point
public import proofs.«01_k».proof.Proof.Words
public import proofs.«01_k».proof.Proof.Gen.KernelIdeal.Value
public import Idealize.ShloMosaic.Lib.Claim
public import Idealize.ShloMosaic.Lib.StableHlo.RunRead
public import Idealize.ShloMosaic.Lib.StableHlo.ReadAt
public import Idealize.ShloMosaic.Lib.Pipeline.ValueKit.Point
public import Idealize.ShloMosaic.Lib.Pointwise
public import Idealize.ShloMosaic.Lib.Tactic.WordOmega

@[expose] public section

set_option maxRecDepth 16384

noncomputable section

namespace Attn

open Idealize.ShloMosaic Idealize.ShloMosaic.TcCoe Cert.KernelIdeal Cert.KernelIdeal.Gen Idealize.SL.Sem

variable (m : (ℓ : Loc nD Cert.KernelIdeal.τ sig) → Buf (Elt Ideal) ℓ) (c : Dev nD)

/-! ## The operands that the host prepares -/

/-- The factor of the queries. -/
theorem factor : Ideal.div (Ideal.ofBits FTy.f32 1040187392#32) (Ideal.log (Ideal.ofBits FTy.f32 1073741824#32))
    = ((τ * (1 / 8) : ℝ) : EReal) := by
  have h2 : Real.log 2 ≠ 0 := (Real.log_pos (by norm_num)).ne'
  rw [eighth, two, Ideal.log_coe]
  simp only [show ¬ ((2 : ℝ) ≤ 0) by norm_num, if_false, Ideal.div_coe h2]
  rw [← EReal.coe_mul, one_div (Real.log 2), mul_comm]

/-- The arguments as extended reals: queries, keys, values. -/
def argQ (b : Fin 16) (s : Fin 4096) (l : Fin 512) : EReal := m ((c : Thread nD Cert.KernelIdeal.τ).loc main_arg0) (ix3 b s l : S16x4096x512.Idx)
def argK (b : Fin 16) (s : Fin 4096) (l : Fin 512) : EReal := m ((c : Thread nD Cert.KernelIdeal.τ).loc main_arg1) (ix3 b s l : S16x4096x512.Idx)
def argV (b : Fin 16) (s : Fin 4096) (l : Fin 512) : EReal := m ((c : Thread nD Cert.KernelIdeal.τ).loc main_arg2) (ix3 b s l : S16x4096x512.Idx)

theorem V_q (b : Fin 16) (s : Fin 4096) (l : Fin 512) :
    V m c main_v37 (ix3 b s l : S16x4096x512.Idx) = argQ m c b s l * ((τ * (1 / 8) : ℝ) : EReal) := by
  simp only [V, hostOps0, hostOps0_1, hostOps0_2, List.flatten_cons, List.flatten_nil, List.cons_append, List.append_nil, List.nil_append]
  after_reads_at
  rw [factor]
  refine congrArg (· * _) (congrArg _ ?_)
  congr 1 <;> exact Fin.ext (by simp only []; omega)

theorem V_k (b : Fin 16) (s : Fin 4096) (l : Fin 512) :
    V m c main_v38 (ix3 b s l : S16x4096x512.Idx) = argK m c b s l := by
  simp only [V, hostOps0, hostOps0_1, hostOps0_2, List.flatten_cons, List.flatten_nil, List.cons_append, List.append_nil, List.nil_append]
  after_reads_at
  refine congrArg _ ?_
  congr 1 <;> exact Fin.ext (by simp only []; omega)

theorem V_v (b : Fin 16) (s : Fin 4096) (l : Fin 512) :
    V m c main_v39 (ix3 b s l : S16x4096x512.Idx) = argV m c b s l := by
  simp only [V, hostOps0, hostOps0_1, hostOps0_2, List.flatten_cons, List.flatten_nil, List.cons_append, List.append_nil, List.nil_append]
  after_reads_at
  refine congrArg _ ?_
  congr 1 <;> exact Fin.ext (by simp only []; omega)

/-- Which entries of the table are 0. -/
def okTab (b : Fin 2) (r : Fin 128) (j : Fin 256) : Prop := if b = 1 then j.val ≤ r.val else r.val ≤ j.val ∧ j.val ≤ r.val + 128

instance (b : Fin 2) (r : Fin 128) (j : Fin 256) : Decidable (okTab b r j) := by unfold okTab; infer_instance

theorem tab_cat (y x : IVec S1x128x256 1) (b : Fin 2) (s : Fin 128) (l : Fin 256) :
    (select
        (concatenate S2x128x256 0 [⟨S1x128x256, y⟩, ⟨S1x128x256, x⟩] concatenates_S1x128x256_S1x128x256_S2x128x256_d0)
        (broadcastInDim S2x128x256 ![] bcast_S_S2x128x256 (constant S_ FTy.f32 0#32))
        (broadcastInDim S2x128x256 ![] bcast_S_S2x128x256 (constant S_ FTy.f32 1065353216#32)) : FVec Ideal S2x128x256 .f32)
      (ix3 b s l) = Scalar.select (if b = 1 then x (ix3 0 s l) else y (ix3 0 s l)) (0 : EReal) 1 := by
  pointwise
  fin_cases b <;> rfl

theorem V_tab (b : Fin 2) (r : Fin 128) (j : Fin 256) :
    V m c main_v36 (ix3 b r j : S2x128x256.Idx) = (if okTab b r j then 0 else 1 : EReal) := by
  simp only [V, hostOps0, hostOps0_1, hostOps0_2, List.flatten_cons, List.flatten_nil, List.cons_append, List.append_nil, List.nil_append]
  after_reads_at
  generalize hx : StableHlo.upto _ _ _ (Proc.devRef .tc main_v33) = x
  generalize hy : StableHlo.upto _ _ _ (Proc.devRef .tc main_v32) = y
  have hx' : ∀ i : S1x128x256.Idx, x i = if (i 2).val ≤ (i 1).val then 1#1 else 0#1 := by
    intro i
    rw [← hx]
    after_reads_at
    exact first_word (i 1) (i 2)
  have hy' : ∀ i : S1x128x256.Idx, y i = if (i 1).val ≤ (i 2).val ∧ (i 2).val ≤ (i 1).val + 128 then 1#1 else 0#1 := by
    intro i
    rw [← hy]
    after_reads_at
    exact normal_word (i 1) (i 2)
  clear hx hy
  refine (tab_cat y x b r j).trans ?_
  rw [hx', hy']
  unfold okTab
  by_cases hb : b = 1
  · simp only [hb, if_true]
    exact select_ite _ (j.val ≤ r.val) rfl _ _
  · simp only [hb, if_false]
    exact select_ite _ (r.val ≤ j.val ∧ j.val ≤ r.val + 128) rfl _ _

end Attn
-- ==== Proof.Blocks.lean ====
/-
  The blocks of the operands of the attention call.
-/
module

public import proofs.«01_k».proof.Proof.Host
public import proofs.«01_k».proof.Proof.Gen.KernelIdeal.Value
public import Idealize.ShloMosaic.Lib.Claim
public import Idealize.ShloMosaic.Lib.StableHlo.RunRead
public import Idealize.ShloMosaic.Lib.StableHlo.ReadAt
public import Idealize.ShloMosaic.Lib.Pipeline.ValueKit.Point
public import Idealize.ShloMosaic.Lib.Pointwise
public import Idealize.ShloMosaic.Lib.Tactic.WordOmega

@[expose] public section

set_option maxRecDepth 16384

noncomputable section

namespace Attn

open Idealize.ShloMosaic Idealize.ShloMosaic.TcCoe Cert.KernelIdeal Cert.KernelIdeal.Gen Idealize.SL.Sem

variable (m : (ℓ : Loc nD Cert.KernelIdeal.τ sig) → Buf (Elt Ideal) ℓ) (c : Dev nD)

theorem idx (t : Fin cfg0.N) : win0_0.index t = ![0, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] := by
  revert t; decide +kernel

theorem read0 (A : S2x128x256.Idx → EReal) (t : Fin cfg0.N) (b : Fin 2) (r : Fin 128) (j : Fin 256) :
    A ((win0_0.blk t).view.emb (ix3 b r j)) = A (ix3 b r j) := by
  refine congrArg A (funext fun a => Fin.ext ((win0_0.rect_emb_val t (ix3 b r j) a).trans ?_))
  rw [(idx t).1]
  fin_cases a <;> simp [ix3]

theorem read1 (A : S16x4096x512.Idx → EReal) (t : Fin cfg0.N) (z : Fin 1) (s : Fin 4096) (l : Fin 512) :
    A ((win0_1.blk t).view.emb (ix3 z s l)) = A (ix3 ⟨t.val, t.isLt⟩ s l) := by
  refine congrArg A (funext fun a => Fin.ext ((win0_1.rect_emb_val t (ix3 z s l) a).trans ?_))
  rw [(idx t).2.1]
  fin_cases a <;> simp [ix3]

theorem read2 (A : S16x4096x512.Idx → EReal) (t : Fin cfg0.N) (z : Fin 1) (s : Fin 4096) (l : Fin 512) :
    A ((win0_2.blk t).view.emb (ix3 z s l)) = A (ix3 ⟨t.val, t.isLt⟩ s l) := by
  refine congrArg A (funext fun a => Fin.ext ((win0_2.rect_emb_val t (ix3 z s l) a).trans ?_))
  rw [(idx t).2.2.1]
  fin_cases a <;> simp [ix3]

theorem read3 (A : S16x4096x512.Idx → EReal) (t : Fin cfg0.N) (z : Fin 1) (s : Fin 4096) (l : Fin 512) :
    A ((win0_3.blk t).view.emb (ix3 z s l)) = A (ix3 ⟨t.val, t.isLt⟩ s l) := by
  refine congrArg A (funext fun a => Fin.ext ((win0_3.rect_emb_val t (ix3 z s l) a).trans ?_))
  rw [(idx t).2.2.2.1]
  fin_cases a <;> simp [ix3]

/-! Each block, over any contents of the buffers. -/

section

variable (c : Dev nD) (U : (b : Ref sig .tc) → Buf (Elt Ideal) ((c : Thread nD Cert.KernelIdeal.τ).loc b))

theorem at0 (t : Fin cfg0.N) (b : Fin 2) (r : Fin 128) (j : Fin 256) :
    ((cfg0.win 0).blk t).view.read (Elt Ideal) (U (Pipeline.arrRef spec0 0)) (ix3 b r j : S2x128x256.Idx) = U main_v36 (ix3 b r j : S2x128x256.Idx) :=
  read0 (U main_v36) t b r j

theorem at1 (t : Fin cfg0.N) (z : Fin 1) (s : Fin 4096) (l : Fin 512) :
    ((cfg0.win 1).blk t).view.read (Elt Ideal) (U (Pipeline.arrRef spec0 1)) (ix3 z s l : S1x4096x512.Idx)
    = U main_v37 (ix3 ⟨t.val, t.isLt⟩ s l : S16x4096x512.Idx) :=
  read1 (U main_v37) t z s l

theorem at2 (t : Fin cfg0.N) (z : Fin 1) (s : Fin 4096) (l : Fin 512) :
    ((cfg0.win 2).blk t).view.read (Elt Ideal) (U (Pipeline.arrRef spec0 2)) (ix3 z s l : S1x4096x512.Idx)
    = U main_v38 (ix3 ⟨t.val, t.isLt⟩ s l : S16x4096x512.Idx) :=
  read2 (U main_v38) t z s l

theorem at3 (t : Fin cfg0.N) (z : Fin 1) (s : Fin 4096) (l : Fin 512) :
    ((cfg0.win 3).blk t).view.read (Elt Ideal) (U (Pipeline.arrRef spec0 3)) (ix3 z s l : S1x4096x512.Idx)
    = U main_v39 (ix3 ⟨t.val, t.isLt⟩ s l : S16x4096x512.Idx) :=
  read3 (U main_v39) t z s l

end

theorem ib_tab (t : Fin cfg0.N) (b : Fin 2) (r : Fin 128) (j : Fin 256) :
    iblk m c 0 t (ix3 b r j : S2x128x256.Idx) = (if okTab b r j then 0 else 1 : EReal) :=
  (at0 c (V m c) t b r j).trans (V_tab m c b r j)

theorem ib_q (t : Fin cfg0.N) (z : Fin 1) (s : Fin 4096) (l : Fin 512) :
    iblk m c 1 t (ix3 z s l : S1x4096x512.Idx) = argQ m c ⟨t.val, t.isLt⟩ s l * ((τ * (1 / 8) : ℝ) : EReal) :=
  (at1 c (V m c) t z s l).trans (V_q m c ⟨t.val, t.isLt⟩ s l)

theorem ib_k (t : Fin cfg0.N) (z : Fin 1) (s : Fin 4096) (l : Fin 512) :
    iblk m c 2 t (ix3 z s l : S1x4096x512.Idx) = argK m c ⟨t.val, t.isLt⟩ s l :=
  (at2 c (V m c) t z s l).trans (V_k m c ⟨t.val, t.isLt⟩ s l)

theorem ib_v (t : Fin cfg0.N) (z : Fin 1) (s : Fin 4096) (l : Fin 512) :
    iblk m c 3 t (ix3 z s l : S1x4096x512.Idx) = argV m c ⟨t.val, t.isLt⟩ s l :=
  (at3 c (V m c) t z s l).trans (V_v m c ⟨t.val, t.isLt⟩ s l)

end Attn
-- ==== Proof.Arrays.lean ====
/-
  The two output arrays of the attention call as functions of its arguments.
-/
module

public import proofs.«01_k».proof.Proof.Blocks
public import proofs.«01_k».proof.Proof.Gen.KernelIdeal.Value
public import Idealize.ShloMosaic.Lib.Claim
public import Idealize.ShloMosaic.Lib.StableHlo.RunRead
public import Idealize.ShloMosaic.Lib.StableHlo.ReadAt
public import Idealize.ShloMosaic.Lib.Pipeline.ValueKit.Point
public import Idealize.ShloMosaic.Lib.Pointwise
public import Idealize.ShloMosaic.Lib.Tactic.WordOmega

@[expose] public section

set_option maxRecDepth 16384

noncomputable section

namespace Attn

open Idealize.ShloMosaic Idealize.ShloMosaic.TcCoe Cert.KernelIdeal Cert.KernelIdeal.Gen Idealize.SL.Sem

variable (m : (ℓ : Loc nD Cert.KernelIdeal.τ sig) → Buf (Elt Ideal) ℓ) (c : Dev nD)

/-! ## The scores -/

/-- Channel `d` of head `h`. -/
def chan (h : Fin 8) (d : Fin 64) : Fin 512 := ⟨64 * h.val + d.val, by omega⟩

/-- The scaled score of query `s` and the `j`-th key of its band. -/
def score (b : Fin 16) (h : Fin 8) (s : Fin 4096) (j : Fin 256) : EReal :=
  (∑ d : Fin 64, argQ m c b s (chan h d) * argK m c b (key s j) (chan h d)) * ((1 / 8 : ℝ) : EReal)

/-- Which keys of its band query `s` attends to. -/
def sees (s : Fin 4096) (j : Fin 256) : Prop := okTab (part s) (inBlk s) j

instance (s : Fin 4096) (j : Fin 256) : Decidable (sees s j) := by unfold sees; infer_instance

theorem half_sum (h : Bool) (f : Fin 128 → EReal) (g : Fin 64 → EReal)
    (hg : ∀ (x : Fin 128) (d : Fin 64), x.val = 64 * h.toNat + d.val → f x = g d) :
    (∑ x : Fin 128, if decide (64 ≤ x.val) = h then f x else 0) = ∑ d : Fin 64, g d := by
  have hs := Fin.sum_univ_add (fun x : Fin (64 + 64) => if decide (64 ≤ x.val) = h then f x else 0)
  refine Eq.trans hs ?_
  cases h
  · rw [Finset.sum_eq_zero (s := Finset.univ) (f := fun i : Fin 64 => if decide (64 ≤ (Fin.natAdd 64 i).val) = false then f (Fin.natAdd 64 i) else 0)
      (fun i _ => if_neg (by simp)), add_zero]
    exact Finset.sum_congr rfl fun d _ => (if_pos (by simp)).trans (hg _ d (by simp))
  · rw [Finset.sum_eq_zero (s := Finset.univ) (f := fun i : Fin 64 => if decide (64 ≤ (Fin.castAdd 64 i).val) = true then f (Fin.castAdd 64 i) else 0)
      (fun i _ => if_neg (by simp)), zero_add]
    exact Finset.sum_congr rfl fun d _ => (if_pos (by simp)).trans (hg _ d (by simp [Nat.add_comm]))

theorem rawB_blk (t : Fin cfg0.N) (s : Fin 4096) (p : Fin 4) (h : Bool) (H : Fin 8) (hH : H.val = 2 * p.val + h.toNat) :
    rawB (iblk m c 0 t) (iblk m c 1 t) (iblk m c 2 t) s p h = sc2 (sees s) (score m c ⟨t.val, t.isLt⟩ H s) := by
  funext j
  unfold rawB sc2
  rw [ib_tab]
  by_cases hv : sees s j
  · rw [if_pos hv, if_pos (show okTab _ _ _ from hv), zero_mul, add_zero]
    unfold score
    rw [mul_comm (∑ d, _) _, ← mul_assoc, ← EReal.coe_mul, pos_mul_sum (mul_pos τ_pos (by norm_num))]
    refine half_sum h _ _ fun x d hx => ?_
    rw [ib_q, ib_k, show lane p x = chan H d from Fin.ext (by simp only [lane, chan]; omega)]
    rw [mul_comm (argQ _ _ _ _ _) _, mul_assoc]
  · rw [if_neg hv, if_neg (show ¬ okTab _ _ _ from hv), one_mul, EReal.add_bot]

/-- The attention's output. -/
def mean (b : Fin 16) (s : Fin 4096) (l : Fin 512) : EReal :=
  Ideal.div (∑ j, w2 (sc2 (sees s) (score m c b ⟨l.val / 64, by omega⟩ s)) j * argV m c b (key s j) l)
    (∑ j, w2 (sc2 (sees s) (score m c b ⟨l.val / 64, by omega⟩ s)) j)

/-- The logarithms of the attention's denominators, in base 2. -/
def lse (b : Fin 16) (s : Fin 4096) (l : Fin 128) : EReal :=
  if h : l.val < 8 then lse2 (sc2 (sees s) (score m c b ⟨l.val, h⟩ s)) else 0

theorem meanB_blk (t : Fin cfg0.N) (s : Fin 4096) (l : Fin 512) :
    meanB (iblk m c 0 t) (iblk m c 1 t) (iblk m c 2 t) (iblk m c 3 t) s l = mean m c ⟨t.val, t.isLt⟩ s l := by
  unfold meanB mean
  rw [rawB_blk m c t s (pairOf l) (highOf l) ⟨l.val / 64, by omega⟩ (by
    simp only [pairOf, highOf]
    by_cases h : 64 ≤ l.val % 128 <;> simp [h] <;> omega)]
  simp only [ib_v]

theorem lseB_blk (t : Fin cfg0.N) (s : Fin 4096) (l : Fin 128) :
    lseB (iblk m c 0 t) (iblk m c 1 t) (iblk m c 2 t) s l = lse m c ⟨t.val, t.isLt⟩ s l := by
  unfold lseB lse
  split_ifs with h
  · rw [rawB_blk m c t s ⟨l.val / 2, by omega⟩ (l.val % 2 == 1) ⟨l.val, h⟩ (by
      rcases Nat.mod_two_eq_zero_or_one l.val with h2 | h2 <;> simp [h2] <;> omega)]
  · rfl

end Attn
-- ==== Proof.Outs.lean ====
/-
  The two output arrays of the attention call as functions of its arguments.
-/
module

public import proofs.«01_k».proof.Proof.Arrays
public import proofs.«01_k».proof.Proof.Gen.KernelIdeal.Value
public import Idealize.ShloMosaic.Lib.Claim
public import Idealize.ShloMosaic.Lib.StableHlo.RunRead
public import Idealize.ShloMosaic.Lib.StableHlo.ReadAt
public import Idealize.ShloMosaic.Lib.Pipeline.ValueKit.Point
public import Idealize.ShloMosaic.Lib.Pointwise
public import Idealize.ShloMosaic.Lib.Tactic.WordOmega

@[expose] public section

set_option maxRecDepth 16384

noncomputable section

namespace Attn

open Idealize.ShloMosaic Idealize.ShloMosaic.TcCoe Cert.KernelIdeal Cert.KernelIdeal.Gen Idealize.SL.Sem

variable (m : (ℓ : Loc nD Cert.KernelIdeal.τ sig) → Buf (Elt Ideal) ℓ) (c : Dev nD)

theorem at4 (t : Fin cfg0.N) (y : S1x4096x512.Idx) : (outsAt0 m c t).1 y = mean m c ⟨t.val, t.isLt⟩ (y 1) (y 2) := by
  simp only [outsAt0]
  exact (out4_apply _ _ _ _ c _ _ _ _ _ _ _ _ _ _ _ _ _ y).trans (meanB_blk m c t (y 1) (y 2))

theorem at5 (t : Fin cfg0.N) (y : S1x4096x128.Idx) : (outsAt0 m c t).2 y = lse m c ⟨t.val, t.isLt⟩ (y 1) (y 2) := by
  simp only [outsAt0]
  exact (out5_apply _ _ _ _ c _ _ _ _ _ _ _ _ _ _ _ _ _ y).trans (lseB_blk m c t (y 1) (y 2))

theorem place4 (A : Fin 16 → Fin 4096 → Fin 512 → EReal) (t : Fin cfg0.N) (y : S1x4096x512.Idx) :
    A ⟨t.val, t.isLt⟩ (y 1) (y 2) = (fun i : S16x4096x512.Idx => A (i 0) (i 1) (i 2)) ((win0_4.blk t).view.emb y) := by
  have e : (win0_4.blk t).view.emb y = ix3 ⟨t.val, t.isLt⟩ (y 1) (y 2) := by
    funext a
    refine Fin.ext ((win0_4.rect_emb_val t y a).trans ?_)
    rw [(idx t).2.2.2.2.1]
    have h0 := (y 0).isLt
    fin_cases a <;> simp [ix3] <;> omega
  rw [e]; rfl

theorem place5 (A : Fin 16 → Fin 4096 → Fin 128 → EReal) (t : Fin cfg0.N) (y : S1x4096x128.Idx) :
    A ⟨t.val, t.isLt⟩ (y 1) (y 2) = (fun i : S16x4096x128.Idx => A (i 0) (i 1) (i 2)) ((win0_5.blk t).view.emb y) := by
  have e : (win0_5.blk t).view.emb y = ix3 ⟨t.val, t.isLt⟩ (y 1) (y 2) := by
    funext a
    refine Fin.ext ((win0_5.rect_emb_val t y a).trans ?_)
    rw [(idx t).2.2.2.2.2]
    have h0 := (y 0).isLt
    fin_cases a <;> simp [ix3] <;> omega
  rw [e]; rfl

/-- The first output array. -/
theorem arr4 : (dats m 0 c).arrAt 4 cfg0.N = fun i : S16x4096x512.Idx => mean m c (i 0) (i 1) (i 2) :=
  (dats m 0 c).arrAt_eq_of_covers 4 _ (by decide +kernel) fun t _ y =>
    (congrFun (after0_4 m c t) _).trans ((at4 m c t _).trans (place4 (mean m c) t y))

/-- The second output array. -/
theorem arr5 : (dats m 0 c).arrAt 5 cfg0.N = fun i : S16x4096x128.Idx => lse m c (i 0) (i 1) (i 2) :=
  (dats m 0 c).arrAt_eq_of_covers 5 _ (by decide +kernel) fun t _ y =>
    (congrFun (after0_5 m c t) _).trans ((at5 m c t _).trans (place5 (lse m c) t y))

end Attn
-- ==== Proof.RefDefs.lean ====
/-
  The reference's results in stages.
-/
module

public import proofs.«01_k».proof.Proof.Gen.ReferenceIdeal.Run

@[expose] public section

set_option maxRecDepth 16384

noncomputable section

namespace Attn

open Idealize.ShloMosaic Idealize.ShloMosaic.TcCoe Cert.ReferenceIdeal Cert.ReferenceIdeal.Gen Idealize.SL.Sem

variable {F : FTy → Type} [FloatOps F]

/-- The heads' blocks of queries, keys or values. -/
def heads (x : FVec F S16x4096x512 .f32) : FVec F S16x8x1x32x128x64 .f32 :=
  (shapeCast _ (transpose S16x8x1x4096x64 [0, 1, 3, 2, 4] (shapeCast _ (pad S16x8x4096x64 ![0, 0, 0, 0] ![0, 0, 0, 0] ![0, 0, 0, 0] (transpose S16x8x4096x64 [0, 2, 1, 3] (shapeCast _ x shapeCasts_S16x4096x512_S16x4096x8x64) transposes_S16x4096x8x64_S16x8x4096x64_0_2_1_3) (sitofp .f32 (constantI S_ 32 0#32)) pads_S16x8x4096x64_S16x8x4096x64_000_000_000_000 h_S_) shapeCasts_S16x8x4096x64_S16x8x4096x1x64) transposes_S16x8x4096x1x64_S16x8x1x4096x64_0_1_3_2_4) shapeCasts_S16x8x1x4096x64_S16x8x1x32x128x64)

/-- Each block with the block before it. -/
def band (y : FVec F S16x8x1x32x128x64 .f32) : FVec F S16x8x1x32x256x64 .f32 :=
  (concatenate S16x8x1x32x256x64 4 [⟨S16x8x1x32x128x64, (pad S16x8x1x32x128x64 ![0, 0, 0, 1, 0, 0] ![0, 0, 0, 0, 0, 0] ![0, 0, 0, 0, 0, 0] (extractStridedSlice S16x8x1x31x128x64 ![0, 0, 0, 0, 0, 0] y slices_S16x8x1x32x128x64_S16x8x1x31x128x64_0_0_0_0_0_0) (sitofp .f32 (constantI S_ 32 0#32)) pads_S16x8x1x31x128x64_S16x8x1x32x128x64_000_000_000_100_000_000 h_S_)⟩, ⟨S16x8x1x32x128x64, y⟩] concatenates_S16x8x1x32x128x64_S16x8x1x32x128x64_S16x8x1x32x256x64_d4)

/-- The mask. -/
def maskR : IVec S16x8x1x32x128x256 1 :=
  (broadcastInDim S16x8x1x32x128x256 ![2, 3, 4, 5] bcast_S1x32x128x256_S16x8x1x32x128x256_2_3_4_5 (andi (broadcastInDim S1x32x128x256 ![0, 1, 2, 3] bcast_S1x1x128x256_S1x32x128x256_0_1_2_3 (broadcastInDim S1x1x128x256 ![2, 3] bcast_S128x256_S1x1x128x256_2_3 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S1x32x128x256 ![0, 1, 2, 3] bcast_S1x32x1x256_S1x32x128x256_0_1_2_3 (cmpi .sge (subi (addi (muli (addi (broadcastInDim S1x32x1x256 ![0, 1, 2, 3] bcast_S1x32x1x1_S1x32x1x256_0_1_2_3 (muli (subi (broadcastInDim S1x32x1x1 ![1] bcast_S32_S1x32x1x1_1 (iotaInDim S32 32 0)) (broadcastInDim S1x32x1x1 ![] bcast_S_S1x32x1x1 (constantI S_ 32 1#32))) (broadcastInDim S1x32x1x1 ![] bcast_S_S1x32x1x1 (constantI S_ 32 128#32)))) (broadcastInDim S1x32x1x256 ![0, 1, 2, 3] bcast_S1x1x1x256_S1x32x1x256_0_1_2_3 (broadcastInDim S1x1x1x256 ![2, 3] bcast_S1x256_S1x1x1x256_2_3 (broadcastInDim S1x256 ![1] bcast_S256_S1x256_1 (iotaInDim S256 32 0))))) (broadcastInDim S1x32x1x256 ![] bcast_S_S1x32x1x256 (constantI S_ 32 1#32))) (broadcastInDim S1x32x1x256 ![0, 1, 2, 3] bcast_S1x1x1x1_S1x32x1x256_0_1_2_3 (broadcastInDim S1x1x1x1 ![0] bcast_S1_S1x1x1x1_0 (iotaInDim S1 32 0)))) (broadcastInDim S1x32x1x256 ![] bcast_S_S1x32x1x256 (constantI S_ 32 0#32))) (broadcastInDim S1x32x1x256 ![] bcast_S_S1x32x1x256 (constantI S_ 32 0#32))))))

/-- The masked scores of queries `q` and bands `k`. -/
def scoresR (q : FVec F S16x8x1x32x128x64 .f32) (k : FVec F S16x8x1x32x256x64 .f32) : FVec F S16x8x1x32x128x256 .f32 :=
  (select maskR (mulf (Host.dotGeneral dot_S16x8x1x32x128x64_S16x8x1x32x256x64_S16x8x1x32x128x256_5_5_4_4_0123_0123 none q k) (broadcastInDim S16x8x1x32x128x256 ![] bcast_S_S16x8x1x32x128x256 (constant S_ .f32 0x3E000000#32))) (broadcastInDim S16x8x1x32x128x256 ![] bcast_S_S16x8x1x32x128x256 (id (constant S_ .f32 0xFF800000#32))))

/-- The rows' maxima. -/
def maxR (s : FVec F S16x8x1x32x128x256 .f32) : FVec F S16x8x1x32x128 .f32 :=
  (Host.reduce FloatOps.maximumf s (constant S_ .f32 0xFF800000#32) reducesTo_S16x8x1x32x128x256_S16x8x1x32x128_d5 h_S_)

/-- The weights. -/
def weightsR (s : FVec F S16x8x1x32x128x256 .f32) : FVec F S16x8x1x32x128x256 .f32 :=
  (select maskR (Host.exp (subf s (broadcastInDim S16x8x1x32x128x256 ![0, 1, 2, 3, 4, 5] bcast_S16x8x1x32x128x1_S16x8x1x32x128x256_0_1_2_3_4_5 (broadcastInDim S16x8x1x32x128x1 ![0, 1, 2, 3, 4] bcast_S16x8x1x32x128_S16x8x1x32x128x1_0_1_2_3_4 (maxR s))))) (broadcastInDim S16x8x1x32x128x256 ![] bcast_S_S16x8x1x32x128x256 (id (constant S_ .f32 0x00000000#32))))

/-- The weights' sums. -/
def denR (w : FVec F S16x8x1x32x128x256 .f32) : FVec F S16x8x1x32x128 .f32 :=
  Host.reduceAdd w (constant S_ .f32 0x00000000#32) reducesTo_S16x8x1x32x128x256_S16x8x1x32x128_d5 h_S_

/-- The weighted sums of the values. -/
def numR (w : FVec F S16x8x1x32x128x256 .f32) (v : FVec F S16x8x1x32x256x64 .f32) : FVec F S16x8x1x32x128x64 .f32 :=
  Host.dotGeneral dot_S16x8x1x32x128x256_S16x8x1x32x256x64_S16x8x1x32x128x64_5_4_4_5_0123_0123 none w v

/-- The quotients, in the output's layout. -/
def quotR (n : FVec F S16x8x1x32x128x64 .f32) (e : FVec F S16x8x1x32x128 .f32) : FVec F S16x4096x512 .bf16 :=
  truncf .bf16 (shapeCast _ (transpose S16x4096x8x64 [0, 2, 1, 3] (Host.divf (shapeCast _ (transpose S16x8x4096x1x64 [0, 1, 3, 2, 4] (shapeCast _ n shapeCasts_S16x8x1x32x128x64_S16x8x1x4096x64) transposes_S16x8x1x4096x64_S16x8x4096x1x64_0_1_3_2_4) shapeCasts_S16x8x4096x1x64_S16x8x4096x64) (broadcastInDim S16x8x4096x64 ![0, 1, 2, 3] bcast_S16x8x4096x1_S16x8x4096x64_0_1_2_3 (broadcastInDim S16x8x4096x1 ![0, 1, 2] bcast_S16x8x4096_S16x8x4096x1_0_1_2 (shapeCast _ (transpose S16x8x4096x1 [0, 1, 3, 2] (shapeCast _ e shapeCasts_S16x8x1x32x128_S16x8x1x4096) transposes_S16x8x1x4096_S16x8x4096x1_0_1_3_2) shapeCasts_S16x8x4096x1_S16x8x4096)))) transposes_S16x8x4096x64_S16x4096x8x64_0_2_1_3) shapeCasts_S16x4096x8x64_S16x4096x512) bitsLt_bf16_f32

/-- The logarithms, in the output's layout. -/
def logsR (x e : FVec F S16x8x1x32x128 .f32) : FVec F S16x4096x128 .f32 :=
  pad S16x4096x128 ![0, 0, 0] ![0, 0, 120] ![0, 0, 0] (transpose S16x4096x8 [0, 2, 1] (Host.divf (addf (shapeCast _ (transpose S16x8x4096x1 [0, 1, 3, 2] (shapeCast _ x shapeCasts_S16x8x1x32x128_S16x8x1x4096) transposes_S16x8x1x4096_S16x8x4096x1_0_1_3_2) shapeCasts_S16x8x4096x1_S16x8x4096) (Host.log (shapeCast _ (transpose S16x8x4096x1 [0, 1, 3, 2] (shapeCast _ e shapeCasts_S16x8x1x32x128_S16x8x1x4096) transposes_S16x8x1x4096_S16x8x4096x1_0_1_3_2) shapeCasts_S16x8x4096x1_S16x8x4096))) (broadcastInDim S16x8x4096 ![] bcast_S_S16x8x4096 (Host.log (constant S_ .f32 0x40000000#32)))) transposes_S16x8x4096_S16x4096x8_0_2_1) (sitofp .f32 (constantI S_ 32 0#32)) pads_S16x4096x8_S16x4096x128_000_000_01200 h_S_

section

variable (m : (ℓ : Loc nD Cert.ReferenceIdeal.τ sig) → Buf (Elt F) ℓ) (c : Dev nD)

/-- The masked scores, from the arguments. -/
def refScores : FVec F S16x8x1x32x128x256 .f32 :=
  scoresR (heads (m ((c.tc : Thread nD Cert.ReferenceIdeal.τ).loc main_arg0))) (band (heads (m ((c.tc : Thread nD Cert.ReferenceIdeal.τ).loc main_arg1))))

theorem ref_mean : Value.res_main_v88 m c
    = quotR (numR (weightsR (refScores m c)) (band (heads (m ((c.tc : Thread nD Cert.ReferenceIdeal.τ).loc main_arg2))))) (denR (weightsR (refScores m c))) := rfl

theorem ref_lse : Value.res_main_v95 m c = logsR (maxR (refScores m c)) (denR (weightsR (refScores m c))) := rfl

end

end Attn
-- ==== Proof.RefVal.lean ====
/-
  The stages of the reference, read at an index.
-/
module

public import proofs.«01_k».proof.Proof.RefDefs
public import proofs.«01_k».proof.Proof.Soft
public import proofs.«01_k».proof.Proof.UnitVal
public import proofs.«01_k».proof.Proof.Words
public import Idealize.ShloMosaic.Lib.Pointwise

@[expose] public section

set_option maxRecDepth 16384

noncomputable section

namespace Attn

open Idealize.ShloMosaic Idealize.ShloMosaic.TcCoe Cert.ReferenceIdeal Cert.ReferenceIdeal.Gen Idealize.SL.Sem

/-- Row `a` of block `n`, and channel `d` of head `h`. -/
def rowOf (n : Fin 32) (a : Fin 128) : Fin 4096 := ⟨128 * n.val + a.val, by omega⟩
def chanOf (h : Fin 8) (d : Fin 64) : Fin 512 := ⟨64 * h.val + d.val, by omega⟩

/-- The row that place `e` of the band of block `n` holds, if any. -/
def bandRow (n : Fin 32) (e : Fin 256) : Fin 4096 := ⟨128 * n.val + e.val - 128, by omega⟩

/-- Which places of the band row `a` of block `n` attends to. -/
def seesR (n : Fin 32) (a : Fin 128) (e : Fin 256) : Prop := (a.val ≤ e.val ∧ e.val ≤ a.val + 128) ∧ (1 ≤ n.val ∨ 128 ≤ e.val)

instance (n : Fin 32) (a : Fin 128) (e : Fin 256) : Decidable (seesR n a e) := by unfold seesR; infer_instance

theorem heads_apply (x : FVec Ideal S16x4096x512 .f32) (b : Fin 16) (h : Fin 8) (z : Fin 1) (n : Fin 32) (a : Fin 128) (d : Fin 64) :
    heads x (ix6 b h z n a d) = x (ix3 b (rowOf n a) (chanOf h d)) := by
  pointwise [heads]
  rw [dif_pos (by omega)]
  exact congrArg₂ (fun r l => x (ix3 b r l)) (Fin.ext (by simp only [rowOf]; omega)) (Fin.ext (by simp only [chanOf]; omega))

theorem band_apply (y : FVec Ideal S16x8x1x32x128x64 .f32) (b : Fin 16) (h : Fin 8) (z : Fin 1) (n : Fin 32) (e : Fin 256) (d : Fin 64) :
    band y (ix6 b h z n e d)
    = if he : e.val < 128 then (if hn : 1 ≤ n.val then y (ix6 b h 0 ⟨n.val - 1, by omega⟩ ⟨e.val, he⟩ d) else (0 : EReal))
      else y (ix6 b h 0 n ⟨e.val - 128, by omega⟩ d) := by
  pointwise [band]
  by_cases he : e.val < 128
  · rw [dif_pos he, dif_pos he]
    by_cases hn : 1 ≤ n.val
    · rw [dif_pos ⟨⟨hn, by omega⟩, he⟩, dif_pos hn]
    · rw [dif_neg (fun hc => hn hc.1.1), dif_neg hn]; exact sitofp_zero
  · rw [dif_neg he, dif_neg he]

theorem bandHeads_apply (x : FVec Ideal S16x4096x512 .f32) (b : Fin 16) (h : Fin 8) (z : Fin 1) (n : Fin 32) (e : Fin 256) (d : Fin 64)
    (hs : 1 ≤ n.val ∨ 128 ≤ e.val) :
    band (heads x) (ix6 b h z n e d) = x (ix3 b (bandRow n e) (chanOf h d)) := by
  rw [band_apply]
  by_cases he : e.val < 128
  · rw [dif_pos he, dif_pos (by omega), heads_apply]
    exact congrArg (fun r => x (ix3 b r (chanOf h d))) (Fin.ext (by simp only [rowOf, bandRow]; omega))
  · rw [dif_neg he, heads_apply]
    exact congrArg (fun r => x (ix3 b r (chanOf h d))) (Fin.ext (by simp only [rowOf, bandRow]; omega))

theorem maskR_apply (b : Fin 16) (h : Fin 8) (z : Fin 1) (n : Fin 32) (a : Fin 128) (e : Fin 256) :
    maskR (ix6 b h z n a e) = if seesR n a e then 1#1 else 0#1 := by
  pointwise [maskR]
  rw [normal_word, block_word, and_word]
  rfl

theorem scoresR_apply (q : FVec Ideal S16x8x1x32x128x64 .f32) (k : FVec Ideal S16x8x1x32x256x64 .f32) (b : Fin 16) (h : Fin 8) (z : Fin 1) (n : Fin 32) (a : Fin 128) (e : Fin 256) :
    scoresR q k (ix6 b h z n a e)
    = if seesR n a e then (∑ d : Fin 64, q (ix6 b h z n a d) * k (ix6 b h z n e d)) * ((1 / 8 : ℝ) : EReal) else (⊥ : EReal) := by
  have hm := maskR_apply b h z n a e
  unfold scoresR
  generalize maskR = mask at hm ⊢
  pointwise
  rw [eighth]
  refine (select_ite _ _ hm _ _).trans (if_congr Iff.rfl rfl ?_)
  exact minus_inf

theorem lift5 (h : (S16x8x1x32x128x256 : Shape).Reduces [5] S16x8x1x32x128) (b : Fin 16) (g : Fin 8) (z : Fin 1) (n : Fin 32) (a : Fin 128) (e : Fin 256) :
    h.lift (ix5 b g z n a) e = ix6 b g z n a e := by
  funext k; fin_cases k <;> rfl

theorem maxR_apply (s : FVec Ideal S16x8x1x32x128x256 .f32) (b : Fin 16) (h : Fin 8) (z : Fin 1) (n : Fin 32) (a : Fin 128) :
    maxR s (ix5 b h z n a) = top fun e => s (ix6 b h z n a e) := by
  unfold maxR top
  refine (Host.reduce_eq_fold_single _ _ _ _ (by decide) _ _).trans ?_
  rw [show constant (F := Ideal) S_ .f32 0xFF800000#32 (Shape.Idx.first h_S_) = ⊥ from minus_inf]
  exact congrArg (fun f => Finset.fold max ⊥ f Finset.univ) (funext fun e => congrArg s (lift5 _ b h z n a e))

theorem weightsR_apply (s : FVec Ideal S16x8x1x32x128x256 .f32) (b : Fin 16) (h : Fin 8) (z : Fin 1) (n : Fin 32) (a : Fin 128) (e : Fin 256) :
    weightsR s (ix6 b h z n a e)
    = if seesR n a e then Ideal.exp (s (ix6 b h z n a e) - top fun e => s (ix6 b h z n a e)) else (0 : EReal) := by
  have hm := maskR_apply b h z n a e
  have hx := maxR_apply s b h 0 n a
  unfold weightsR
  generalize maskR = mask at hm ⊢
  generalize maxR s = x at hx ⊢
  pointwise
  rw [hx, show z = 0 from Subsingleton.elim _ _] at *
  refine (select_ite _ _ hm _ _).trans (if_congr Iff.rfl rfl ?_)
  exact Ideal.ofBits_zero_f32

theorem denR_apply (s : FVec Ideal S16x8x1x32x128x256 .f32) (b : Fin 16) (h : Fin 8) (z : Fin 1) (n : Fin 32) (a : Fin 128) :
    denR s (ix5 b h z n a) = ∑ e : Fin 256, s (ix6 b h z n a e) := by
  unfold denR
  pointwise
  refine (Ideal.hostReduceAdd_single _ (by decide) _ _ _).trans ?_
  rw [zero_add]
  exact Finset.sum_congr rfl fun e _ => congrArg s (lift5 _ b h z n a e)

theorem numR_apply (w : FVec Ideal S16x8x1x32x128x256 .f32) (v : FVec Ideal S16x8x1x32x256x64 .f32) (b : Fin 16) (h : Fin 8) (z : Fin 1) (n : Fin 32) (a : Fin 128) (d : Fin 64) :
    numR w v (ix6 b h z n a d) = ∑ e : Fin 256, w (ix6 b h z n a e) * v (ix6 b h z n e d) := by
  unfold numR
  pointwise

theorem quotR_apply (n : FVec Ideal S16x8x1x32x128x64 .f32) (e : FVec Ideal S16x8x1x32x128 .f32) (b : Fin 16) (s : Fin 4096) (l : Fin 512) :
    quotR n e (ix3 b s l)
    = Ideal.div (n (ix6 b ⟨l.val / 64, by omega⟩ 0 ⟨s.val / 128, by omega⟩ ⟨s.val % 128, by omega⟩ ⟨l.val % 64, by omega⟩))
      (e (ix5 b ⟨l.val / 64, by omega⟩ 0 ⟨s.val / 128, by omega⟩ ⟨s.val % 128, by omega⟩)) := by
  unfold quotR
  pointwise

theorem logsR_apply (x e : FVec Ideal S16x8x1x32x128 .f32) (b : Fin 16) (s : Fin 4096) (l : Fin 128) :
    logsR x e (ix3 b s l)
    = if h : l.val < 8 then
        Ideal.div (x (ix5 b ⟨l.val, h⟩ 0 ⟨s.val / 128, by omega⟩ ⟨s.val % 128, by omega⟩)
          + Ideal.log (e (ix5 b ⟨l.val, h⟩ 0 ⟨s.val / 128, by omega⟩ ⟨s.val % 128, by omega⟩))) (Ideal.log ((2 : ℝ) : EReal))
      else 0 := by
  unfold logsR
  pointwise
  rw [two]
  exact dite_congr rfl (fun _ => rfl) (fun _ => sitofp_zero)

/-! ## The rows of the reference -/

variable (q k v : FVec Ideal S16x4096x512 .f32)

/-- The scaled score of row `a` of block `n` and place `e` of its band. -/
def scoreR (b : Fin 16) (h : Fin 8) (n : Fin 32) (a : Fin 128) (e : Fin 256) : EReal :=
  (∑ d : Fin 64, q (ix3 b (rowOf n a) (chanOf h d)) * k (ix3 b (bandRow n e) (chanOf h d))) * ((1 / 8 : ℝ) : EReal)

theorem row_scores (b : Fin 16) (h : Fin 8) (n : Fin 32) (a : Fin 128) :
    (fun e => scoresR (heads q) (band (heads k)) (ix6 b h 0 n a e)) = sc (seesR n a) (scoreR q k b h n a) := by
  funext e
  rw [scoresR_apply]
  unfold sc scoreR
  by_cases hs : seesR n a e
  · rw [if_pos hs, if_pos hs]
    refine congrArg (· * _) (Finset.sum_congr rfl fun d _ => ?_)
    rw [heads_apply, bandHeads_apply _ _ _ _ _ _ _ hs.2]
  · rw [if_neg hs, if_neg hs]

theorem row_weights (b : Fin 16) (h : Fin 8) (n : Fin 32) (a : Fin 128) (e : Fin 256) :
    weightsR (scoresR (heads q) (band (heads k))) (ix6 b h 0 n a e) = w (seesR n a) (scoreR q k b h n a) e := by
  rw [weightsR_apply, row_scores, congrFun (row_scores q k b h n a) e]
  rfl

end Attn
-- ==== Proof.Join.lean ====
/-
  The two programs' arrays are the same functions of the arguments.
-/
module

public import proofs.«01_k».proof.Proof.Arrays
public import proofs.«01_k».proof.Proof.RefVal

@[expose] public section

set_option maxRecDepth 16384

noncomputable section

namespace Attn

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The block of a row. -/
def blkOf (s : Fin 4096) : Fin 32 := ⟨s.val / 128, by omega⟩

/-- Where the reference keeps the `j`-th key of the kernel's band: the first block's band is the other way round. -/
def turn (s : Fin 4096) : Fin 256 ≃ Fin 256 :=
  if s.val / 128 = 0 then Equiv.addRight 128 else Equiv.refl _

theorem turn_val (s : Fin 4096) (j : Fin 256) : (turn s j).val = if s.val / 128 = 0 then (j.val + 128) % 256 else j.val := by
  unfold turn
  split_ifs with h
  · show (j + 128 : Fin 256).val = _
    rw [Fin.val_add]; rfl
  · rfl

theorem sees_turn (s : Fin 4096) (j : Fin 256) : seesR (blkOf s) (inBlk s) (turn s j) ↔ sees s j := by
  unfold seesR sees okTab part inBlk blkOf
  have hj := j.isLt
  have hs := s.isLt
  simp only [turn_val]
  by_cases h : s.val / 128 = 0
  · simp only [h, if_true]; omega
  · simp only [h, if_false, show ¬ ((0 : Fin 2) = 1) by decide]; omega

theorem row_turn (s : Fin 4096) (j : Fin 256) (h : sees s j) : bandRow (blkOf s) (turn s j) = key s j := by
  have hr := (sees_turn s j).mpr h
  unfold seesR at hr
  have hj := j.isLt
  have hs := s.isLt
  refine Fin.ext ?_
  simp only [bandRow, key, blkOf, inBlk, turn_val] at hr ⊢
  split_ifs at hr ⊢ with h0 <;> omega

theorem rowOf_self (s : Fin 4096) : rowOf (blkOf s) (inBlk s) = s :=
  Fin.ext (by simp only [rowOf, blkOf, inBlk]; omega)

section Arrays

variable (q k v : FVec Ideal Cert.ReferenceIdeal.S16x4096x512 .f32)
  (hq : ∀ b s l, q (ix3 b s l) = argQ m c b s l) (hk : ∀ b s l, k (ix3 b s l) = argK m c b s l)
  (hv : ∀ b s l, v (ix3 b s l) = argV m c b s l)

include hq hk in
theorem score_turn (b : Fin 16) (h : Fin 8) (s : Fin 4096) (j : Fin 256) (hs : sees s j) :
    scoreR q k b h (blkOf s) (inBlk s) (turn s j) = score m c b h s j := by
  unfold scoreR score
  rw [rowOf_self, row_turn s j hs]
  refine congrArg (· * _) (Finset.sum_congr rfl fun d _ => ?_)
  rw [hq, hk]; rfl

include hq hk hv in
theorem mean_eq (b : Fin 16) (s : Fin 4096) (l : Fin 512) :
    quotR (numR (weightsR (scoresR (heads q) (band (heads k)))) (band (heads v))) (denR (weightsR (scoresR (heads q) (band (heads k)))))
      (ix3 b s l) = mean m c b s l := by
  have hl := l.isLt
  rw [quotR_apply, numR_apply, denR_apply]
  unfold mean
  have hw : ∀ e, weightsR (scoresR (heads q) (band (heads k))) (ix6 b ⟨l.val / 64, by omega⟩ 0 ⟨s.val / 128, by omega⟩ ⟨s.val % 128, by omega⟩ e)
      = w (seesR (blkOf s) (inBlk s)) (scoreR q k b ⟨l.val / 64, by omega⟩ (blkOf s) (inBlk s)) e :=
    fun e => row_weights q k b ⟨l.val / 64, by omega⟩ (blkOf s) (inBlk s) e
  simp only [hw]
  refine congrArg₂ Ideal.div ?_ (den_equiv (turn s) (sees_turn s) (score_turn m c q k hq hk b _ s))
  have hz : ∀ e, w (seesR (blkOf s) (inBlk s)) (scoreR q k b ⟨l.val / 64, by omega⟩ (blkOf s) (inBlk s)) e
        * band (heads v) (ix6 b ⟨l.val / 64, by omega⟩ 0 ⟨s.val / 128, by omega⟩ e ⟨l.val % 64, by omega⟩)
      = w (seesR (blkOf s) (inBlk s)) (scoreR q k b ⟨l.val / 64, by omega⟩ (blkOf s) (inBlk s)) e
        * v (ix3 b (bandRow (blkOf s) e) l) := by
    intro e
    by_cases he : seesR (blkOf s) (inBlk s) e
    · refine congrArg _ ((bandHeads_apply v b _ 0 (blkOf s) e _ he.2).trans ?_)
      exact congrArg (fun x => v (ix3 b (bandRow (blkOf s) e) x)) (Fin.ext (by simp only [chanOf]; omega))
    · rw [w, if_neg he, zero_mul, zero_mul]
  refine (Finset.sum_congr rfl fun e _ => hz e).trans ?_
  refine num_equiv _ _ (turn s) (sees_turn s) (score_turn m c q k hq hk b _ s) ?_
  intro j hs
  rw [row_turn s j hs, hv]

include hq hk in
theorem lse_eq (b : Fin 16) (s : Fin 4096) (l : Fin 128) :
    logsR (maxR (scoresR (heads q) (band (heads k)))) (denR (weightsR (scoresR (heads q) (band (heads k))))) (ix3 b s l) = lse m c b s l := by
  rw [logsR_apply]
  unfold lse
  by_cases h : l.val < 8
  · rw [dif_pos h, dif_pos h, maxR_apply, denR_apply]
    have hw : ∀ e, weightsR (scoresR (heads q) (band (heads k))) (ix6 b ⟨l.val, h⟩ 0 ⟨s.val / 128, by omega⟩ ⟨s.val % 128, by omega⟩ e)
        = w (seesR (blkOf s) (inBlk s)) (scoreR q k b ⟨l.val, h⟩ (blkOf s) (inBlk s)) e :=
      fun e => row_weights q k b ⟨l.val, h⟩ (blkOf s) (inBlk s) e
    have ht := row_scores q k b ⟨l.val, h⟩ (blkOf s) (inBlk s)
    have ht' : (top fun e => scoresR (heads q) (band (heads k)) (ix6 b ⟨l.val, h⟩ 0 ⟨s.val / 128, by omega⟩ ⟨s.val % 128, by omega⟩ e))
        = top (sc (sees s) (score m c b ⟨l.val, h⟩ s)) :=
      (congrArg top ht).trans (top_equiv (turn s) (sees_turn s) (score_turn m c q k hq hk b _ s))
    simp only [hw]
    rw [ht', den_equiv (turn s) (sees_turn s) (score_turn m c q k hq hk b _ s)]
    have h2 : Ideal.log ((2 : ℝ) : EReal) = ((Real.log 2 : ℝ) : EReal) :=
      (Ideal.log_coe _).trans (if_neg (by norm_num))
    rw [h2, Ideal.div_coe (Real.log_pos (by norm_num)).ne', one_div]
    unfold lse2
    rw [top_sc2, mul_comm, pos_mul_add τ_pos, mul_comm (τ : EReal) (Ideal.log _)]
  · rw [dif_neg h, dif_neg h]

end Arrays

end Attn
-- ==== Proof.Claims.lean ====
/-
  The claims about the attention call.
-/
module

public import proofs.«01_k».proof.Defs
public import proofs.«01_k».proof.Proof.Outs
public import proofs.«01_k».proof.Proof.Join
public import proofs.«01_k».proof.Proof.Gen.Kernel.Frame
public import Idealize.ShloMosaic.Lib.Quiescent

@[expose] public section

noncomputable section

namespace Attn

open Idealize.ShloMosaic Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ref : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The two named constants: the mask's number stands for −∞, the other for 1 / log 2. -/
theorem preserved : Cert.preserves_Kernel_KernelIdeal :=
  ⟨IdealRules.named_const.statement Cert.KernelIdeal.κ "mask" .f32 0xF149F2CA#32 ⊥ rfl,
    IdealRules.named_const.statement Cert.KernelIdeal.κ "inv_ln2" .f32 0x3FB8AA3B#32 (((Real.log 2)⁻¹ : ℝ) : EReal) rfl⟩

/-- Both programs leave the same outputs and the same logarithms of the denominators. -/
theorem same : Cert.algebraic_KernelIdeal_ReferenceIdeal := by
  intro m g m' g' _ hagree
  have e0 : ∀ c : Dev Cert.KernelIdeal.nD, Cert.ReferenceIdeal.Value.res_main_v88 m' c
      = fun i : Cert.KernelIdeal.S16x4096x512.Idx => mean m c (i 0) (i 1) (i 2) := by
    intro c
    obtain ⟨h0, h1, h2⟩ := hagree c
    rw [ref_mean, refScores, h0, h1, h2]
    funext i
    refine (congrArg _ (show i = ix3 (i 0) (i 1) (i 2) by funext a; fin_cases a <;> rfl)).trans ?_
    exact mean_eq m c _ _ _ (fun _ _ _ => rfl) (fun _ _ _ => rfl) (fun _ _ _ => rfl) (i 0) (i 1) (i 2)
  have e1 : ∀ c : Dev Cert.KernelIdeal.nD, Cert.ReferenceIdeal.Value.res_main_v95 m' c
      = fun i : Cert.KernelIdeal.S16x4096x128.Idx => lse m c (i 0) (i 1) (i 2) := by
    intro c
    obtain ⟨h0, h1, h2⟩ := hagree c
    rw [ref_lse, refScores, h0, h1]
    funext i
    refine (congrArg _ (show i = ix3 (i 0) (i 1) (i 2) by funext a; fin_cases a <;> rfl)).trans ?_
    exact lse_eq m c _ _ (fun _ _ _ => rfl) (fun _ _ _ => rfl) (i 0) (i 1) (i 2)
  refine ⟨_, _, (θ_run Cert.KernelIdeal.defs _ _).mono (fun _ h c => ⟨(h c).1.trans (arr4 m c), (h c).2.1.trans (arr5 m c), (h c).2.2⟩)
    (Cert.KernelIdeal.Value.run_blocks (F := Ideal) m g), ?_⟩
  exact (θ_run Cert.ReferenceIdeal.defs _ _).mono (fun _ h c => ⟨(h c).1.trans (e0 c), (h c).2.1.trans (e1 c), (h c).2.2⟩)
    (Cert.ReferenceIdeal.Value.run (F := Ideal) m' g')

end Attn
-- ==== Proof.BackFrame.lean ====
/-
  The run of the layer's last kernel, over any float values: what the output's buffer holds after each grid point, and the
  launch.
-/
module

public import proofs.«01_k».proof.Proof.Gen.Kernel2Ideal.Frame.RunA
public import Idealize.ShloMosaic.Lib.Claim

@[expose] public section

set_option maxRecDepth 16384

noncomputable section

namespace Back

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 22 tile its block (1 store of `S512x1024`, checked by the kernel's evaluation: Lib/Ring.lean `Piece.tiledL`, linear in the pieces, through a loop's `@[irreducible]` trip theorem too), so they cover it. -/
theorem cover0_A_22 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S128x2048 .bf16) (harg3 : arg3.IsWhole) (arg4 : Memref sig .tc .vmem S32x8192 .bf16) (harg4 : arg4.IsWhole) (arg5 : Memref sig .tc .vmem S512x128 .f32) (harg5 : arg5.IsWhole) (arg6 : Memref sig .tc .vmem S128x512 .f32) (harg6 : arg6.IsWhole) (arg7 : Memref sig .tc .vmem S32x2048 .f32) (harg7 : arg7.IsWhole) (arg8 : Memref sig .tc .vmem S512x512 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x256 .f32) (harg11 : arg11.IsWhole) (arg12 : Memref sig .tc .vmem S128x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1024x5632 .bf16) (harg19 : arg19.IsWhole) (arg20 : Memref sig .tc .vmem S2816x1024 .bf16) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S512x1024 .f32) (harg23 : arg23.IsWhole) (arg24 : Memref sig .tc .vmem S2x4x512x128 .f32) (harg24 : arg24.IsWhole) (arg25 : Memref sig .tc .vmem S2x1x512x128 .f32) (harg25 : arg25.IsWhole)
    (x0 : Vec F S512x1024 .f32) (x1 : Vec F S512x512 .bf16) (x2 : Vec F S128x2048 .bf16) (x3 : Vec F S32x8192 .bf16) (x4 : Vec F S512x128 .f32) (x5 : Vec F S128x512 .f32) (x6 : Vec F S32x2048 .f32) (x7 : Vec F S512x512 .bf16) (x8 : Vec F S512x1024 .bf16) (x9 : Vec F S512x1024 .bf16) (x10 : Vec F S512x256 .f32) (x11 : Vec F S128x512 .bf16) (x12 : Vec F S512x1024 .bf16) (x13 : Vec F S512x1024 .bf16) (x14 : Vec F S1024x1024 .bf16) (x15 : Vec F S1x1024 .f32) (x16 : Vec F S1x1024 .f32) (x17 : Vec F S1x1024 .f32) (x18 : Vec F S1024x5632 .bf16) (x19 : Vec F S2816x1024 .bf16) (x20 : Vec F S256x1024 .bf16) (x21 : Vec F S1024x1024 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21).1 S512x1024.size (by sl_kernel_rfl) y

/-- What the run leaves in output 22's staging buffer: its pieces read back over junk. -/
def out0_A_22 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S128x2048 .bf16) (harg3 : arg3.IsWhole) (arg4 : Memref sig .tc .vmem S32x8192 .bf16) (harg4 : arg4.IsWhole) (arg5 : Memref sig .tc .vmem S512x128 .f32) (harg5 : arg5.IsWhole) (arg6 : Memref sig .tc .vmem S128x512 .f32) (harg6 : arg6.IsWhole) (arg7 : Memref sig .tc .vmem S32x2048 .f32) (harg7 : arg7.IsWhole) (arg8 : Memref sig .tc .vmem S512x512 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x256 .f32) (harg11 : arg11.IsWhole) (arg12 : Memref sig .tc .vmem S128x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1024x5632 .bf16) (harg19 : arg19.IsWhole) (arg20 : Memref sig .tc .vmem S2816x1024 .bf16) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S512x1024 .f32) (harg23 : arg23.IsWhole) (arg24 : Memref sig .tc .vmem S2x4x512x128 .f32) (harg24 : arg24.IsWhole) (arg25 : Memref sig .tc .vmem S2x1x512x128 .f32) (harg25 : arg25.IsWhole)
    (x0 : Vec F S512x1024 .f32) (x1 : Vec F S512x512 .bf16) (x2 : Vec F S128x2048 .bf16) (x3 : Vec F S32x8192 .bf16) (x4 : Vec F S512x128 .f32) (x5 : Vec F S128x512 .f32) (x6 : Vec F S32x2048 .f32) (x7 : Vec F S512x512 .bf16) (x8 : Vec F S512x1024 .bf16) (x9 : Vec F S512x1024 .bf16) (x10 : Vec F S512x256 .f32) (x11 : Vec F S128x512 .bf16) (x12 : Vec F S512x1024 .bf16) (x13 : Vec F S512x1024 .bf16) (x14 : Vec F S1024x1024 .bf16) (x15 : Vec F S1x1024 .f32) (x16 : Vec F S1x1024 .f32) (x17 : Vec F S1x1024 .f32) (x18 : Vec F S1024x5632 .bf16) (x19 : Vec F S2816x1024 .bf16) (x20 : Vec F S256x1024 .bf16) (x21 : Vec F S1024x1024 .bf16) : Vec F S512x1024 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21).1)

/-! ## What the outputs hold after each point -/

/-- What the outputs' staging buffers hold after the body at point `t`: the run's contents at
    the point's memrefs and input blocks. -/
def outsAt0 (c : Dev nD) (t : Fin cfg0.N) : Vec F S512x1024 .f32 :=
  out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outsAt0 m c t)
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.castSucc = Pipeline.ΦA spec0 c from rfl, PhiA0_eq]
  unfold outsAt0
  unfold out0_A_22
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [HS0]; · iexact HS0
  isplitl [HS1]; · iexact HS1
  iintro ⟨H0, H1, H2, H3, H4, H5, H6, H7, H8, H9, H10, H11, H12, H13, H14, H15, H16, H17, H18, H19, H20, H21, ⟨%e22, H22⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

end Back

end
-- ==== Proof.BackStore.lean ====
/-
  The two scratch buffers of the layer's last kernel: strided stores that put the rows of a permuted block in their own
  order, every one by one function, and what a load of them reads.
-/
module

public import proofs.«01_k».proof.Proof.Gen.Kernel2Ideal.Skeleton
public import Idealize.ShloMosaic.Lib.Exec
public import Idealize.ShloMosaic.Lib.Pointwise
public import Idealize.ShloMosaic.Lib.Pipeline.Value

@[expose] public section

set_option maxRecDepth 16384

noncomputable section

namespace Back

open Idealize.ShloMosaic Idealize.ShloMosaic.TcCoe

/-- Two copies of `ns` slabs of 512 rows and 128 lanes. -/
abbrev box (ns : ℕ) : Shape := ⟨4, ![2, ns, 512, 128]⟩

/-- One copy. -/
abbrev copy (ns b : ℕ) (hb : b < 2) : Rect (box ns) :=
  Rect.unit (s := box ns) ![b, 0, 0, 0] ![1, ns, 512, 128] (by
    intro a; fin_cases a <;> simp <;> omega)

/-- Every fourth row of a slab, from row `o` on. -/
abbrev rows4 (ns s o n : ℕ) (hs : s < ns) (ho : o + 4 * (n - 1) < 512) : Rect ⟨3, ![ns, 512, 128]⟩ where
  off := ![s, o, 0]
  size := ![1, n, 128]
  stride := ![1, 4, 1]
  inb a := by fin_cases a <;> simp <;> omega
  stride_pos a := by fin_cases a <;> simp

/-- The same of one of the copies. -/
abbrev rect4 (ns b s o n : ℕ) (hb : b < 2) (hs : s < ns) (ho : o + 4 * (n - 1) < 512) : Rect (box ns) :=
  (copy ns b hb).within ((rows4 ns s o n hs ho).consLift ![1, ns, 512, 128] rfl (by intro i; fin_cases i <;> rfl)) (fun _ => rfl)

/-- Rows `o` to `o + 127` of a slab of one of the copies. -/
abbrev load1 (ns b s o : ℕ) (hb : b < 2) (hs : s < ns) (ho : o + 128 ≤ 512) : LoadRect (box ns) :=
  (copy ns b hb).withinL ((Rect.unit (s := ⟨3, ![ns, 512, 128]⟩) ![s, o, 0] ![1, 128, 128] (by
    intro a; fin_cases a <;> simp <;> omega)).toLoadRect.consLift ![1, ns, 512, 128] rfl (by intro i; fin_cases i <;> rfl)) (fun _ => rfl)

section

variable {Val : EltTy → Type} [∀ e, Nonempty (Val e)]

/-- A strided store of `n` rows. -/
def piece (ns b s o n : ℕ) (hb : b < 2) (hs : s < ns) (ho : o + 4 * (n - 1) < 512) (w : (⟨3, ![1, n, 128]⟩ : Shape).Idx → Val .f32) :
    View.Piece Val (box ns) .f32 :=
  ⟨rect4 ns b s o n hb hs ho, Rect.payAlong (Rect.numel_consLift (rows4 ns s o n hs ho) ![1, ns, 512, 128] rfl (by intro i; fin_cases i <;> rfl)) w⟩

/-- The first `n` of a family of stores, the last first. -/
def lasts {α : Type*} (P : ℕ → α) : ℕ → List α
  | 0 => []
  | n + 1 => P n :: lasts P n

theorem mem_lasts {α : Type*} (P : ℕ → α) {n k : ℕ} (h : k < n) : P k ∈ lasts P n := by
  induction n with
  | zero => omega
  | succ n ih =>
    rcases Nat.lt_succ_iff_lt_or_eq.mp h with h | rfl
    · exact List.mem_cons_of_mem _ (ih h)
    · exact List.mem_cons_self

theorem of_mem_lasts {α : Type*} (P : ℕ → α) {n : ℕ} {x : α} (h : x ∈ lasts P n) : ∃ k < n, x = P k := by
  induction n with
  | zero => exact absurd h List.not_mem_nil
  | succ n ih =>
    rcases List.mem_cons.mp h with rfl | h
    · exact ⟨n, n.lt_succ_self, rfl⟩
    · obtain ⟨k, hk, e⟩ := ih h
      exact ⟨k, hk.trans n.lt_succ_self, e⟩

/-- The value `G` of copy, slab, row and lane, at an index. -/
abbrev at4 {α : Type} {ns : ℕ} (G : ℕ → ℕ → ℕ → ℕ → α) (y : (box ns).Idx) : α := G (y 0).val (y 1).val (y 2).val (y 3).val

theorem piece_ok {ns b s o n : ℕ} {hb : b < 2} {hs : s < ns} {ho : o + 4 * (n - 1) < 512} {w : (⟨3, ![1, n, 128]⟩ : Shape).Idx → Val .f32}
    {G : ℕ → ℕ → ℕ → ℕ → Val .f32} (hw : ∀ (i : Fin n) (l : Fin 128), w (ix3 0 i l) = G b s (o + 4 * i.val) l.val)
    (x : (piece ns b s o n hb hs ho w).1.shape.Idx) :
    (piece ns b s o n hb hs ho w).2 x = at4 G ((piece ns b s o n hb hs ho w).1.emb x) := by
  have h0 : (x 0).val < 1 := (x 0).isLt
  have h1 : (x 1).val < 1 := (x 1).isLt
  have e0 : ((piece ns b s o n hb hs ho w).1.emb x 0).val = b := by
    show (b + 0) + 1 * (x 0).val = b; omega
  have e1 : ((piece ns b s o n hb hs ho w).1.emb x 1).val = s := by
    show (0 + s) + 1 * (x 1).val = s; omega
  have e2 : ((piece ns b s o n hb hs ho w).1.emb x 2).val = o + 4 * (x 2).val := by
    show (0 + o) + 4 * (x 2).val = _; omega
  have e3 : ((piece ns b s o n hb hs ho w).1.emb x 3).val = (x 3).val := by
    show (0 + 0) + 1 * (x 3).val = _; omega
  unfold at4
  rw [e0, e1, e2, e3]
  refine (Rect.payAlong_consLift (rows4 ns s o n hs ho) ![1, ns, 512, 128] rfl (by intro i; fin_cases i <;> rfl) w _ x
    (ix3 (0 : Fin 1) (x 2 : Fin n) (x 3 : Fin 128)) fun i => ?_).trans (hw (x 2 : Fin n) (x 3 : Fin 128))
  fin_cases i
  · show 0 = (x 1).val; omega
  · rfl
  · rfl

theorem piece_mem {ns b s o n : ℕ} {hb : b < 2} {hs : s < ns} {ho : o + 4 * (n - 1) < 512} {w : (⟨3, ![1, n, 128]⟩ : Shape).Idx → Val .f32}
    (y : (box ns).Idx) (h0 : (y 0).val = b) (h1 : (y 1).val = s) (i : ℕ) (hi : i < n) (h2 : (y 2).val = o + 4 * i) :
    y ∈ (piece ns b s o n hb hs ho w).1.set := by
  have h3 : (y 3).val < 128 := (y 3).isLt
  refine (LoadRect.mem_set _).mpr fun a => ?_
  fin_cases a
  · exact ⟨0, Nat.one_pos, by show (y 0).val = (b + 0) + 1 * 0; omega⟩
  · exact ⟨0, Nat.one_pos, by show (y 1).val = (0 + s) + 1 * 0; omega⟩
  · exact ⟨i, hi, by show (y 2).val = (0 + o) + 4 * i; omega⟩
  · exact ⟨(y 3).val, h3, by show (y 3).val = (0 + 0) + 1 * (y 3).val; omega⟩

/-- The stores `A`, made after the stores `T`, all agree with `G`: what they leave where one of them stored. -/
theorem canon_agree {S : Shape} {e : EltTy} (G : S.Idx → Val e) (T : List (View.Piece Val S e)) (y : S.Idx) :
    ∀ A : List (View.Piece Val S e), (∀ p ∈ A, ∀ x : p.1.shape.Idx, p.2 x = G (p.1.emb x)) → (∃ p ∈ A, y ∈ p.1.set) →
      View.canon (A ++ T) y = G y
  | [], _, h => by obtain ⟨p, hp, _⟩ := h; exact absurd hp List.not_mem_nil
  | p :: A, hA, h => by
    rw [List.cons_append]
    by_cases hm : y ∈ p.1.set
    · obtain ⟨x, rfl⟩ := p.1.exists_idx_of_mem hm
      exact (View.canon_cons_emb p.1 p.2 (A ++ T) x).trans (hA p List.mem_cons_self x)
    · rw [View.canon_cons_of_not_mem _ _ hm]
      refine canon_agree G T y A (fun q hq => hA q (List.mem_cons_of_mem _ hq)) ?_
      obtain ⟨q, hq, hy⟩ := h
      rcases List.mem_cons.mp hq with rfl | hq
      · exact absurd hy hm
      · exact ⟨q, hq, hy⟩

/-- What a load of 128 rows of a slab reads. -/
theorem load1_apply {sig : RefSig} {κ : Kind} {sp : Space} {ns b s o : ℕ} {hb : b < 2} {hs : s < ns} {ho : o + 128 ≤ 512}
    (v : View sig κ sp (box ns) .f32) (L : List (View.Piece Val (box ns) .f32))
    (hR : (Rect.unit (s := ⟨3, ![ns, 512, 128]⟩) ![s, o, 0] ![1, 128, 128] (by
      intro a; fin_cases a <;> simp <;> omega)).toLoadRect.shape.numel = (load1 ns b s o hb hs ho).shape.numel)
    (i l : Fin 128) :
    LoadRect.valAlong hR (v.readCov L (load1 ns b s o hb hs ho)) (ix3 (0 : Fin 1) i l)
    = View.canon L (ix4 (⟨b, hb⟩ : Fin 2) (⟨s, hs⟩ : Fin ns) (⟨o + i.val, by omega⟩ : Fin 512) l) := by
  rw [View.readCov_eq_canon']
  show View.canon L ((load1 ns b s o hb hs ho).idx (Shape.reshapeEquiv hR (ix3 (0 : Fin 1) i l))) = _
  have e : Shape.reshapeEquiv hR (ix3 (0 : Fin 1) i l) = Fin.cons ⟨0, Nat.one_pos⟩ (ix3 (0 : Fin 1) i l) :=
    Shape.reshapeEquiv_cons_one (d := ![1, 128, 128]) _ _
  rw [e]
  refine congrArg _ (funext fun a => Fin.ext ?_)
  fin_cases a
  · show (b + 0) + 1 * 0 = b; omega
  · show (0 + s) + 1 * 0 = s; omega
  · show (0 + o) + 1 * i.val = o + i.val; omega
  · show (0 + 0) + 1 * l.val = l.val; omega

/-- What a load of a whole slab of the first copy reads. -/
theorem load_slab {sig : RefSig} {κ : Kind} {sp : Space} {ns s : ℕ} (hs : s < ns) (v : View sig κ sp (box ns) .f32)
    (L : List (View.Piece Val (box ns) .f32)) (inb) (r : Fin 512) (l : Fin 128) :
    v.readCov L (Rect.unit (s := box ns) ![0, s, 0, 0] ![1, 1, 512, 128] inb).toLoadRect (ix4 (0 : Fin 1) (0 : Fin 1) r l)
    = View.canon L (ix4 (0 : Fin 2) (⟨s, hs⟩ : Fin ns) r l) := by
  rw [View.readCov_eq_canon']
  refine congrArg _ (funext fun a => Fin.ext ?_)
  fin_cases a
  · rfl
  · show s + 1 * 0 = s; omega
  · show 0 + 1 * r.val = r.val; omega
  · show 0 + 1 * l.val = l.val; omega

end

/-! ## The two permutations -/

section

variable {Val : EltTy → Type} [∀ e, Nonempty (Val e)] (ns : ℕ) (hns : 0 < ns)

/-- The block index `k` of a permuted block, split into its class and its slab. -/
theorem block_eq (k l : ℕ) : k / ns * (128 * ns) + 128 * (k % ns) + l = 128 * k + l := by
  have := Nat.div_add_mod k ns
  calc k / ns * (128 * ns) + 128 * (k % ns) + l = 128 * (ns * (k / ns) + k % ns) + l := by ring
    _ = _ := by rw [this]

/-- Store `k` of the four classes modulo 4: the rows congruent to `k / ns`. -/
def store4 (w : ℕ → (⟨3, ![1, 128, 128]⟩ : Shape).Idx → Val .f32) (k : ℕ) : View.Piece Val (box ns) .f32 :=
  piece ns 0 (k % ns) (k / ns % 4) 128 (by omega) (Nat.mod_lt _ hns) (by omega) (w k)

/-- Store `k` of the sixteen classes modulo 16, into the second copy: class `j` goes to the rows congruent to `j / 4` of the
    quarter `j % 4`. -/
def store16 (w : ℕ → (⟨3, ![1, 32, 128]⟩ : Shape).Idx → Val .f32) (k : ℕ) : View.Piece Val (box ns) .f32 :=
  piece ns 1 (k % ns) (k / ns % 4 * 128 + k / ns / 4 % 4) 32 (by omega) (Nat.mod_lt _ hns) (by omega) (w k)

/-- The permuted block in its own order, from the block's entries. -/
def plain4 {α : Type} (X : ℕ → ℕ → α) (_ s r l : ℕ) : α := X (r / 4) (r % 4 * (128 * ns) + 128 * s + l)

def half16 {α : Type} (X : ℕ → ℕ → α) (s r l : ℕ) : α :=
  X (r % 128 / 4) ((r % 128 % 4 * 4 + r / 128) * (128 * ns) + 128 * s + l)

def plain16 {α : Type} (X : ℕ → ℕ → α) (b s r l : ℕ) : α :=
  if b = 0 then X (r / 16) (r % 16 * (128 * ns) + 128 * s + l) else half16 ns X s r l

include hns in
theorem plain4_read (w : ℕ → (⟨3, ![1, 128, 128]⟩ : Shape).Idx → Val .f32) (X : ℕ → ℕ → Val .f32)
    (hw : ∀ k < 4 * ns, ∀ i l : Fin 128, w k (ix3 (0 : Fin 1) i l) = X i.val (128 * k + l.val))
    (T : List (View.Piece Val (box ns) .f32)) (s : Fin ns) (r : Fin 512) (l : Fin 128) :
    View.canon (lasts (store4 ns hns w) (4 * ns) ++ T) (ix4 (0 : Fin 2) s r l) = plain4 ns X 0 s.val r.val l.val := by
  refine canon_agree (at4 (plain4 ns X)) T _ _ (fun p hp x => ?_) ⟨_, mem_lasts _ (k := ns * (r.val % 4) + s.val) ?_, ?_⟩
  · obtain ⟨k, hk, rfl⟩ := of_mem_lasts _ hp
    refine piece_ok (fun i l => (hw k hk i l).trans ?_) x
    have hq : k / ns < 4 := (Nat.div_lt_iff_lt_mul hns).mpr hk
    have e : ∀ q < 4, (q % 4 + 4 * i.val) / 4 = i.val ∧ (q % 4 + 4 * i.val) % 4 = q := fun q hq => by omega
    unfold plain4
    rw [(e _ hq).1, (e _ hq).2, block_eq]
  · have : ns * (r.val % 4) ≤ ns * 3 := Nat.mul_le_mul_left _ (by omega)
    omega
  · have e1 : (ns * (r.val % 4) + s.val) % ns = s.val := by rw [Nat.mul_add_mod, Nat.mod_eq_of_lt s.isLt]
    have e2 : (ns * (r.val % 4) + s.val) / ns = r.val % 4 := by rw [Nat.mul_add_div hns, Nat.div_eq_of_lt s.isLt, Nat.add_zero]
    refine piece_mem _ rfl e1.symm (r.val / 4) (by omega) ?_
    rw [e2]
    show r.val = _
    omega

/-- The block that store `k` of the first copy takes from the second. -/
def half (k : ℕ) {sig : RefSig} {κ : Kind} {sp : Space} (v : View sig κ sp (box ns) .f32) (L : List (View.Piece Val (box ns) .f32)) :
    (⟨3, ![1, 128, 128]⟩ : Shape).Idx → Val .f32 :=
  LoadRect.valAlong (show _ = (load1 ns 1 (k % ns) (k / ns % 4 * 128) (by omega) (Nat.mod_lt _ hns) (by omega)).shape.numel from
      LoadRect.numel_consLift (Rect.unit (s := ⟨3, ![ns, 512, 128]⟩) ![k % ns, k / ns % 4 * 128, 0] ![1, 128, 128] (by
        have := Nat.mod_lt k hns
        intro a; fin_cases a <;> simp <;> omega)).toLoadRect ![1, ns, 512, 128] rfl (by intro i; fin_cases i <;> rfl))
    (v.readCov L (load1 ns 1 (k % ns) (k / ns % 4 * 128) (by omega) (Nat.mod_lt _ hns) (by omega)))

/-- The first `n` copies into the first copy, each reading what the stores so far left, by the function `f` of a block read. -/
def copies {sig : RefSig} {κ : Kind} {sp : Space} (v : View sig κ sp (box ns) .f32)
    (f : ((⟨3, ![1, 128, 128]⟩ : Shape).Idx → Val .f32) → (⟨3, ![1, 128, 128]⟩ : Shape).Idx → Val .f32) (T : List (View.Piece Val (box ns) .f32)) :
    ℕ → List (View.Piece Val (box ns) .f32)
  | 0 => T
  | n + 1 => store4 ns hns (fun k => f (half ns hns k v (copies v f T n))) n :: copies v f T n

include hns in
/-- What the sixteen classes' stores leave in the second copy, also after stores that agree with it. -/
theorem half16_read (w : ℕ → (⟨3, ![1, 32, 128]⟩ : Shape).Idx → Val .f32) (X : ℕ → ℕ → Val .f32)
    (hw : ∀ k < 16 * ns, ∀ (i : Fin 32) (l : Fin 128), w k (ix3 (0 : Fin 1) i l) = X i.val (128 * k + l.val))
    (A T : List (View.Piece Val (box ns) .f32)) (hA : ∀ p ∈ A, ∀ x : p.1.shape.Idx, p.2 x = at4 (plain16 ns X) (p.1.emb x))
    (s : Fin ns) (r : Fin 512) (l : Fin 128) :
    View.canon (A ++ (lasts (store16 ns hns w) (16 * ns) ++ T)) (ix4 (1 : Fin 2) s r l) = half16 ns X s.val r.val l.val := by
  rw [← List.append_assoc]
  refine (canon_agree (at4 (plain16 ns X)) T _ _ (fun p hp x => ?_)
    ⟨_, List.mem_append_right A (mem_lasts _ (k := ns * (r.val % 4 * 4 + r.val / 128) + s.val) ?_), ?_⟩).trans (if_neg Nat.one_ne_zero)
  · rcases List.mem_append.mp hp with hp | hp
    · exact hA p hp x
    · obtain ⟨k, hk, rfl⟩ := of_mem_lasts _ hp
      refine piece_ok (fun i l => (hw k hk i l).trans ?_) x
      have hq : k / ns < 16 := (Nat.div_lt_iff_lt_mul hns).mpr hk
      have e : ∀ q < 16, (q % 4 * 128 + q / 4 % 4 + 4 * i.val) % 128 / 4 = i.val
          ∧ (q % 4 * 128 + q / 4 % 4 + 4 * i.val) % 128 % 4 * 4 + (q % 4 * 128 + q / 4 % 4 + 4 * i.val) / 128 = q := fun q hq => by
        have a : q / 4 % 4 = q / 4 := Nat.mod_eq_of_lt (by omega)
        have b : q / 4 + 4 * i.val < 128 := by omega
        have m : (q % 4 * 128 + q / 4 % 4 + 4 * i.val) % 128 = q / 4 + 4 * i.val := by omega
        have d : (q % 4 * 128 + q / 4 % 4 + 4 * i.val) / 128 = q % 4 := by omega
        rw [m, d]
        omega
      refine Eq.trans ?_ (if_neg Nat.one_ne_zero).symm
      unfold half16
      rw [(e _ hq).1, (e _ hq).2, block_eq]
  · have : ns * (r.val % 4 * 4 + r.val / 128) ≤ ns * 15 := Nat.mul_le_mul_left _ (by omega)
    omega
  · have e1 : (ns * (r.val % 4 * 4 + r.val / 128) + s.val) % ns = s.val := by rw [Nat.mul_add_mod, Nat.mod_eq_of_lt s.isLt]
    have e2 : (ns * (r.val % 4 * 4 + r.val / 128) + s.val) / ns = r.val % 4 * 4 + r.val / 128 := by
      rw [Nat.mul_add_div hns, Nat.div_eq_of_lt s.isLt, Nat.add_zero]
    refine piece_mem _ rfl e1.symm (r.val % 128 / 4) (by omega) ?_
    have a : r.val / 128 < 4 := by omega
    have b : r.val % 4 < 4 := by omega
    have c : (r.val % 4 * 4 + r.val / 128) / 4 = r.val % 4 := by omega
    rw [e2, show (r.val % 4 * 4 + r.val / 128) % 4 = r.val / 128 by omega, c, Nat.mod_eq_of_lt b]
    show r.val = _
    omega

theorem plain16_read (w : ℕ → (⟨3, ![1, 32, 128]⟩ : Shape).Idx → Val .f32) (X : ℕ → ℕ → Val .f32)
    (hw : ∀ k < 16 * ns, ∀ (i : Fin 32) (l : Fin 128), w k (ix3 (0 : Fin 1) i l) = X i.val (128 * k + l.val))
    {sig : RefSig} {κ : Kind} {sp : Space} (v : View sig κ sp (box ns) .f32)
    (f : ((⟨3, ![1, 128, 128]⟩ : Shape).Idx → Val .f32) → (⟨3, ![1, 128, 128]⟩ : Shape).Idx → Val .f32)
    (hf : ∀ x (i l : Fin 128), f x (ix3 (0 : Fin 1) i l) = x (ix3 (0 : Fin 1) i l))
    (T : List (View.Piece Val (box ns) .f32)) (s : Fin ns) (r : Fin 512) (l : Fin 128) :
    View.canon (copies ns hns v f (lasts (store16 ns hns w) (16 * ns) ++ T) (4 * ns)) (ix4 (0 : Fin 2) s r l)
    = plain16 ns X 0 s.val r.val l.val := by
  have key : ∀ n ≤ 4 * ns, ∃ A, copies ns hns v f (lasts (store16 ns hns w) (16 * ns) ++ T) n = A ++ (lasts (store16 ns hns w) (16 * ns) ++ T)
      ∧ (∀ p ∈ A, ∀ x : p.1.shape.Idx, p.2 x = at4 (plain16 ns X) (p.1.emb x))
      ∧ ∀ k < n, ∃ u, store4 ns hns u k ∈ A := by
    intro n
    induction n with
    | zero => exact fun _ => ⟨[], rfl, fun p hp => absurd hp List.not_mem_nil, fun k hk => absurd hk (Nat.not_lt_zero k)⟩
    | succ n ih =>
      intro hn
      obtain ⟨A, hA, hok, hmem⟩ := ih (by omega)
      refine ⟨store4 ns hns (fun k => f (half ns hns k v (copies ns hns v f (lasts (store16 ns hns w) (16 * ns) ++ T) n))) n :: A,
        congrArg (_ :: ·) hA, fun p hp => ?_, fun k hk => ?_⟩
      · rcases List.mem_cons.mp hp with rfl | hp
        · refine piece_ok fun i l => ?_
          have hq : n / ns < 4 := (Nat.div_lt_iff_lt_mul hns).mpr (by omega)
          refine (hf _ i l).trans ((load1_apply v _ _ i l).trans ?_)
          rw [hA]
          refine (half16_read ns hns w X hw A T hok ⟨n % ns, Nat.mod_lt _ hns⟩ ⟨n / ns % 4 * 128 + i.val, by omega⟩ l).trans ?_
          have e : ∀ q < 4, (q % 4 * 128 + i.val) % 128 / 4 = (q % 4 + 4 * i.val) / 16
            ∧ (q % 4 * 128 + i.val) % 128 % 4 * 4 + (q % 4 * 128 + i.val) / 128 = (q % 4 + 4 * i.val) % 16 := fun q hq => by
            have m : (q % 4 * 128 + i.val) % 128 = i.val := by omega
            have d : (q % 4 * 128 + i.val) / 128 = q % 4 := by omega
            rw [m, d]
            omega
          refine Eq.trans ?_ (if_pos rfl).symm
          unfold half16
          simp only [(e _ hq).1, (e _ hq).2]
        · exact hok p hp
      · rcases Nat.lt_succ_iff_lt_or_eq.mp hk with hk | rfl
        · obtain ⟨u, hu⟩ := hmem k hk
          exact ⟨u, List.mem_cons_of_mem _ hu⟩
        · exact ⟨_, List.mem_cons_self⟩
  obtain ⟨A, hA, hok, hmem⟩ := key (4 * ns) le_rfl
  rw [hA]
  have hk : ns * (r.val % 4) + s.val < 4 * ns := by
    have : ns * (r.val % 4) ≤ ns * 3 := Nat.mul_le_mul_left _ (by omega)
    omega
  obtain ⟨u, hu⟩ := hmem _ hk
  refine canon_agree (at4 (plain16 ns X)) _ _ A hok ⟨_, hu, ?_⟩
  have e1 : (ns * (r.val % 4) + s.val) % ns = s.val := by rw [Nat.mul_add_mod, Nat.mod_eq_of_lt s.isLt]
  have e2 : (ns * (r.val % 4) + s.val) / ns = r.val % 4 := by rw [Nat.mul_add_div hns, Nat.div_eq_of_lt s.isLt, Nat.add_zero]
  refine piece_mem _ rfl e1.symm (r.val / 4) (by omega) ?_
  rw [e2]
  show r.val = _
  omega

end

end Back
end
-- ==== Proof.BackLists.lean ====
/-
  The stores of the layer's last kernel into its two scratch buffers, as the families of the two permutations.
-/
module

public import proofs.«01_k».proof.Proof.BackStore
public import proofs.«01_k».proof.Proof.Gen.Kernel2Ideal.Frame.RunA
public import Idealize.ShloMosaic.Lib.Tactic

@[expose] public section

set_option maxRecDepth 16384

noncomputable section

namespace Back

open Idealize.ShloMosaic Idealize.ShloMosaic.TcCoe Cert.Kernel2Ideal Cert.Kernel2Ideal.Gen

variable {F : FTy → Type} [FloatOps F]

/-- Block `k` of 128 lanes of a permuted block. -/
abbrev blk4 (k : ℕ) : Rect S128x2048 := Rect.unit ![0, 128 * (k % 16)] S128x128.size (by
  intro a; fin_cases a <;> simp [S128x2048, S128x128] <;> omega)
abbrev blk16 (k : ℕ) : Rect S32x8192 := Rect.unit ![0, 128 * (k % 64)] S32x128.size (by
  intro a; fin_cases a <;> simp [S32x8192, S32x128] <;> omega)
abbrev lblk4 (k : ℕ) : Rect S128x512 := Rect.unit ![0, 128 * (k % 4)] S128x128.size (by
  intro a; fin_cases a <;> simp [S128x512, S128x128] <;> omega)
abbrev lblk16 (k : ℕ) : Rect S32x2048 := Rect.unit ![0, 128 * (k % 16)] S32x128.size (by
  intro a; fin_cases a <;> simp [S32x2048, S32x128] <;> omega)

theorem four : 0 < 4 := by decide

/-- The stores of the second and third groups' means. -/
def means4 (X : Vec F S128x2048 .bf16) : List (View.Piece (Elt F) (box 4) .f32) :=
  lasts (store4 4 four fun k => k0_pay61 (View.ld X (blk4 k))) (4 * 4)
def means16 (X : Vec F S128x2048 .bf16) (Y : Vec F S32x8192 .bf16) : List (View.Piece (Elt F) (box 4) .f32) :=
  lasts (store16 4 four fun k => k0_pay139 (View.ld Y (blk16 k))) (16 * 4) ++ means4 X

/-- The stores of the second and third groups' logarithms. -/
def logs4 (X : Vec F S128x512 .f32) : List (View.Piece (Elt F) (box 1) .f32) :=
  lasts (store4 1 Nat.one_pos fun k => k0_pay4 (View.ld X (lblk4 k))) (4 * 1)
def logs16 (X : Vec F S128x512 .f32) (Y : Vec F S32x2048 .f32) : List (View.Piece (Elt F) (box 1) .f32) :=
  lasts (store16 1 Nat.one_pos fun k => k0_pay24 (View.ld Y (lblk16 k))) (16 * 1) ++ logs4 X

section

variable (c : Dev nD) (arg3 : Memref sig .tc .vmem S128x2048 .bf16) (harg3 : arg3.IsWhole) (arg4 : Memref sig .tc .vmem S32x8192 .bf16) (harg4 : arg4.IsWhole)
  (arg6 : Memref sig .tc .vmem S128x512 .f32) (harg6 : arg6.IsWhole) (arg7 : Memref sig .tc .vmem S32x2048 .f32) (harg7 : arg7.IsWhole)
  (arg24 : Memref sig .tc .vmem S2x4x512x128 .f32) (arg25 : Memref sig .tc .vmem S2x1x512x128 .f32)
  (x2 : Vec F S128x2048 .bf16) (x3 : Vec F S32x8192 .bf16) (x5 : Vec F S128x512 .f32) (x6 : Vec F S32x2048 .f32)

theorem means4_eq : kernelRun0_A.sl.HS0_16 c arg3 harg3 x2 = means4 (View.read (Elt F) arg3.view (harg3.unread x2)) := by
  sl_kernel_rfl

theorem means16_eq : kernelRun0_A.sl.HS0_80 c arg3 harg3 arg4 harg4 x2 x3
    = means16 (View.read (Elt F) arg3.view (harg3.unread x2)) (View.read (Elt F) arg4.view (harg4.unread x3)) := by
  sl_kernel_rfl

theorem logs4_eq : kernelRun0_A.sl.HS1_4 c arg6 harg6 x5 = logs4 (View.read (Elt F) arg6.view (harg6.unread x5)) := by
  sl_kernel_rfl

theorem logs16_eq : kernelRun0_A.sl.HS1_20 c arg6 harg6 arg7 harg7 x5 x6
    = logs16 (View.read (Elt F) arg6.view (harg6.unread x5)) (View.read (Elt F) arg7.view (harg7.unread x6)) := by
  sl_kernel_rfl

theorem logsOut_eq : kernelRun0_A.sl.HS1_24 c arg6 harg6 arg7 harg7 arg25 x5 x6
    = copies 1 Nat.one_pos arg25.view k0_pay34 (kernelRun0_A.sl.HS1_20 c arg6 harg6 arg7 harg7 x5 x6) (4 * 1) := by
  sl_kernel_rfl

theorem meansOut_eq : kernelRun0_A.sl.HS0_96 c arg3 harg3 arg4 harg4 arg24 x2 x3
    = copies 4 four arg24.view k0_pay34 (kernelRun0_A.sl.HS0_80 c arg3 harg3 arg4 harg4 x2 x3) (4 * 4) := by
  sl_kernel_rfl

end

end Back
end
-- ==== Proof.BackOut.lean ====
/-
  What the layer's last kernel stores for one block of rows, as one function of what it loads.
-/
module

public import proofs.«01_k».proof.Proof.BackFrame
public import proofs.«01_k».proof.Proof.BackLists

@[expose] public section

set_option maxRecDepth 16384

noncomputable section

namespace Back

open Idealize.ShloMosaic Idealize.ShloMosaic.TcCoe Cert.Kernel2Ideal Cert.Kernel2Ideal.Gen

variable {F : FTy → Type} [FloatOps F]

/-- A block loaded whole. -/
def whole2 {Val : EltTy → Type} {a b : ℕ} {e : EltTy} (X : (⟨2, ![a, b]⟩ : Shape).Idx → Val e) : (⟨2, ![a, b]⟩ : Shape).Idx → Val e :=
  View.ld X (Rect.unit (s := ⟨2, ![a, b]⟩) ![0, 0] ![a, b] (by intro i; fin_cases i <;> simp))

theorem whole2_eq {Val : EltTy → Type} {a b : ℕ} {e : EltTy} (X : (⟨2, ![a, b]⟩ : Shape).Idx → Val e) : whole2 X = X :=
  View.ld_unit_zero (funext fun i => by fin_cases i <;> rfl) _ X

/-- 256 columns of the gate and up matrix, and 256 rows of the down matrix. -/
abbrev gcol (n : ℕ) (hn : n < 22) : Rect S1024x5632 := Rect.unit ![0, 256 * n] S1024x256.size (by
  intro a; fin_cases a <;> simp [S1024x5632, S1024x256] <;> omega)
abbrev drow (n : ℕ) (hn : n < 11) : Rect S2816x1024 := Rect.unit ![256 * n, 0] S256x1024.size (by
  intro a; fin_cases a <;> simp [S2816x1024, S256x1024] <;> omega)

/-- A slab of the first copy of a scratch buffer. -/
abbrev slab (ns s : ℕ) (hs : s < ns) : LoadRect (box ns) := (Rect.unit (s := box ns) ![0, s, 0, 0] ![1, 1, 512, 128] (by
  intro a; fin_cases a <;> simp <;> omega)).toLoadRect

section

variable (h : FVec F S512x1024 .bf16) (x : FVec F S512x1024 .f32) (wgu : Vec F S1024x5632 .bf16) (wd : Vec F S2816x1024 .bf16)

/-- The stream after chunks 1 to 7 of the feed-forward layer, over the stream after chunk 0. -/
def most : FVec F S512x1024 .f32 :=
  k0_pay168 h
    (k0_pay166 h (k0_pay164 h x (View.ld wgu (gcol 1 (by decide))) (View.ld wgu (gcol 12 (by decide))) (View.ld wd (drow 1 (by decide))) (View.ld wgu (gcol 2 (by decide))) (View.ld wgu (gcol 13 (by decide))) (View.ld wd (drow 2 (by decide))))
      (k0_pay165 h (View.ld wgu (gcol 3 (by decide))) (View.ld wgu (gcol 14 (by decide)))) (View.ld wd (drow 3 (by decide))) (View.ld wgu (gcol 4 (by decide))) (View.ld wgu (gcol 15 (by decide))) (View.ld wd (drow 4 (by decide))) (View.ld wgu (gcol 5 (by decide))) (View.ld wgu (gcol 16 (by decide))) (View.ld wd (drow 5 (by decide))))
    (k0_pay167 h (View.ld wgu (gcol 6 (by decide)))) (View.ld wgu (gcol 17 (by decide))) (View.ld wd (drow 6 (by decide))) (View.ld wgu (gcol 7 (by decide))) (View.ld wgu (gcol 18 (by decide))) (View.ld wd (drow 7 (by decide)))

def feed : FVec F S512x1024 .f32 :=
  k0_pay171 h (most h x wgu wd) (k0_pay169 h (View.ld wgu (gcol 8 (by decide))) (View.ld wgu (gcol 19 (by decide)))) (k0_pay170 (View.ld wd (drow 8 (by decide)))) (View.ld wgu (gcol 9 (by decide))) (View.ld wgu (gcol 20 (by decide))) (View.ld wd (drow 9 (by decide))) (View.ld wgu (gcol 10 (by decide))) (View.ld wgu (gcol 21 (by decide))) (View.ld wd (drow 10 (by decide)))

def msq : FVec F S512x1 .f32 :=
  k0_pay173 h (most h x wgu wd) (k0_pay169 h (View.ld wgu (gcol 8 (by decide))) (View.ld wgu (gcol 19 (by decide)))) (k0_pay170 (View.ld wd (drow 8 (by decide)))) (View.ld wgu (gcol 9 (by decide))) (View.ld wgu (gcol 20 (by decide))) (View.ld wd (drow 9 (by decide))) (View.ld wgu (gcol 10 (by decide))) (View.ld wgu (gcol 21 (by decide))) (View.ld wd (drow 10 (by decide)))

/-- The stored block, from the normalised stream `h` and the stream `x` after chunk 0. -/
def fin (p : Vec F S512x256 .f32) (np nl : Vec F S1x1024 .f32) (wpe : Vec F S256x1024 .bf16) (wpg : Vec F S1024x1024 .bf16) : FVec F S512x1024 .f32 :=
  k0_pay1 (feed h x wgu wd) (k0_pay174 (feed h x wgu wd) (k0_pay172 np) (msq h x wgu wd)) (k0_pay175 p) wpe wpg nl

end

/-- The first mixer's gated projection, from the three groups' means and logarithms. -/
def mixer (l1 : Vec F S512x128 .f32) (l4 l16 : Vec F S1x1x512x128 .f32) (o1 : Vec F S512x512 .bf16) (o4 o16 : Fin 4 → Vec F S1x1x512x128 .f32)
    (ex : Vec F S128x512 .bf16) (wa ga : Vec F S512x1024 .bf16) : FVec F S512x1024 .f32 :=
  k0_pay160 (k0_pay39 (k0_pay3 l1) (k0_pay9 l4) l16) (k0_pay40 (k0_pay3 l1) (k0_pay9 l4) l16)
    (k0_pay62 (k0_pay38 (k0_pay3 l1) (k0_pay9 l4) l16) (k0_pay40 (k0_pay3 l1) (k0_pay9 l4) l16)
      (k0_pay42 (k0_pay37 (k0_pay3 l1) (k0_pay9 l4) l16) (k0_pay40 (k0_pay3 l1) (k0_pay9 l4) l16) (k0_pay41 o1) ex)
      (o4 0) (o4 1) (o4 2) (o4 3) ex)
    (o16 0) (o16 1) (o16 2) (o16 3) ex wa ga

/-- The stored block, from what is loaded. -/
def outB (mx : FVec F S512x1024 .f32) (x : Vec F S512x1024 .f32) (yb : Vec F S512x512 .bf16) (gb : Vec F S512x1024 .bf16) (p : Vec F S512x256 .f32)
    (wb : Vec F S512x1024 .bf16) (wo : Vec F S1024x1024 .bf16) (nf np nl : Vec F S1x1024 .f32) (wgu : Vec F S1024x5632 .bf16)
    (wd : Vec F S2816x1024 .bf16) (wpe : Vec F S256x1024 .bf16) (wpg : Vec F S1024x1024 .bf16) : FVec F S512x1024 .f32 :=
  fin (k0_pay162 (k0_pay2 yb wb) mx gb x wo nf)
    (k0_pay163 (k0_pay2 yb wb) mx gb x wo nf (View.ld wgu (gcol 0 (by decide))) (View.ld wgu (gcol 11 (by decide))) (View.ld wd (drow 0 (by decide)))) wgu wd p np nl wpe wpg

theorem out_loads (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S128x2048 .bf16) (harg3 : arg3.IsWhole) (arg4 : Memref sig .tc .vmem S32x8192 .bf16) (harg4 : arg4.IsWhole) (arg5 : Memref sig .tc .vmem S512x128 .f32) (harg5 : arg5.IsWhole) (arg6 : Memref sig .tc .vmem S128x512 .f32) (harg6 : arg6.IsWhole) (arg7 : Memref sig .tc .vmem S32x2048 .f32) (harg7 : arg7.IsWhole) (arg8 : Memref sig .tc .vmem S512x512 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x256 .f32) (harg11 : arg11.IsWhole) (arg12 : Memref sig .tc .vmem S128x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1024x5632 .bf16) (harg19 : arg19.IsWhole) (arg20 : Memref sig .tc .vmem S2816x1024 .bf16) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S512x1024 .f32) (harg23 : arg23.IsWhole) (arg24 : Memref sig .tc .vmem S2x4x512x128 .f32) (harg24 : arg24.IsWhole) (arg25 : Memref sig .tc .vmem S2x1x512x128 .f32) (harg25 : arg25.IsWhole)
    (x0 : Vec F S512x1024 .f32) (x1 : Vec F S512x512 .bf16) (x2 : Vec F S128x2048 .bf16) (x3 : Vec F S32x8192 .bf16) (x4 : Vec F S512x128 .f32) (x5 : Vec F S128x512 .f32) (x6 : Vec F S32x2048 .f32) (x7 : Vec F S512x512 .bf16) (x8 : Vec F S512x1024 .bf16) (x9 : Vec F S512x1024 .bf16) (x10 : Vec F S512x256 .f32) (x11 : Vec F S128x512 .bf16) (x12 : Vec F S512x1024 .bf16) (x13 : Vec F S512x1024 .bf16) (x14 : Vec F S1024x1024 .bf16) (x15 : Vec F S1x1024 .f32) (x16 : Vec F S1x1024 .f32) (x17 : Vec F S1x1024 .f32) (x18 : Vec F S1024x5632 .bf16) (x19 : Vec F S2816x1024 .bf16) (x20 : Vec F S256x1024 .bf16) (x21 : Vec F S1024x1024 .bf16) :
    out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21
    = outB (mixer (whole2 (View.read (Elt F) arg5.view (harg5.unread x4)))
        (arg25.view.readCov (kernelRun0_A.sl.HS1_4 c arg6 harg6 x5) (slab 1 0 (by decide)))
        (arg25.view.readCov (kernelRun0_A.sl.HS1_24 c arg6 harg6 arg7 harg7 arg25 x5 x6) (slab 1 0 (by decide)))
        (whole2 (View.read (Elt F) arg2.view (harg2.unread x1)))
        (fun s => arg24.view.readCov (kernelRun0_A.sl.HS0_16 c arg3 harg3 x2) (slab 4 s.val s.isLt))
        (fun s => arg24.view.readCov (kernelRun0_A.sl.HS0_96 c arg3 harg3 arg4 harg4 arg24 x2 x3) (slab 4 s.val s.isLt))
        (whole2 (View.read (Elt F) arg12.view (harg12.unread x11))) (whole2 (View.read (Elt F) arg13.view (harg13.unread x12))) (whole2 (View.read (Elt F) arg9.view (harg9.unread x8))))
      (whole2 (View.read (Elt F) arg1.view (harg1.unread x0))) (whole2 (View.read (Elt F) arg8.view (harg8.unread x7))) (whole2 (View.read (Elt F) arg10.view (harg10.unread x9))) (whole2 (View.read (Elt F) arg11.view (harg11.unread x10))) (whole2 (View.read (Elt F) arg14.view (harg14.unread x13))) (whole2 (View.read (Elt F) arg15.view (harg15.unread x14))) (whole2 (View.read (Elt F) arg16.view (harg16.unread x15))) (whole2 (View.read (Elt F) arg17.view (harg17.unread x16))) (whole2 (View.read (Elt F) arg18.view (harg18.unread x17))) (View.read (Elt F) arg19.view (harg19.unread x18)) (View.read (Elt F) arg20.view (harg20.unread x19)) (whole2 (View.read (Elt F) arg21.view (harg21.unread x20))) (whole2 (View.read (Elt F) arg22.view (harg22.unread x21))) := by
  refine (View.read_writes_junk_eq_canon _ _).trans ?_
  refine Eq.trans (congrArg View.canon ?_) (View.canon_unit_zero (off := ![0, 0]) (funext fun a => by fin_cases a <;> rfl) (by
    intro a; fin_cases a <;> simp [S512x1024]) _)
  sl_kernel_rfl

end Back
end
-- ==== Proof.BackRow.lean ====
/-
  One row of the merge of the two mixers and of the feed-forward half of the layer, over the extended reals.
-/
module

public import Idealize.ShloMosaic.PureOps.Ideal
public import Idealize.ShloMosaic.Lib.Pointwise
public import Mathlib.Data.EReal.Operations
public import Mathlib.Algebra.BigOperators.Fin

@[expose] public section

noncomputable section

namespace Back

open Idealize.ShloMosaic

/-- The width of the layer and the stabiliser of the mean square, as the programs write them. -/
abbrev width : EReal := Ideal.ofBits FTy.f32 0x44800000#32
abbrev eps : EReal := Ideal.ofBits FTy.f32 0x358637BD#32

/-- A row times a matrix. -/
def mm {K N : ℕ} (v : Fin K → EReal) (W : Fin K → Fin N → EReal) (j : Fin N) : EReal := ∑ k, v k * W k j

/-- A row divided by its root mean square. -/
def rms (v g : Fin 1024 → EReal) (j : Fin 1024) : EReal :=
  v j * Ideal.rsqrt (Ideal.div (∑ k, v k * v k) width + eps) * g j

/-- The weight of one of three groups with base-2 logarithms `l`, before division by the sum. -/
def wt (l : Fin 3 → EReal) (g : Fin 3) : EReal := Ideal.exp2 (l g - max (max (l 0) (l 1)) (l 2))

def inv (l : Fin 3 → EReal) : EReal := Ideal.div 1 (wt l 0 + wt l 1 + wt l 2)

/-- The head of a channel. -/
def headOf (c : Fin 512) : Fin 8 := ⟨c.val / 64, by omega⟩

/-- The three groups' means, weighted. -/
def mixed (l : Fin 3 → Fin 8 → EReal) (o : Fin 3 → Fin 512 → EReal) (c : Fin 512) : EReal :=
  wt (fun g => l g (headOf c)) 0 * inv (fun g => l g (headOf c)) * o 0 c
  + wt (fun g => l g (headOf c)) 1 * inv (fun g => l g (headOf c)) * o 1 c
  + wt (fun g => l g (headOf c)) 2 * inv (fun g => l g (headOf c)) * o 2 c

/-- The two mixers' outputs, gated and projected, added to the residual stream. -/
def merge (x ga gb : Fin 1024 → EReal) (ya yb : Fin 512 → EReal) (wa wb : Fin 512 → Fin 1024 → EReal)
    (wo : Fin 1024 → Fin 1024 → EReal) (j : Fin 1024) : EReal :=
  x j + mm (fun i => ga i * mm ya wa i + gb i * mm yb wb i) wo j

/-- A hidden channel of the feed-forward layer, from its two products. -/
def act (g u : EReal) : EReal := g * Ideal.logistic g * u

def gateCol (i : Fin 2816) : Fin 5632 := ⟨i.val, by omega⟩
def upCol (i : Fin 2816) : Fin 5632 := ⟨2816 + i.val, by omega⟩

def hid (h : Fin 1024 → EReal) (wgu : Fin 1024 → Fin 5632 → EReal) (i : Fin 2816) : EReal :=
  act (mm h wgu (gateCol i)) (mm h wgu (upCol i))

def ffn (x nf : Fin 1024 → EReal) (wgu : Fin 1024 → Fin 5632 → EReal) (wd : Fin 2816 → Fin 1024 → EReal) (j : Fin 1024) : EReal :=
  x j + mm (hid (rms x nf) wgu) wd j

/-- The per-layer embedding, gated by the stream. -/
def ple (x np : Fin 1024 → EReal) (p : Fin 256 → EReal) (wpe : Fin 256 → Fin 1024 → EReal) (wpg : Fin 1024 → Fin 1024 → EReal)
    (j : Fin 1024) : EReal :=
  x j + mm p wpe j * Ideal.logistic (mm (rms x np) wpg j)

/-- The row that the layer leaves. -/
def rowOut (x ga gb : Fin 1024 → EReal) (l : Fin 3 → Fin 8 → EReal) (o : Fin 3 → Fin 512 → EReal) (yb : Fin 512 → EReal)
    (p : Fin 256 → EReal) (wa wb : Fin 512 → Fin 1024 → EReal) (wo : Fin 1024 → Fin 1024 → EReal) (nf np nl : Fin 1024 → EReal)
    (wgu : Fin 1024 → Fin 5632 → EReal) (wd : Fin 2816 → Fin 1024 → EReal) (wpe : Fin 256 → Fin 1024 → EReal)
    (wpg : Fin 1024 → Fin 1024 → EReal) : Fin 1024 → EReal :=
  rms (ple (ffn (merge x ga gb (mixed l o) yb wa wb wo) nf wgu wd) np p wpe wpg) nl

/-- Three values, one of each group. -/
abbrev three (a b c : EReal) : Fin 3 → EReal := ![a, b, c]

/-- The lane that holds a head's logarithm. -/
def lane (h : Fin 8) : Fin 128 := ⟨h.val, by omega⟩

/-- The layer's output from its arguments, at a batch, a position and a channel. -/
def layer (x : (⟨3, ![16, 4096, 1024]⟩ : Shape).Idx → EReal) (o1 o2 o3 : (⟨3, ![16, 4096, 512]⟩ : Shape).Idx → EReal)
    (l1 l2 l3 : (⟨3, ![16, 4096, 128]⟩ : Shape).Idx → EReal) (yb : (⟨3, ![16, 4096, 512]⟩ : Shape).Idx → EReal)
    (ga gb : (⟨3, ![16, 4096, 1024]⟩ : Shape).Idx → EReal) (p : (⟨4, ![1, 16, 4096, 256]⟩ : Shape).Idx → EReal)
    (wa wb : (⟨3, ![1, 512, 1024]⟩ : Shape).Idx → EReal) (wo : (⟨3, ![1, 1024, 1024]⟩ : Shape).Idx → EReal)
    (nf np : (⟨2, ![1, 1024]⟩ : Shape).Idx → EReal) (nl : (⟨1, ![1024]⟩ : Shape).Idx → EReal)
    (wgu : (⟨3, ![1, 1024, 5632]⟩ : Shape).Idx → EReal) (wd : (⟨3, ![1, 2816, 1024]⟩ : Shape).Idx → EReal)
    (wpe : (⟨3, ![1, 256, 1024]⟩ : Shape).Idx → EReal) (wpg : (⟨3, ![1, 1024, 1024]⟩ : Shape).Idx → EReal)
    (b : Fin 16) (s : Fin 4096) : Fin 1024 → EReal :=
  rowOut (fun j => x (ix3 b s j)) (fun j => ga (ix3 b s j)) (fun j => gb (ix3 b s j))
    (fun g h => three (l1 (ix3 b s (lane h))) (l2 (ix3 b s (lane h))) (l3 (ix3 b s (lane h))) g)
    (fun g c => three (o1 (ix3 b s c)) (o2 (ix3 b s c)) (o3 (ix3 b s c)) g) (fun c => yb (ix3 b s c)) (fun k => p (ix4 0 b s k))
    (fun k j => wa (ix3 0 k j)) (fun k j => wb (ix3 0 k j)) (fun k j => wo (ix3 0 k j)) (fun j => nf (ix2 0 j)) (fun j => np (ix2 0 j))
    (fun j => nl (ix1 j)) (fun k j => wgu (ix3 0 k j)) (fun k j => wd (ix3 0 k j)) (fun k j => wpe (ix3 0 k j)) (fun k j => wpg (ix3 0 k j))

end Back
-- ==== Proof.BackPay.lean ====
/-
  The values that the layer's last kernel computes, read at an index.
-/
module

public import proofs.«01_k».proof.Proof.BackRow
public import proofs.«01_k».proof.Proof.Gen.Kernel2Ideal.Skeleton
public import Idealize.ShloMosaic.Lib.Pointwise
public import Idealize.ShloMosaic.PureOps.Ideal.Laws

@[expose] public section

set_option maxRecDepth 16384

noncomputable section

namespace Back

open Idealize.ShloMosaic Idealize.ShloMosaic.TcCoe Cert.Kernel2Ideal Cert.Kernel2Ideal.Gen

/-- A row and a matrix of a block. -/
abbrev row {K N : ℕ} (v : (⟨2, ![K, N]⟩ : Shape).Idx → EReal) (r : Fin K) (j : Fin N) : EReal := v (ix2 r j)

/-- One chunk of the feed-forward layer. -/
def ck (h : Vec Ideal S512x1024 .bf16) (g u : Vec Ideal S1024x256 .bf16) (d : Vec Ideal S256x1024 .bf16) (r : Fin 512) (j : Fin 1024) : EReal :=
  mm (fun k => act (mm (row h r) (row g) k) (mm (row h r) (row u) k)) (row d) j

theorem p163 (v4 v1031 : FVec Ideal S512x1024 .f32) (v1032 : Vec Ideal S512x1024 .bf16) (v1037 : Vec Ideal S512x1024 .f32) (v1040 : Vec Ideal S1024x1024 .bf16) (v1044 : Vec Ideal S1x1024 .f32) (v1059 v1062 : Vec Ideal S1024x256 .bf16) (v1069 : Vec Ideal S256x1024 .bf16) (r : Fin 512) (j : Fin 1024) :
    k0_pay163 v4 v1031 v1032 v1037 v1040 v1044 v1059 v1062 v1069 (ix2 r j)
    = k0_pay161 v4 v1031 v1032 v1037 v1040 (ix2 r j) + ck (k0_pay162 v4 v1031 v1032 v1037 v1040 v1044) v1059 v1062 v1069 r j := by
  unfold k0_pay163
  generalize k0_pay162 v4 v1031 v1032 v1037 v1040 v1044 = h
  generalize k0_pay161 v4 v1031 v1032 v1037 v1040 = x
  pointwise
  rfl

theorem p164 (h : FVec Ideal S512x1024 .bf16) (x : FVec Ideal S512x1024 .f32) (g u : Vec Ideal S1024x256 .bf16) (d : Vec Ideal S256x1024 .bf16) (g' u' : Vec Ideal S1024x256 .bf16) (d' : Vec Ideal S256x1024 .bf16) (r : Fin 512) (j : Fin 1024) :
    k0_pay164 h x g u d g' u' d' (ix2 r j) = x (ix2 r j) + ck h g u d r j + ck h g' u' d' r j := by
  pointwise [k0_pay164]
  rfl

theorem p1 (x : FVec Ideal S512x1024 .f32) (h : FVec Ideal S512x1024 .bf16) (p : FVec Ideal S512x256 .bf16) (wpe : Vec Ideal S256x1024 .bf16) (wpg : Vec Ideal S1024x1024 .bf16) (nl : Vec Ideal S1x1024 .f32) (r : Fin 512) (j : Fin 1024) :
    k0_pay1 x h p wpe wpg nl (ix2 r j)
    = rms (fun j => row x r j + mm (row p r) (row wpe) j * Ideal.logistic (mm (row h r) (row wpg) j)) (row nl 0) j := by
  pointwise [k0_pay1]
  rfl

theorem p165 (h : FVec Ideal S512x1024 .bf16) (g u : Vec Ideal S1024x256 .bf16) (r : Fin 512) (k : Fin 256) :
    k0_pay165 h g u (ix2 r k) = act (mm (row h r) (row g) k) (mm (row h r) (row u) k) := by
  pointwise [k0_pay165]
  rfl

theorem p169 (h : FVec Ideal S512x1024 .bf16) (g u : Vec Ideal S1024x256 .bf16) (r : Fin 512) (k : Fin 256) :
    k0_pay169 h g u (ix2 r k) = act (mm (row h r) (row g) k) (mm (row h r) (row u) k) := by
  pointwise [k0_pay169]
  rfl

theorem p166 (h : FVec Ideal S512x1024 .bf16) (x : FVec Ideal S512x1024 .f32) (a : FVec Ideal S512x256 .f32) (d : Vec Ideal S256x1024 .bf16) (g' u' : Vec Ideal S1024x256 .bf16) (d' : Vec Ideal S256x1024 .bf16) (g2 u2 : Vec Ideal S1024x256 .bf16) (d2 : Vec Ideal S256x1024 .bf16) (r : Fin 512) (j : Fin 1024) :
    k0_pay166 h x a d g' u' d' g2 u2 d2 (ix2 r j) = x (ix2 r j) + mm (row a r) (row d) j + ck h g' u' d' r j + ck h g2 u2 d2 r j := by
  pointwise [k0_pay166]
  rfl

theorem p167 (h : FVec Ideal S512x1024 .bf16) (g : Vec Ideal S1024x256 .bf16) (r : Fin 512) (k : Fin 256) :
    k0_pay167 h g (ix2 r k) = mm (row h r) (row g) k := by
  pointwise [k0_pay167]
  rfl

theorem p168 (h : FVec Ideal S512x1024 .bf16) (x : FVec Ideal S512x1024 .f32) (a : FVec Ideal S512x256 .f32) (u : Vec Ideal S1024x256 .bf16) (d : Vec Ideal S256x1024 .bf16) (g' u' : Vec Ideal S1024x256 .bf16) (d' : Vec Ideal S256x1024 .bf16) (r : Fin 512) (j : Fin 1024) :
    k0_pay168 h x a u d g' u' d' (ix2 r j) = x (ix2 r j) + mm (fun k => act (row a r k) (mm (row h r) (row u) k)) (row d) j + ck h g' u' d' r j := by
  pointwise [k0_pay168]
  rfl

theorem p171 (h : FVec Ideal S512x1024 .bf16) (x : FVec Ideal S512x1024 .f32) (a : FVec Ideal S512x256 .bf16) (d : FVec Ideal S256x1024 .bf16) (g' u' : Vec Ideal S1024x256 .bf16) (d' : Vec Ideal S256x1024 .bf16) (g2 u2 : Vec Ideal S1024x256 .bf16) (d2 : Vec Ideal S256x1024 .bf16) (r : Fin 512) (j : Fin 1024) :
    k0_pay171 h x a d g' u' d' g2 u2 d2 (ix2 r j) = x (ix2 r j) + mm (row a r) (row d) j + ck h g' u' d' r j + ck h g2 u2 d2 r j := by
  pointwise [k0_pay171]
  rfl

theorem p170 (d : Vec Ideal S256x1024 .bf16) (k : Fin 256) (j : Fin 1024) : k0_pay170 d (ix2 k j) = d (ix2 k j) := by
  pointwise [k0_pay170]

theorem p172 (d : Vec Ideal S1x1024 .f32) (k : Fin 1) (j : Fin 1024) : k0_pay172 d (ix2 k j) = d (ix2 k j) := by
  pointwise [k0_pay172]

theorem p175 (p : Vec Ideal S512x256 .f32) (k : Fin 512) (j : Fin 256) : k0_pay175 p (ix2 k j) = p (ix2 k j) := by
  pointwise [k0_pay175]

theorem p173 (h : FVec Ideal S512x1024 .bf16) (x : FVec Ideal S512x1024 .f32) (a : FVec Ideal S512x256 .bf16) (d : FVec Ideal S256x1024 .bf16) (g' u' : Vec Ideal S1024x256 .bf16) (d' : Vec Ideal S256x1024 .bf16) (g2 u2 : Vec Ideal S1024x256 .bf16) (d2 : Vec Ideal S256x1024 .bf16) (r : Fin 512) (z : Fin 1) :
    k0_pay173 h x a d g' u' d' g2 u2 d2 (ix2 r z)
    = Ideal.div (∑ k, k0_pay171 h x a d g' u' d' g2 u2 d2 (ix2 r k) * k0_pay171 h x a d g' u' d' g2 u2 d2 (ix2 r k)) width := by
  unfold k0_pay173
  generalize k0_pay171 h x a d g' u' d' g2 u2 d2 = y
  pointwise

theorem p174 (x : FVec Ideal S512x1024 .f32) (np : FVec Ideal S1x1024 .f32) (q : FVec Ideal S512x1 .f32) (r : Fin 512) (j : Fin 1024) :
    k0_pay174 x np q (ix2 r j) = x (ix2 r j) * Ideal.rsqrt (q (ix2 r 0) + eps) * np (ix2 0 j) := by
  pointwise [k0_pay174]

theorem p162 (v4 v1031 : FVec Ideal S512x1024 .f32) (v1032 : Vec Ideal S512x1024 .bf16) (v1037 : Vec Ideal S512x1024 .f32) (v1040 : Vec Ideal S1024x1024 .bf16) (v1044 : Vec Ideal S1x1024 .f32) (r : Fin 512) (j : Fin 1024) :
    k0_pay162 v4 v1031 v1032 v1037 v1040 v1044 (ix2 r j) = rms (row (k0_pay161 v4 v1031 v1032 v1037 v1040) r) (row v1044 0) j := by
  unfold k0_pay162
  generalize k0_pay161 v4 v1031 v1032 v1037 v1040 = x
  pointwise
  rfl

theorem p161 (b a : FVec Ideal S512x1024 .f32) (gg : Vec Ideal S512x1024 .bf16) (x : Vec Ideal S512x1024 .f32) (wo : Vec Ideal S1024x1024 .bf16) (r : Fin 512) (j : Fin 1024) :
    k0_pay161 b a gg x wo (ix2 r j) = x (ix2 r j) + mm (fun i => row a r i + row gg r i * row b r i) (row wo) j := by
  pointwise [k0_pay161]
  rfl

theorem p2 (yb : Vec Ideal S512x512 .bf16) (wb : Vec Ideal S512x1024 .bf16) (r : Fin 512) (j : Fin 1024) :
    k0_pay2 yb wb (ix2 r j) = mm (row yb r) (row wb) j := by
  pointwise [k0_pay2]
  rfl

/-- Four blocks of 128 channels side by side are the block `N`. -/
def Parts (N : Fin 512 → Fin 512 → EReal) (a : Fin 4 → Vec Ideal S1x1x512x128 .f32) : Prop :=
  ∀ (k : Fin 4) (r : Fin 512) (l : Fin 128), a k (ix4 0 0 r l) = N r ⟨128 * k.val + l.val, by omega⟩

/-- The block read through the four parts. -/
theorem Parts.at {N : Fin 512 → Fin 512 → EReal} {a : Fin 4 → Vec Ideal S1x1x512x128 .f32} (hN : Parts N a) (r c : Fin 512) :
    (if h : c.val < 128 then a 0 (ix4 0 0 r ⟨c.val, h⟩)
     else if h1 : c.val - 128 < 128 then a 1 (ix4 0 0 r ⟨c.val - 128, h1⟩)
     else if h2 : c.val - 128 - 128 < 128 then a 2 (ix4 0 0 r ⟨c.val - 128 - 128, h2⟩)
     else a 3 (ix4 0 0 r ⟨c.val - 128 - 128 - 128, by omega⟩)) = N r c := by
  split_ifs <;> rw [hN] <;> refine congrArg (N r) (Fin.ext ?_) <;> simp <;> omega

theorem p62 (w i : FVec Ideal S512x128 .f32) (y : FVec Ideal S512x512 .f32) (a : Fin 4 → Vec Ideal S1x1x512x128 .f32) (ex : Vec Ideal S128x512 .bf16)
    (N : Fin 512 → Fin 512 → EReal) (hN : Parts N a) (r c : Fin 512) :
    k0_pay62 w i y (a 0) (a 1) (a 2) (a 3) ex (ix2 r c) = y (ix2 r c) + mm (fun h => row w r h * row i r h) (row ex) c * N r c := by
  pointwise [k0_pay62]
  exact congrArg (fun v => y (ix2 r c) + mm (fun h => row w r h * row i r h) (row ex) c * v) (hN.at r c)

theorem p160 (w i : FVec Ideal S512x128 .f32) (y : FVec Ideal S512x512 .f32) (a : Fin 4 → Vec Ideal S1x1x512x128 .f32) (ex : Vec Ideal S128x512 .bf16)
    (wa ga : Vec Ideal S512x1024 .bf16)
    (N : Fin 512 → Fin 512 → EReal) (hN : Parts N a) (r : Fin 512) (j : Fin 1024) :
    k0_pay160 w i y (a 0) (a 1) (a 2) (a 3) ex wa ga (ix2 r j)
    = row ga r j * mm (fun c => y (ix2 r c) + mm (fun h => row w r h * row i r h) (row ex) c * N r c) (row wa) j := by
  pointwise [k0_pay160]
  refine congrArg (row ga r j * ·) (Finset.sum_congr rfl fun c _ => congrArg (· * _) ?_)
  exact congrArg (fun v => y (ix2 r c) + mm (fun h => row w r h * row i r h) (row ex) c * v) (hN.at r c)

theorem p42 (w i : FVec Ideal S512x128 .f32) (o : FVec Ideal S512x512 .bf16) (ex : Vec Ideal S128x512 .bf16) (r c : Fin 512) :
    k0_pay42 w i o ex (ix2 r c) = mm (fun h => row w r h * row i r h) (row ex) c * o (ix2 r c) := by
  pointwise [k0_pay42]
  rfl

theorem p41 (o : Vec Ideal S512x512 .bf16) (r c : Fin 512) : k0_pay41 o (ix2 r c) = o (ix2 r c) := by
  pointwise [k0_pay41]

theorem p3 (o : Vec Ideal S512x128 .f32) (r : Fin 512) (c : Fin 128) : k0_pay3 o (ix2 r c) = o (ix2 r c) := by
  pointwise [k0_pay3]

theorem p9 (o : Vec Ideal S1x1x512x128 .f32) (r : Fin 512) (c : Fin 128) : k0_pay9 o (ix2 r c) = o (ix4 0 0 r c) := by
  pointwise [k0_pay9]

section

variable (a b : FVec Ideal S512x128 .f32) (c : Vec Ideal S1x1x512x128 .f32) (r : Fin 512) (h : Fin 128)

theorem p37 : k0_pay37 a b c (ix2 r h) = wt (three (a (ix2 r h)) (b (ix2 r h)) (c (ix4 0 0 r h))) 0 := by
  pointwise [k0_pay37, k0_pay36, k0_pay35]
  rfl

theorem p38 : k0_pay38 a b c (ix2 r h) = wt (three (a (ix2 r h)) (b (ix2 r h)) (c (ix4 0 0 r h))) 1 := by
  pointwise [k0_pay38, k0_pay36, k0_pay35]
  rfl

theorem p39 : k0_pay39 a b c (ix2 r h) = wt (three (a (ix2 r h)) (b (ix2 r h)) (c (ix4 0 0 r h))) 2 := by
  pointwise [k0_pay39, k0_pay36, k0_pay35]
  rfl

theorem p40 : k0_pay40 a b c (ix2 r h) = inv (three (a (ix2 r h)) (b (ix2 r h)) (c (ix4 0 0 r h))) := by
  unfold inv
  rw [← p37, ← p38, ← p39]
  unfold k0_pay40
  generalize k0_pay37 a b c = x
  generalize k0_pay38 a b c = y
  generalize k0_pay39 a b c = z
  pointwise

end

end Back
-- ==== Proof.BackPoint.lean ====
/-
  The block that the layer's last kernel stores, one row of it at a time.
-/
module

public import proofs.«01_k».proof.Proof.BackOut
public import proofs.«01_k».proof.Proof.BackPay
public import Mathlib.Logic.Equiv.Fin.Basic
public import Idealize.ShloMosaic.Lib.Pipeline.ValueKit.Point

@[expose] public section

set_option maxRecDepth 16384

noncomputable section

namespace Back

open Idealize.ShloMosaic Idealize.ShloMosaic.TcCoe Cert.Kernel2Ideal Cert.Kernel2Ideal.Gen

/-! ## The feed-forward layer -/

section

variable (h : FVec Ideal S512x1024 .bf16) (x : FVec Ideal S512x1024 .f32) (wgu : Vec Ideal S1024x5632 .bf16) (wd : Vec Ideal S2816x1024 .bf16)

theorem ld_gcol (n : ℕ) (hn : n < 22) (k : Fin 1024) (l : Fin 256) :
    View.ld wgu (gcol n hn) (ix2 k l : S1024x256.Idx) = wgu (ix2 k ⟨256 * n + l.val, by omega⟩ : S1024x5632.Idx) :=
  View.ld_unit_apply_of wgu _ _ _ _ _ fun a => by fin_cases a <;> simp

theorem ld_drow (n : ℕ) (hn : n < 11) (k : Fin 256) (l : Fin 1024) :
    View.ld wd (drow n hn) (ix2 k l : S256x1024.Idx) = wd (ix2 ⟨256 * n + k.val, by omega⟩ l : S2816x1024.Idx) :=
  View.ld_unit_apply_of wd _ _ _ _ _ fun a => by fin_cases a <;> simp

/-- What chunk `n` adds to a channel of the stream. -/
def chunk (v : Fin 1024 → EReal) (j : Fin 1024) (n : Fin 11) : EReal :=
  ∑ k : Fin 256, hid v (row wgu) ⟨256 * n.val + k.val, by omega⟩ * row wd ⟨256 * n.val + k.val, by omega⟩ j

theorem ck_ld (n : ℕ) (hn : n < 11) (m : ℕ) (hm : m < 22) (e : m = 11 + n) (r : Fin 512) (j : Fin 1024) :
    ck h (View.ld wgu (gcol n (by omega))) (View.ld wgu (gcol m hm)) (View.ld wd (drow n hn)) r j = chunk wgu wd (row h r) j ⟨n, hn⟩ := by
  subst e
  unfold ck chunk
  refine Finset.sum_congr rfl fun k _ => ?_
  refine congrArg₂ (fun a b : EReal => a * b) ?_ (ld_drow wd n hn k j)
  unfold hid
  refine congrArg₂ act (Finset.sum_congr rfl fun i _ => congrArg (fun a : EReal => row h r i * a) ((ld_gcol wgu n (by omega) i k).trans ?_))
    (Finset.sum_congr rfl fun i _ => congrArg (fun a : EReal => row h r i * a) ((ld_gcol wgu (11 + n) hm i k).trans ?_))
  · rfl
  · refine congrArg wgu (congrArg (ix2 i) (Fin.ext ?_))
    show 256 * (11 + n) + k.val = 2816 + (256 * n + k.val)
    omega

theorem e169 (g u : Vec Ideal S1024x256 .bf16) (d : Vec Ideal S256x1024 .bf16) (r : Fin 512) (j : Fin 1024) :
    mm (row (k0_pay169 h g u) r) (row (k0_pay170 d)) j = ck h g u d r j :=
  Finset.sum_congr rfl fun k _ => congrArg₂ (fun a b : EReal => a * b) (p169 h g u r k) (p170 d k j)

theorem e165 (g u : Vec Ideal S1024x256 .bf16) (d : Vec Ideal S256x1024 .bf16) (r : Fin 512) (j : Fin 1024) :
    mm (row (k0_pay165 h g u) r) (row d) j = ck h g u d r j :=
  Finset.sum_congr rfl fun k _ => congrArg (fun a : EReal => a * row d k j) (p165 h g u r k)

theorem e167 (g u : Vec Ideal S1024x256 .bf16) (d : Vec Ideal S256x1024 .bf16) (r : Fin 512) (j : Fin 1024) :
    mm (fun k => act (row (k0_pay167 h g) r k) (mm (row h r) (row u) k)) (row d) j = ck h g u d r j :=
  Finset.sum_congr rfl fun k _ => congrArg (fun a : EReal => act a (mm (row h r) (row u) k) * row d k j) (p167 h g r k)

theorem most_row (r : Fin 512) (j : Fin 1024) : most h x wgu wd (ix2 r j)
    = x (ix2 r j) + chunk wgu wd (row h r) j 1 + chunk wgu wd (row h r) j 2 + chunk wgu wd (row h r) j 3 + chunk wgu wd (row h r) j 4
      + chunk wgu wd (row h r) j 5 + chunk wgu wd (row h r) j 6 + chunk wgu wd (row h r) j 7 := by
  unfold most
  rw [p168, e167, p166, e165, p164]
  rw [ck_ld h wgu wd 1 _ 12 _ rfl, ck_ld h wgu wd 2 _ 13 _ rfl, ck_ld h wgu wd 3 _ 14 _ rfl, ck_ld h wgu wd 4 _ 15 _ rfl,
    ck_ld h wgu wd 5 _ 16 _ rfl, ck_ld h wgu wd 6 _ 17 _ rfl, ck_ld h wgu wd 7 _ 18 _ rfl]
  rfl

theorem feed_row (r : Fin 512) (j : Fin 1024) : feed h x wgu wd (ix2 r j)
    = x (ix2 r j) + chunk wgu wd (row h r) j 1 + chunk wgu wd (row h r) j 2 + chunk wgu wd (row h r) j 3 + chunk wgu wd (row h r) j 4
      + chunk wgu wd (row h r) j 5 + chunk wgu wd (row h r) j 6 + chunk wgu wd (row h r) j 7 + chunk wgu wd (row h r) j 8
      + chunk wgu wd (row h r) j 9 + chunk wgu wd (row h r) j 10 := by
  unfold feed
  rw [p171, e169, most_row]
  rw [ck_ld h wgu wd 8 _ 19 _ rfl, ck_ld h wgu wd 9 _ 20 _ rfl, ck_ld h wgu wd 10 _ 21 _ rfl]
  rfl

theorem sum_chunks (f : Fin 2816 → EReal) :
    ∑ i, f i = ∑ n : Fin 11, ∑ k : Fin 256, f ⟨256 * n.val + k.val, by omega⟩ := by
  rw [← Fintype.sum_prod_type']
  refine (Fintype.sum_equiv (finProdFinEquiv (m := 11) (n := 256)) _ _ fun p => ?_).symm
  refine congrArg f (Fin.ext ?_)
  show 256 * p.1.val + p.2.val = p.2.val + 256 * p.1.val
  omega

/-- The stream after the feed-forward layer. -/
theorem feed_all (s nf : Fin 1024 → EReal) (r : Fin 512) (hh : row h r = rms s nf)
    (hx : ∀ j, x (ix2 r j) = s j + chunk wgu wd (row h r) j 0) : row (feed h x wgu wd) r = ffn s nf (row wgu) (row wd) := by
  funext j
  refine (feed_row h x wgu wd r j).trans ?_
  rw [hx, hh]
  unfold ffn mm
  rw [sum_chunks]
  have e : (∑ n : Fin 11, ∑ k : Fin 256, hid (rms s nf) (row wgu) ⟨256 * n.val + k.val, by omega⟩ * row wd ⟨256 * n.val + k.val, by omega⟩ j)
      = ∑ n : Fin 11, chunk wgu wd (rms s nf) j n := rfl
  rw [e]
  generalize chunk wgu wd (rms s nf) j = C
  simp only [Fin.sum_univ_succ, Fin.sum_univ_zero, add_assoc, add_zero]
  rfl

theorem msq_row (r : Fin 512) (z : Fin 1) : msq h x wgu wd (ix2 r z)
    = Ideal.div (∑ k, feed h x wgu wd (ix2 r k) * feed h x wgu wd (ix2 r k)) width :=
  p173 h (most h x wgu wd) _ _ _ _ _ _ _ _ r z

theorem fin_row (p : Vec Ideal S512x256 .f32) (np nl : Vec Ideal S1x1024 .f32) (wpe : Vec Ideal S256x1024 .bf16) (wpg : Vec Ideal S1024x1024 .bf16)
    (r : Fin 512) (j : Fin 1024) :
    fin h x wgu wd p np nl wpe wpg (ix2 r j)
    = rms (ple (row (feed h x wgu wd) r) (row np 0) (row p r) (row wpe) (row wpg)) (row nl 0) j := by
  unfold fin
  refine (p1 _ _ _ _ _ _ r j).trans ?_
  refine congrArg (fun v => rms v (row nl 0) j) (funext fun i => ?_)
  unfold ple
  have e1 : row (k0_pay175 p) r = row p r := funext fun k => p175 p r k
  have e2 : row (k0_pay174 (feed h x wgu wd) (k0_pay172 np) (msq h x wgu wd)) r = rms (row (feed h x wgu wd) r) (row np 0) := by
    funext k
    refine (p174 _ _ _ r k).trans ?_
    rw [msq_row, p172]
    rfl
  rw [e1, e2]

end

/-- The stored row, from the row of the first mixer. -/
theorem outB_row (mx : FVec Ideal S512x1024 .f32) (x : Vec Ideal S512x1024 .f32) (yb : Vec Ideal S512x512 .bf16) (gb : Vec Ideal S512x1024 .bf16)
    (p : Vec Ideal S512x256 .f32) (wb : Vec Ideal S512x1024 .bf16) (wo : Vec Ideal S1024x1024 .bf16) (nf np nl : Vec Ideal S1x1024 .f32)
    (wgu : Vec Ideal S1024x5632 .bf16) (wd : Vec Ideal S2816x1024 .bf16) (wpe : Vec Ideal S256x1024 .bf16) (wpg : Vec Ideal S1024x1024 .bf16)
    (r : Fin 512) (ga : Fin 1024 → EReal) (ya : Fin 512 → EReal) (wa : Fin 512 → Fin 1024 → EReal)
    (hmx : row mx r = fun i => ga i * mm ya wa i) (j : Fin 1024) :
    outB mx x yb gb p wb wo nf np nl wgu wd wpe wpg (ix2 r j)
    = rms (ple (ffn (merge (row x r) ga (row gb r) ya (row yb r) wa (row wb) (row wo)) (row nf 0) (row wgu) (row wd)) (row np 0) (row p r)
        (row wpe) (row wpg)) (row nl 0) j := by
  unfold outB
  refine (fin_row _ _ _ _ _ _ _ _ _ r j).trans ?_
  have e : row (k0_pay161 (k0_pay2 yb wb) mx gb x wo) r = merge (row x r) ga (row gb r) ya (row yb r) wa (row wb) (row wo) := by
    funext k
    refine (p161 _ _ _ _ _ r k).trans ?_
    rw [hmx]
    have e2 : row (k0_pay2 yb wb) r = mm (row yb r) (row wb) := funext fun i => p2 yb wb r i
    rw [e2]
    rfl
  refine congrArg (fun v => rms (ple v (row np 0) (row p r) (row wpe) (row wpg)) (row nl 0) j) ?_
  refine feed_all _ _ _ _ _ (row nf 0) r ?_ ?_
  · funext k
    refine (p162 _ _ _ _ _ _ r k).trans ?_
    rw [e]
  · intro k
    refine (p163 _ _ _ _ _ _ _ _ _ r k).trans ?_
    rw [ck_ld _ wgu wd 0 _ 11 _ rfl, ← e]
    rfl

/-! ## The first mixer -/

theorem spread (f : Fin 128 → EReal) (ex : Vec Ideal S128x512 .bf16) (hex : ∀ h c, ex (ix2 h c) = if c.val / 64 = h.val then (1 : EReal) else 0)
    (c : Fin 512) : mm f (row ex) c = f (lane (headOf c)) := by
  unfold mm
  refine (Finset.sum_eq_single (lane (headOf c)) (fun h _ hn => ?_) (fun hn => absurd (Finset.mem_univ _) hn)).trans ?_
  · refine (congrArg (fun a : EReal => f h * a) ((hex h c).trans (if_neg fun e => hn (Fin.ext e.symm)))).trans ?_
    exact mul_zero _
  · refine (congrArg (fun a : EReal => f (lane (headOf c)) * a) ((hex (lane (headOf c)) c).trans (if_pos rfl))).trans ?_
    exact mul_one _

theorem mixer_row (l1 : Vec Ideal S512x128 .f32) (l4 l16 : Vec Ideal S1x1x512x128 .f32) (o1 : Vec Ideal S512x512 .bf16)
    (o4 o16 : Fin 4 → Vec Ideal S1x1x512x128 .f32) (ex : Vec Ideal S128x512 .bf16) (wa ga : Vec Ideal S512x1024 .bf16)
    (hex : ∀ h c, ex (ix2 h c) = if c.val / 64 = h.val then (1 : EReal) else 0)
    (N4 N16 : Fin 512 → Fin 512 → EReal) (h4 : Parts N4 o4) (h16 : Parts N16 o16) (r : Fin 512) :
    row (mixer l1 l4 l16 o1 o4 o16 ex wa ga) r
    = fun i => row ga r i * mm (mixed (fun g h => three (l1 (ix2 r (lane h))) (l4 (ix4 0 0 r (lane h))) (l16 (ix4 0 0 r (lane h))) g)
        (fun g c => ![row o1 r c, N4 r c, N16 r c] g)) (row wa) i := by
  funext i
  unfold mixer
  refine (p160 _ _ _ o16 ex wa ga N16 h16 r i).trans ?_
  refine congrArg (fun v => row ga r i * mm v (row wa) i) (funext fun c => ?_)
  rw [p62 _ _ _ o4 ex N4 h4 r c, p42, spread _ ex hex, spread _ ex hex, spread _ ex hex]
  unfold row
  rw [p37, p38, p39, p40, p41, p3, p9]
  rfl

end Back
end
-- ==== Proof.BackSlab.lean ====
/-
  What the loads of the two scratch buffers read, in terms of the permuted blocks.
-/
module

public import proofs.«01_k».proof.Proof.BackLists
public import proofs.«01_k».proof.Proof.BackOut
public import Idealize.ShloMosaic.Lib.Pointwise
public import Idealize.ShloMosaic.PureOps.Ideal.Laws
public import Idealize.ShloMosaic.Lib.Pipeline.ValueKit.Point

@[expose] public section

set_option maxRecDepth 16384

noncomputable section

namespace Back

open Idealize.ShloMosaic Idealize.ShloMosaic.TcCoe Cert.Kernel2Ideal Cert.Kernel2Ideal.Gen

/-- A block over all natural numbers. -/
def wide {a b : ℕ} (X : (⟨2, ![a, b]⟩ : Shape).Idx → EReal) (i j : ℕ) : EReal :=
  if h : i < a ∧ j < b then X (ix2 ⟨i, h.1⟩ ⟨j, h.2⟩) else 0

theorem wide_eq {a b : ℕ} (X : (⟨2, ![a, b]⟩ : Shape).Idx → EReal) (i : Fin a) (j : Fin b) : wide X i.val j.val = X (ix2 i j) :=
  dif_pos ⟨i.isLt, j.isLt⟩

theorem p61 (x : Vec Ideal S128x128 .bf16) (i l : Fin 128) : k0_pay61 x (ix3 0 i l) = x (ix2 i l) := by pointwise [k0_pay61]
theorem p139 (x : Vec Ideal S32x128 .bf16) (i : Fin 32) (l : Fin 128) : k0_pay139 x (ix3 0 i l) = x (ix2 i l) := by pointwise [k0_pay139]
theorem p4 (x : Vec Ideal S128x128 .f32) (i l : Fin 128) : k0_pay4 x (ix3 0 i l) = x (ix2 i l) := by pointwise [k0_pay4]
theorem p24 (x : Vec Ideal S32x128 .f32) (i : Fin 32) (l : Fin 128) : k0_pay24 x (ix3 0 i l) = x (ix2 i l) := by pointwise [k0_pay24]
theorem p34 (x : Vec Ideal S1x128x128 .f32) (i l : Fin 128) : k0_pay34 x (ix3 0 i l) = x (ix3 0 i l) := by pointwise [k0_pay34]

theorem ld_blk {a n k q : ℕ} {e : EltTy} (X : Vec Ideal (⟨2, ![a, 128 * n]⟩ : Shape) e) (hk : k < n) (inb)
    (i : Fin a) (l : Fin 128) (hq : q = k % n) :
    View.ld X (Rect.unit (s := ⟨2, ![a, 128 * n]⟩) ![0, 128 * q] ![a, 128] inb) (ix2 i l) = X (ix2 i ⟨128 * k + l.val, by omega⟩) := by
  rw [Nat.mod_eq_of_lt hk] at hq
  subst hq
  exact View.ld_unit_apply_of X _ _ _ _ _ fun a => by fin_cases a <;> simp

section

variable (v : View sig .tc .vmem (box 4) .f32) (u : View sig .tc .vmem (box 1) .f32)

theorem means4_slab (X : Vec Ideal S128x2048 .bf16) (s : ℕ) (hs : s < 4) (r : Fin 512) (l : Fin 128) :
    v.readCov (means4 X) (slab 4 s hs) (ix4 0 0 r l)
    = X (ix2 (⟨r.val / 4, by omega⟩ : Fin 128) (⟨r.val % 4 * 512 + (128 * s + l.val), by omega⟩ : Fin 2048)) := by
  refine (load_slab hs v (means4 X) _ r l).trans ?_
  refine (congrArg (fun L => View.canon L _) (List.append_nil _).symm).trans ?_
  refine (plain4_read 4 four _ (wide X) (fun k hk i l => (p61 _ i l).trans ?_) [] ⟨s, hs⟩ r l).trans ?_
  · exact (ld_blk (n := 16) X hk _ i l rfl).trans (wide_eq X i ⟨128 * k + l.val, by omega⟩).symm
  · refine Eq.trans ?_ (wide_eq X _ _)
    show wide X _ _ = _
    refine congrArg (wide X _) ?_
    show r.val % 4 * (128 * 4) + 128 * s + l.val = r.val % 4 * 512 + (128 * s + l.val)
    omega

theorem logs4_slab (X : Vec Ideal S128x512 .f32) (r : Fin 512) (l : Fin 128) :
    u.readCov (logs4 X) (slab 1 0 Nat.one_pos) (ix4 0 0 r l)
    = X (ix2 (⟨r.val / 4, by omega⟩ : Fin 128) (⟨r.val % 4 * 128 + l.val, by omega⟩ : Fin 512)) := by
  refine (load_slab Nat.one_pos u (logs4 X) _ r l).trans ?_
  refine (congrArg (fun L => View.canon L _) (List.append_nil _).symm).trans ?_
  refine (plain4_read 1 Nat.one_pos _ (wide X) (fun k hk i l => (p4 _ i l).trans ?_) [] ⟨0, Nat.one_pos⟩ r l).trans ?_
  · exact (ld_blk (n := 4) X hk _ i l rfl).trans (wide_eq X i ⟨128 * k + l.val, by omega⟩).symm
  · refine Eq.trans ?_ (wide_eq X _ _)
    show wide X _ _ = _
    refine congrArg (wide X _) ?_
    show r.val % 4 * (128 * 1) + 128 * 0 + l.val = r.val % 4 * 128 + l.val
    omega

theorem means16_slab (X : Vec Ideal S128x2048 .bf16) (Y : Vec Ideal S32x8192 .bf16) (s : ℕ) (hs : s < 4) (r : Fin 512) (l : Fin 128) :
    v.readCov (copies 4 four v k0_pay34 (means16 X Y) (4 * 4)) (slab 4 s hs) (ix4 0 0 r l)
    = Y (ix2 (⟨r.val / 16, by omega⟩ : Fin 32) (⟨r.val % 16 * 512 + (128 * s + l.val), by omega⟩ : Fin 8192)) := by
  refine (load_slab hs v (copies 4 four v k0_pay34 (means16 X Y) (4 * 4)) _ r l).trans ?_
  refine (plain16_read 4 four _ (wide Y) (fun k hk i l => (p139 _ i l).trans ?_) v k0_pay34 p34 (means4 X) ⟨s, hs⟩ r l).trans ?_
  · exact (ld_blk (n := 64) Y hk _ i l rfl).trans (wide_eq Y i ⟨128 * k + l.val, by omega⟩).symm
  · refine Eq.trans ?_ (wide_eq Y _ _)
    show wide Y _ _ = _
    refine congrArg (wide Y _) ?_
    show r.val % 16 * (128 * 4) + 128 * s + l.val = r.val % 16 * 512 + (128 * s + l.val)
    omega

theorem logs16_slab (X : Vec Ideal S128x512 .f32) (Y : Vec Ideal S32x2048 .f32) (r : Fin 512) (l : Fin 128) :
    u.readCov (copies 1 Nat.one_pos u k0_pay34 (logs16 X Y) (4 * 1)) (slab 1 0 Nat.one_pos) (ix4 0 0 r l)
    = Y (ix2 (⟨r.val / 16, by omega⟩ : Fin 32) (⟨r.val % 16 * 128 + l.val, by omega⟩ : Fin 2048)) := by
  refine (load_slab Nat.one_pos u (copies 1 Nat.one_pos u k0_pay34 (logs16 X Y) (4 * 1)) _ r l).trans ?_
  refine (plain16_read 1 Nat.one_pos _ (wide Y) (fun k hk i l => (p24 _ i l).trans ?_) u k0_pay34 p34 (logs4 X) ⟨0, Nat.one_pos⟩ r l).trans ?_
  · exact (ld_blk (n := 16) Y hk _ i l rfl).trans (wide_eq Y i ⟨128 * k + l.val, by omega⟩).symm
  · refine Eq.trans ?_ (wide_eq Y _ _)
    show wide Y _ _ = _
    refine congrArg (wide Y _) ?_
    show r.val % 16 * (128 * 1) + 128 * 0 + l.val = r.val % 16 * 128 + l.val
    omega

end

end Back
end
-- ==== Proof.BackHost.lean ====
/-
  The operands of the layer's last kernel, as the host prepares them.
-/
module

public import proofs.«01_k».proof.Proof.BackFrame
public import Idealize.ShloMosaic.Lib.StableHlo.RunRead
public import Idealize.ShloMosaic.Lib.StableHlo.ReadAt
public import Idealize.ShloMosaic.Lib.Pipeline.ValueKit.Point
public import Idealize.ShloMosaic.Lib.Pointwise
public import Idealize.ShloMosaic.PureOps.Ideal.Laws

@[expose] public section

set_option maxRecDepth 16384

noncomputable section

namespace Back

open Idealize.ShloMosaic Idealize.ShloMosaic.TcCoe Cert.Kernel2Ideal Cert.Kernel2Ideal.Gen Idealize.SL.Sem

variable (m : (ℓ : Loc nD Cert.Kernel2Ideal.τ sig) → Buf (Elt Ideal) ℓ) (c : Dev nD)

theorem V_v9 (r : Fin 65536) (j : Fin 1024) :
    V m c main_v9 (ix2 r j : S65536x1024.Idx) = m ((c : Thread nD Cert.Kernel2Ideal.τ).loc main_arg0) (ix3 ⟨r.val / 4096, by omega⟩ ⟨r.val % 4096, by omega⟩ j : S16x4096x1024.Idx) := by
  simp only [V, hostOps0, hostOps0_1, hostOps0_2, hostOps0_3, hostOps0_4, List.flatten_cons, List.flatten_nil, List.cons_append, List.append_nil, List.nil_append]
  after_reads_at

theorem V_v1 (r : Fin 65536) (j : Fin 512) :
    V m c main_v1 (ix2 r j : S65536x512.Idx) = m ((c : Thread nD Cert.Kernel2Ideal.τ).loc main_arg1) (ix3 ⟨r.val / 4096, by omega⟩ ⟨r.val % 4096, by omega⟩ j : S16x4096x512.Idx) := by
  simp only [V, hostOps0, hostOps0_1, hostOps0_2, hostOps0_3, hostOps0_4, List.flatten_cons, List.flatten_nil, List.cons_append, List.append_nil, List.nil_append]
  after_reads_at

theorem V_v6 (r : Fin 65536) (j : Fin 128) :
    V m c main_v6 (ix2 r j : S65536x128.Idx) = m ((c : Thread nD Cert.Kernel2Ideal.τ).loc main_arg4) (ix3 ⟨r.val / 4096, by omega⟩ ⟨r.val % 4096, by omega⟩ j : S16x4096x128.Idx) := by
  simp only [V, hostOps0, hostOps0_1, hostOps0_2, hostOps0_3, hostOps0_4, List.flatten_cons, List.flatten_nil, List.cons_append, List.append_nil, List.nil_append]
  after_reads_at

theorem V_v11 (r : Fin 65536) (j : Fin 512) :
    V m c main_v11 (ix2 r j : S65536x512.Idx) = m ((c : Thread nD Cert.Kernel2Ideal.τ).loc main_arg7) (ix3 ⟨r.val / 4096, by omega⟩ ⟨r.val % 4096, by omega⟩ j : S16x4096x512.Idx) := by
  simp only [V, hostOps0, hostOps0_1, hostOps0_2, hostOps0_3, hostOps0_4, List.flatten_cons, List.flatten_nil, List.cons_append, List.append_nil, List.nil_append]
  after_reads_at

theorem V_v13 (r : Fin 65536) (j : Fin 1024) :
    V m c main_v13 (ix2 r j : S65536x1024.Idx) = m ((c : Thread nD Cert.Kernel2Ideal.τ).loc main_arg8) (ix3 ⟨r.val / 4096, by omega⟩ ⟨r.val % 4096, by omega⟩ j : S16x4096x1024.Idx) := by
  simp only [V, hostOps0, hostOps0_1, hostOps0_2, hostOps0_3, hostOps0_4, List.flatten_cons, List.flatten_nil, List.cons_append, List.append_nil, List.nil_append]
  after_reads_at

theorem V_v15 (r : Fin 65536) (j : Fin 1024) :
    V m c main_v15 (ix2 r j : S65536x1024.Idx) = m ((c : Thread nD Cert.Kernel2Ideal.τ).loc main_arg9) (ix3 ⟨r.val / 4096, by omega⟩ ⟨r.val % 4096, by omega⟩ j : S16x4096x1024.Idx) := by
  simp only [V, hostOps0, hostOps0_1, hostOps0_2, hostOps0_3, hostOps0_4, List.flatten_cons, List.flatten_nil, List.cons_append, List.append_nil, List.nil_append]
  after_reads_at

theorem V_v3 (q : Fin 16384) (j : Fin 2048) :
    V m c main_v3 (ix2 q j : S16384x2048.Idx) = m ((c : Thread nD Cert.Kernel2Ideal.τ).loc main_arg2) (ix3 ⟨q.val / 1024, by omega⟩ ⟨q.val % 1024 * 4 + j.val / 512, by omega⟩ ⟨j.val % 512, by omega⟩ : S16x4096x512.Idx) := by
  simp only [V, hostOps0, hostOps0_1, hostOps0_2, hostOps0_3, hostOps0_4, List.flatten_cons, List.flatten_nil, List.cons_append, List.append_nil, List.nil_append]
  after_reads_at

theorem V_v5 (q : Fin 4096) (j : Fin 8192) :
    V m c main_v5 (ix2 q j : S4096x8192.Idx) = m ((c : Thread nD Cert.Kernel2Ideal.τ).loc main_arg3) (ix3 ⟨q.val / 256, by omega⟩ ⟨q.val % 256 * 16 + j.val / 512, by omega⟩ ⟨j.val % 512, by omega⟩ : S16x4096x512.Idx) := by
  simp only [V, hostOps0, hostOps0_1, hostOps0_2, hostOps0_3, hostOps0_4, List.flatten_cons, List.flatten_nil, List.cons_append, List.append_nil, List.nil_append]
  after_reads_at

theorem V_v7 (q : Fin 16384) (j : Fin 512) :
    V m c main_v7 (ix2 q j : S16384x512.Idx) = m ((c : Thread nD Cert.Kernel2Ideal.τ).loc main_arg5) (ix3 ⟨q.val / 1024, by omega⟩ ⟨q.val % 1024 * 4 + j.val / 128, by omega⟩ ⟨j.val % 128, by omega⟩ : S16x4096x128.Idx) := by
  simp only [V, hostOps0, hostOps0_1, hostOps0_2, hostOps0_3, hostOps0_4, List.flatten_cons, List.flatten_nil, List.cons_append, List.append_nil, List.nil_append]
  after_reads_at

theorem V_v8 (q : Fin 4096) (j : Fin 2048) :
    V m c main_v8 (ix2 q j : S4096x2048.Idx) = m ((c : Thread nD Cert.Kernel2Ideal.τ).loc main_arg6) (ix3 ⟨q.val / 256, by omega⟩ ⟨q.val % 256 * 16 + j.val / 128, by omega⟩ ⟨j.val % 128, by omega⟩ : S16x4096x128.Idx) := by
  simp only [V, hostOps0, hostOps0_1, hostOps0_2, hostOps0_3, hostOps0_4, List.flatten_cons, List.flatten_nil, List.cons_append, List.append_nil, List.nil_append]
  after_reads_at

theorem V_v17 (r : Fin 65536) (j : Fin 256) :
    V m c main_v17 (ix2 r j : S65536x256.Idx) = m ((c : Thread nD Cert.Kernel2Ideal.τ).loc main_arg10) (ix4 (0 : Fin 1) ⟨r.val / 4096, by omega⟩ ⟨r.val % 4096, by omega⟩ j : S1x16x4096x256.Idx) := by
  simp only [V, hostOps0, hostOps0_1, hostOps0_2, hostOps0_3, hostOps0_4, List.flatten_cons, List.flatten_nil, List.cons_append, List.append_nil, List.nil_append]
  after_reads_at

theorem V_v19 (i : Fin 512) (j : Fin 1024) :
    V m c main_v19 (ix2 i j : S512x1024.Idx) = m ((c : Thread nD Cert.Kernel2Ideal.τ).loc main_arg11) (ix3 (0 : Fin 1) i j : S1x512x1024.Idx) := by
  simp only [V, hostOps0, hostOps0_1, hostOps0_2, hostOps0_3, hostOps0_4, List.flatten_cons, List.flatten_nil, List.cons_append, List.append_nil, List.nil_append]
  after_reads_at

theorem V_v21 (i : Fin 512) (j : Fin 1024) :
    V m c main_v21 (ix2 i j : S512x1024.Idx) = m ((c : Thread nD Cert.Kernel2Ideal.τ).loc main_arg12) (ix3 (0 : Fin 1) i j : S1x512x1024.Idx) := by
  simp only [V, hostOps0, hostOps0_1, hostOps0_2, hostOps0_3, hostOps0_4, List.flatten_cons, List.flatten_nil, List.cons_append, List.append_nil, List.nil_append]
  after_reads_at

theorem V_v23 (i : Fin 1024) (j : Fin 1024) :
    V m c main_v23 (ix2 i j : S1024x1024.Idx) = m ((c : Thread nD Cert.Kernel2Ideal.τ).loc main_arg13) (ix3 (0 : Fin 1) i j : S1x1024x1024.Idx) := by
  simp only [V, hostOps0, hostOps0_1, hostOps0_2, hostOps0_3, hostOps0_4, List.flatten_cons, List.flatten_nil, List.cons_append, List.append_nil, List.nil_append]
  after_reads_at

theorem V_v30 (i : Fin 1024) (j : Fin 5632) :
    V m c main_v30 (ix2 i j : S1024x5632.Idx) = m ((c : Thread nD Cert.Kernel2Ideal.τ).loc main_arg17) (ix3 (0 : Fin 1) i j : S1x1024x5632.Idx) := by
  simp only [V, hostOps0, hostOps0_1, hostOps0_2, hostOps0_3, hostOps0_4, List.flatten_cons, List.flatten_nil, List.cons_append, List.append_nil, List.nil_append]
  after_reads_at

theorem V_v32 (i : Fin 2816) (j : Fin 1024) :
    V m c main_v32 (ix2 i j : S2816x1024.Idx) = m ((c : Thread nD Cert.Kernel2Ideal.τ).loc main_arg18) (ix3 (0 : Fin 1) i j : S1x2816x1024.Idx) := by
  simp only [V, hostOps0, hostOps0_1, hostOps0_2, hostOps0_3, hostOps0_4, List.flatten_cons, List.flatten_nil, List.cons_append, List.append_nil, List.nil_append]
  after_reads_at

theorem V_v34 (i : Fin 256) (j : Fin 1024) :
    V m c main_v34 (ix2 i j : S256x1024.Idx) = m ((c : Thread nD Cert.Kernel2Ideal.τ).loc main_arg19) (ix3 (0 : Fin 1) i j : S1x256x1024.Idx) := by
  simp only [V, hostOps0, hostOps0_1, hostOps0_2, hostOps0_3, hostOps0_4, List.flatten_cons, List.flatten_nil, List.cons_append, List.append_nil, List.nil_append]
  after_reads_at

theorem V_v36 (i : Fin 1024) (j : Fin 1024) :
    V m c main_v36 (ix2 i j : S1024x1024.Idx) = m ((c : Thread nD Cert.Kernel2Ideal.τ).loc main_arg20) (ix3 (0 : Fin 1) i j : S1x1024x1024.Idx) := by
  simp only [V, hostOps0, hostOps0_1, hostOps0_2, hostOps0_3, hostOps0_4, List.flatten_cons, List.flatten_nil, List.cons_append, List.append_nil, List.nil_append]
  after_reads_at

theorem V_v25 (j : Fin 1024) :
    V m c main_v25 (ix2 (0 : Fin 1) j : S1x1024.Idx) = m ((c : Thread nD Cert.Kernel2Ideal.τ).loc main_arg14) (ix2 (0 : Fin 1) j : S1x1024.Idx) := by
  simp only [V, hostOps0, hostOps0_1, hostOps0_2, hostOps0_3, hostOps0_4, List.flatten_cons, List.flatten_nil, List.cons_append, List.append_nil, List.nil_append]
  after_reads_at

theorem V_v27 (j : Fin 1024) :
    V m c main_v27 (ix2 (0 : Fin 1) j : S1x1024.Idx) = m ((c : Thread nD Cert.Kernel2Ideal.τ).loc main_arg15) (ix2 (0 : Fin 1) j : S1x1024.Idx) := by
  simp only [V, hostOps0, hostOps0_1, hostOps0_2, hostOps0_3, hostOps0_4, List.flatten_cons, List.flatten_nil, List.cons_append, List.append_nil, List.nil_append]
  after_reads_at

theorem V_v28 (j : Fin 1024) :
    V m c main_v28 (ix2 (0 : Fin 1) j : S1x1024.Idx) = m ((c : Thread nD Cert.Kernel2Ideal.τ).loc main_arg16) (ix1 j : S1024.Idx) := by
  simp only [V, hostOps0, hostOps0_1, hostOps0_2, hostOps0_3, hostOps0_4, List.flatten_cons, List.flatten_nil, List.cons_append, List.append_nil, List.nil_append]
  after_reads_at

/-- The words of the table: the quotient of a channel by 64, and the comparison with a head. -/
theorem quot_word (j : Fin 512) :
    (Scalar.select
      (IntOp.andi
        (IntOp.cmpi CmpIPredicate.ne
          (if BitVec.ofNat 32 j.val = 0 then 0 else if (BitVec.ofNat 32 j.val).msb = true then -1 else 1)
          (if (64#32) = 0 then 0 else if BitVec.msb (64#32) = true then -1 else (1 : BitVec 32)))
        (IntOp.cmpi CmpIPredicate.ne (IntOp.remsi ArithUnit.host (BitVec.ofNat 32 j.val) 64#32) 0#32))
      (IntOp.subi (IntOp.divsi ArithUnit.host (BitVec.ofNat 32 j.val) 64#32) 1#32)
      (IntOp.divsi ArithUnit.host (BitVec.ofNat 32 j.val) 64#32)) = BitVec.ofNat 32 (j.val / 64) := by
  revert j; decide +kernel

theorem head_word (q : ℕ) (hq : q < 8) (h : Fin 128) :
    (Scalar.select (IntOp.cmpi CmpIPredicate.eq (BitVec.ofNat 32 q) (BitVec.ofNat 32 h.val)) (1 : EReal) 0)
    = if q = h.val then (1 : EReal) else 0 := by
  have e : IntOp.cmpi CmpIPredicate.eq (BitVec.ofNat 32 q) (BitVec.ofNat 32 h.val) = if q = h.val then 1#1 else 0#1 := by
    have : ∀ (q : Fin 8) (h : Fin 128),
        IntOp.cmpi CmpIPredicate.eq (BitVec.ofNat 32 q.val) (BitVec.ofNat 32 h.val) = if q.val = h.val then 1#1 else 0#1 := by
      decide +kernel
    exact this ⟨q, hq⟩ h
  rw [e]
  split_ifs <;> rfl

theorem V_v46 (h : Fin 128) (j : Fin 512) :
    V m c main_v46 (ix2 h j : S128x512.Idx) = if j.val / 64 = h.val then (1 : EReal) else 0 := by
  simp only [V, hostOps0, hostOps0_1, hostOps0_2, hostOps0_3, hostOps0_4, List.flatten_cons, List.flatten_nil, List.cons_append, List.append_nil, List.nil_append]
  after_reads_at
  refine Eq.trans ?_ (head_word (j.val / 64) (by omega) h)
  exact congrArg (fun w => Scalar.select (IntOp.cmpi CmpIPredicate.eq w (BitVec.ofNat 32 h.val)) (1 : EReal) 0) (quot_word j)

end Back
end
-- ==== Proof.BackBlocks.lean ====
/-
  The blocks that the layer's last kernel loads at each grid point.
-/
module

public import proofs.«01_k».proof.Proof.BackHost

@[expose] public section

set_option maxRecDepth 16384

noncomputable section

namespace Back

open Idealize.ShloMosaic Idealize.ShloMosaic.TcCoe Cert.Kernel2Ideal Cert.Kernel2Ideal.Gen Idealize.SL.Sem

theorem idx_moving (t : Fin cfg0.N) : win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_22.index t = ![t.val, 0] := by
  revert t; decide +kernel

theorem idx_fixed (t : Fin cfg0.N) : win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] := by
  revert t; decide +kernel

/-! Each block, over any contents of the buffers. -/

section

variable (c : Dev nD) (U : (b : Ref sig .tc) → Buf (Elt Ideal) ((c : Thread nD Cert.Kernel2Ideal.τ).loc b))

theorem emb0 (A : S65536x1024.Idx → EReal) (t : Fin cfg0.N) (r : Fin 512) (j : Fin 1024) :
    A ((win0_0.blk t).view.emb (ix2 r j)) = A (ix2 ⟨512 * t.val + r.val, by have : t.val < 128 := t.isLt; omega⟩ j) := by
  refine congrArg A (funext fun a => Fin.ext ((win0_0.rect_emb_val t (ix2 r j) a).trans ?_))
  rw [(idx_moving t).1]
  fin_cases a <;> simp [ix2] <;> omega

theorem blkAt0 (t : Fin cfg0.N) (r : Fin 512) (j : Fin 1024) :
    ((cfg0.win 0).blk t).view.read (Elt Ideal) (U (Pipeline.arrRef spec0 0)) (ix2 r j : S512x1024.Idx)
    = U main_v9 (ix2 ⟨512 * t.val + r.val, by have : t.val < 128 := t.isLt; omega⟩ j : S65536x1024.Idx) :=
  emb0 (U main_v9) t r j

theorem emb1 (A : S65536x512.Idx → EReal) (t : Fin cfg0.N) (r : Fin 512) (j : Fin 512) :
    A ((win0_1.blk t).view.emb (ix2 r j)) = A (ix2 ⟨512 * t.val + r.val, by have : t.val < 128 := t.isLt; omega⟩ j) := by
  refine congrArg A (funext fun a => Fin.ext ((win0_1.rect_emb_val t (ix2 r j) a).trans ?_))
  rw [(idx_moving t).2.1]
  fin_cases a <;> simp [ix2] <;> omega

theorem blkAt1 (t : Fin cfg0.N) (r : Fin 512) (j : Fin 512) :
    ((cfg0.win 1).blk t).view.read (Elt Ideal) (U (Pipeline.arrRef spec0 1)) (ix2 r j : S512x512.Idx)
    = U main_v1 (ix2 ⟨512 * t.val + r.val, by have : t.val < 128 := t.isLt; omega⟩ j : S65536x512.Idx) :=
  emb1 (U main_v1) t r j

theorem emb2 (A : S16384x2048.Idx → EReal) (t : Fin cfg0.N) (r : Fin 128) (j : Fin 2048) :
    A ((win0_2.blk t).view.emb (ix2 r j)) = A (ix2 ⟨128 * t.val + r.val, by have : t.val < 128 := t.isLt; omega⟩ j) := by
  refine congrArg A (funext fun a => Fin.ext ((win0_2.rect_emb_val t (ix2 r j) a).trans ?_))
  rw [(idx_moving t).2.2.1]
  fin_cases a <;> simp [ix2] <;> omega

theorem blkAt2 (t : Fin cfg0.N) (r : Fin 128) (j : Fin 2048) :
    ((cfg0.win 2).blk t).view.read (Elt Ideal) (U (Pipeline.arrRef spec0 2)) (ix2 r j : S128x2048.Idx)
    = U main_v3 (ix2 ⟨128 * t.val + r.val, by have : t.val < 128 := t.isLt; omega⟩ j : S16384x2048.Idx) :=
  emb2 (U main_v3) t r j

theorem emb3 (A : S4096x8192.Idx → EReal) (t : Fin cfg0.N) (r : Fin 32) (j : Fin 8192) :
    A ((win0_3.blk t).view.emb (ix2 r j)) = A (ix2 ⟨32 * t.val + r.val, by have : t.val < 128 := t.isLt; omega⟩ j) := by
  refine congrArg A (funext fun a => Fin.ext ((win0_3.rect_emb_val t (ix2 r j) a).trans ?_))
  rw [(idx_moving t).2.2.2.1]
  fin_cases a <;> simp [ix2] <;> omega

theorem blkAt3 (t : Fin cfg0.N) (r : Fin 32) (j : Fin 8192) :
    ((cfg0.win 3).blk t).view.read (Elt Ideal) (U (Pipeline.arrRef spec0 3)) (ix2 r j : S32x8192.Idx)
    = U main_v5 (ix2 ⟨32 * t.val + r.val, by have : t.val < 128 := t.isLt; omega⟩ j : S4096x8192.Idx) :=
  emb3 (U main_v5) t r j

theorem emb4 (A : S65536x128.Idx → EReal) (t : Fin cfg0.N) (r : Fin 512) (j : Fin 128) :
    A ((win0_4.blk t).view.emb (ix2 r j)) = A (ix2 ⟨512 * t.val + r.val, by have : t.val < 128 := t.isLt; omega⟩ j) := by
  refine congrArg A (funext fun a => Fin.ext ((win0_4.rect_emb_val t (ix2 r j) a).trans ?_))
  rw [(idx_moving t).2.2.2.2.1]
  fin_cases a <;> simp [ix2] <;> omega

theorem blkAt4 (t : Fin cfg0.N) (r : Fin 512) (j : Fin 128) :
    ((cfg0.win 4).blk t).view.read (Elt Ideal) (U (Pipeline.arrRef spec0 4)) (ix2 r j : S512x128.Idx)
    = U main_v6 (ix2 ⟨512 * t.val + r.val, by have : t.val < 128 := t.isLt; omega⟩ j : S65536x128.Idx) :=
  emb4 (U main_v6) t r j

theorem emb5 (A : S16384x512.Idx → EReal) (t : Fin cfg0.N) (r : Fin 128) (j : Fin 512) :
    A ((win0_5.blk t).view.emb (ix2 r j)) = A (ix2 ⟨128 * t.val + r.val, by have : t.val < 128 := t.isLt; omega⟩ j) := by
  refine congrArg A (funext fun a => Fin.ext ((win0_5.rect_emb_val t (ix2 r j) a).trans ?_))
  rw [(idx_moving t).2.2.2.2.2.1]
  fin_cases a <;> simp [ix2] <;> omega

theorem blkAt5 (t : Fin cfg0.N) (r : Fin 128) (j : Fin 512) :
    ((cfg0.win 5).blk t).view.read (Elt Ideal) (U (Pipeline.arrRef spec0 5)) (ix2 r j : S128x512.Idx)
    = U main_v7 (ix2 ⟨128 * t.val + r.val, by have : t.val < 128 := t.isLt; omega⟩ j : S16384x512.Idx) :=
  emb5 (U main_v7) t r j

theorem emb6 (A : S4096x2048.Idx → EReal) (t : Fin cfg0.N) (r : Fin 32) (j : Fin 2048) :
    A ((win0_6.blk t).view.emb (ix2 r j)) = A (ix2 ⟨32 * t.val + r.val, by have : t.val < 128 := t.isLt; omega⟩ j) := by
  refine congrArg A (funext fun a => Fin.ext ((win0_6.rect_emb_val t (ix2 r j) a).trans ?_))
  rw [(idx_moving t).2.2.2.2.2.2.1]
  fin_cases a <;> simp [ix2] <;> omega

theorem blkAt6 (t : Fin cfg0.N) (r : Fin 32) (j : Fin 2048) :
    ((cfg0.win 6).blk t).view.read (Elt Ideal) (U (Pipeline.arrRef spec0 6)) (ix2 r j : S32x2048.Idx)
    = U main_v8 (ix2 ⟨32 * t.val + r.val, by have : t.val < 128 := t.isLt; omega⟩ j : S4096x2048.Idx) :=
  emb6 (U main_v8) t r j

theorem emb7 (A : S65536x512.Idx → EReal) (t : Fin cfg0.N) (r : Fin 512) (j : Fin 512) :
    A ((win0_7.blk t).view.emb (ix2 r j)) = A (ix2 ⟨512 * t.val + r.val, by have : t.val < 128 := t.isLt; omega⟩ j) := by
  refine congrArg A (funext fun a => Fin.ext ((win0_7.rect_emb_val t (ix2 r j) a).trans ?_))
  rw [(idx_moving t).2.2.2.2.2.2.2.1]
  fin_cases a <;> simp [ix2] <;> omega

theorem blkAt7 (t : Fin cfg0.N) (r : Fin 512) (j : Fin 512) :
    ((cfg0.win 7).blk t).view.read (Elt Ideal) (U (Pipeline.arrRef spec0 7)) (ix2 r j : S512x512.Idx)
    = U main_v11 (ix2 ⟨512 * t.val + r.val, by have : t.val < 128 := t.isLt; omega⟩ j : S65536x512.Idx) :=
  emb7 (U main_v11) t r j

theorem emb8 (A : S65536x1024.Idx → EReal) (t : Fin cfg0.N) (r : Fin 512) (j : Fin 1024) :
    A ((win0_8.blk t).view.emb (ix2 r j)) = A (ix2 ⟨512 * t.val + r.val, by have : t.val < 128 := t.isLt; omega⟩ j) := by
  refine congrArg A (funext fun a => Fin.ext ((win0_8.rect_emb_val t (ix2 r j) a).trans ?_))
  rw [(idx_moving t).2.2.2.2.2.2.2.2.1]
  fin_cases a <;> simp [ix2] <;> omega

theorem blkAt8 (t : Fin cfg0.N) (r : Fin 512) (j : Fin 1024) :
    ((cfg0.win 8).blk t).view.read (Elt Ideal) (U (Pipeline.arrRef spec0 8)) (ix2 r j : S512x1024.Idx)
    = U main_v13 (ix2 ⟨512 * t.val + r.val, by have : t.val < 128 := t.isLt; omega⟩ j : S65536x1024.Idx) :=
  emb8 (U main_v13) t r j

theorem emb9 (A : S65536x1024.Idx → EReal) (t : Fin cfg0.N) (r : Fin 512) (j : Fin 1024) :
    A ((win0_9.blk t).view.emb (ix2 r j)) = A (ix2 ⟨512 * t.val + r.val, by have : t.val < 128 := t.isLt; omega⟩ j) := by
  refine congrArg A (funext fun a => Fin.ext ((win0_9.rect_emb_val t (ix2 r j) a).trans ?_))
  rw [(idx_moving t).2.2.2.2.2.2.2.2.2.1]
  fin_cases a <;> simp [ix2] <;> omega

theorem blkAt9 (t : Fin cfg0.N) (r : Fin 512) (j : Fin 1024) :
    ((cfg0.win 9).blk t).view.read (Elt Ideal) (U (Pipeline.arrRef spec0 9)) (ix2 r j : S512x1024.Idx)
    = U main_v15 (ix2 ⟨512 * t.val + r.val, by have : t.val < 128 := t.isLt; omega⟩ j : S65536x1024.Idx) :=
  emb9 (U main_v15) t r j

theorem emb10 (A : S65536x256.Idx → EReal) (t : Fin cfg0.N) (r : Fin 512) (j : Fin 256) :
    A ((win0_10.blk t).view.emb (ix2 r j)) = A (ix2 ⟨512 * t.val + r.val, by have : t.val < 128 := t.isLt; omega⟩ j) := by
  refine congrArg A (funext fun a => Fin.ext ((win0_10.rect_emb_val t (ix2 r j) a).trans ?_))
  rw [(idx_moving t).2.2.2.2.2.2.2.2.2.2.1]
  fin_cases a <;> simp [ix2] <;> omega

theorem blkAt10 (t : Fin cfg0.N) (r : Fin 512) (j : Fin 256) :
    ((cfg0.win 10).blk t).view.read (Elt Ideal) (U (Pipeline.arrRef spec0 10)) (ix2 r j : S512x256.Idx)
    = U main_v17 (ix2 ⟨512 * t.val + r.val, by have : t.val < 128 := t.isLt; omega⟩ j : S65536x256.Idx) :=
  emb10 (U main_v17) t r j

theorem emb11 (A : S128x512.Idx → EReal) (t : Fin cfg0.N) (r : Fin 128) (j : Fin 512) :
    A ((win0_11.blk t).view.emb (ix2 r j)) = A (ix2 r j) := by
  refine congrArg A (funext fun a => Fin.ext ((win0_11.rect_emb_val t (ix2 r j) a).trans ?_))
  rw [(idx_fixed t).1]
  fin_cases a <;> simp [ix2]

theorem blkAt11 (t : Fin cfg0.N) (r : Fin 128) (j : Fin 512) :
    ((cfg0.win 11).blk t).view.read (Elt Ideal) (U (Pipeline.arrRef spec0 11)) (ix2 r j : S128x512.Idx)
    = U main_v46 (ix2 r j : S128x512.Idx) :=
  emb11 (U main_v46) t r j

theorem emb12 (A : S512x1024.Idx → EReal) (t : Fin cfg0.N) (r : Fin 512) (j : Fin 1024) :
    A ((win0_12.blk t).view.emb (ix2 r j)) = A (ix2 r j) := by
  refine congrArg A (funext fun a => Fin.ext ((win0_12.rect_emb_val t (ix2 r j) a).trans ?_))
  rw [(idx_fixed t).2.1]
  fin_cases a <;> simp [ix2]

theorem blkAt12 (t : Fin cfg0.N) (r : Fin 512) (j : Fin 1024) :
    ((cfg0.win 12).blk t).view.read (Elt Ideal) (U (Pipeline.arrRef spec0 12)) (ix2 r j : S512x1024.Idx)
    = U main_v19 (ix2 r j : S512x1024.Idx) :=
  emb12 (U main_v19) t r j

theorem emb13 (A : S512x1024.Idx → EReal) (t : Fin cfg0.N) (r : Fin 512) (j : Fin 1024) :
    A ((win0_13.blk t).view.emb (ix2 r j)) = A (ix2 r j) := by
  refine congrArg A (funext fun a => Fin.ext ((win0_13.rect_emb_val t (ix2 r j) a).trans ?_))
  rw [(idx_fixed t).2.2.1]
  fin_cases a <;> simp [ix2]

theorem blkAt13 (t : Fin cfg0.N) (r : Fin 512) (j : Fin 1024) :
    ((cfg0.win 13).blk t).view.read (Elt Ideal) (U (Pipeline.arrRef spec0 13)) (ix2 r j : S512x1024.Idx)
    = U main_v21 (ix2 r j : S512x1024.Idx) :=
  emb13 (U main_v21) t r j

theorem emb14 (A : S1024x1024.Idx → EReal) (t : Fin cfg0.N) (r : Fin 1024) (j : Fin 1024) :
    A ((win0_14.blk t).view.emb (ix2 r j)) = A (ix2 r j) := by
  refine congrArg A (funext fun a => Fin.ext ((win0_14.rect_emb_val t (ix2 r j) a).trans ?_))
  rw [(idx_fixed t).2.2.2.1]
  fin_cases a <;> simp [ix2]

theorem blkAt14 (t : Fin cfg0.N) (r : Fin 1024) (j : Fin 1024) :
    ((cfg0.win 14).blk t).view.read (Elt Ideal) (U (Pipeline.arrRef spec0 14)) (ix2 r j : S1024x1024.Idx)
    = U main_v23 (ix2 r j : S1024x1024.Idx) :=
  emb14 (U main_v23) t r j

theorem emb15 (A : S1x1024.Idx → EReal) (t : Fin cfg0.N) (r : Fin 1) (j : Fin 1024) :
    A ((win0_15.blk t).view.emb (ix2 r j)) = A (ix2 r j) := by
  refine congrArg A (funext fun a => Fin.ext ((win0_15.rect_emb_val t (ix2 r j) a).trans ?_))
  rw [(idx_fixed t).2.2.2.2.1]
  fin_cases a <;> simp [ix2]

theorem blkAt15 (t : Fin cfg0.N) (r : Fin 1) (j : Fin 1024) :
    ((cfg0.win 15).blk t).view.read (Elt Ideal) (U (Pipeline.arrRef spec0 15)) (ix2 r j : S1x1024.Idx)
    = U main_v25 (ix2 r j : S1x1024.Idx) :=
  emb15 (U main_v25) t r j

theorem emb16 (A : S1x1024.Idx → EReal) (t : Fin cfg0.N) (r : Fin 1) (j : Fin 1024) :
    A ((win0_16.blk t).view.emb (ix2 r j)) = A (ix2 r j) := by
  refine congrArg A (funext fun a => Fin.ext ((win0_16.rect_emb_val t (ix2 r j) a).trans ?_))
  rw [(idx_fixed t).2.2.2.2.2.1]
  fin_cases a <;> simp [ix2]

theorem blkAt16 (t : Fin cfg0.N) (r : Fin 1) (j : Fin 1024) :
    ((cfg0.win 16).blk t).view.read (Elt Ideal) (U (Pipeline.arrRef spec0 16)) (ix2 r j : S1x1024.Idx)
    = U main_v27 (ix2 r j : S1x1024.Idx) :=
  emb16 (U main_v27) t r j

theorem emb17 (A : S1x1024.Idx → EReal) (t : Fin cfg0.N) (r : Fin 1) (j : Fin 1024) :
    A ((win0_17.blk t).view.emb (ix2 r j)) = A (ix2 r j) := by
  refine congrArg A (funext fun a => Fin.ext ((win0_17.rect_emb_val t (ix2 r j) a).trans ?_))
  rw [(idx_fixed t).2.2.2.2.2.2.1]
  fin_cases a <;> simp [ix2]

theorem blkAt17 (t : Fin cfg0.N) (r : Fin 1) (j : Fin 1024) :
    ((cfg0.win 17).blk t).view.read (Elt Ideal) (U (Pipeline.arrRef spec0 17)) (ix2 r j : S1x1024.Idx)
    = U main_v28 (ix2 r j : S1x1024.Idx) :=
  emb17 (U main_v28) t r j

theorem emb18 (A : S1024x5632.Idx → EReal) (t : Fin cfg0.N) (r : Fin 1024) (j : Fin 5632) :
    A ((win0_18.blk t).view.emb (ix2 r j)) = A (ix2 r j) := by
  refine congrArg A (funext fun a => Fin.ext ((win0_18.rect_emb_val t (ix2 r j) a).trans ?_))
  rw [(idx_fixed t).2.2.2.2.2.2.2.1]
  fin_cases a <;> simp [ix2]

theorem blkAt18 (t : Fin cfg0.N) (r : Fin 1024) (j : Fin 5632) :
    ((cfg0.win 18).blk t).view.read (Elt Ideal) (U (Pipeline.arrRef spec0 18)) (ix2 r j : S1024x5632.Idx)
    = U main_v30 (ix2 r j : S1024x5632.Idx) :=
  emb18 (U main_v30) t r j

theorem emb19 (A : S2816x1024.Idx → EReal) (t : Fin cfg0.N) (r : Fin 2816) (j : Fin 1024) :
    A ((win0_19.blk t).view.emb (ix2 r j)) = A (ix2 r j) := by
  refine congrArg A (funext fun a => Fin.ext ((win0_19.rect_emb_val t (ix2 r j) a).trans ?_))
  rw [(idx_fixed t).2.2.2.2.2.2.2.2.1]
  fin_cases a <;> simp [ix2]

theorem blkAt19 (t : Fin cfg0.N) (r : Fin 2816) (j : Fin 1024) :
    ((cfg0.win 19).blk t).view.read (Elt Ideal) (U (Pipeline.arrRef spec0 19)) (ix2 r j : S2816x1024.Idx)
    = U main_v32 (ix2 r j : S2816x1024.Idx) :=
  emb19 (U main_v32) t r j

theorem emb20 (A : S256x1024.Idx → EReal) (t : Fin cfg0.N) (r : Fin 256) (j : Fin 1024) :
    A ((win0_20.blk t).view.emb (ix2 r j)) = A (ix2 r j) := by
  refine congrArg A (funext fun a => Fin.ext ((win0_20.rect_emb_val t (ix2 r j) a).trans ?_))
  rw [(idx_fixed t).2.2.2.2.2.2.2.2.2.1]
  fin_cases a <;> simp [ix2]

theorem blkAt20 (t : Fin cfg0.N) (r : Fin 256) (j : Fin 1024) :
    ((cfg0.win 20).blk t).view.read (Elt Ideal) (U (Pipeline.arrRef spec0 20)) (ix2 r j : S256x1024.Idx)
    = U main_v34 (ix2 r j : S256x1024.Idx) :=
  emb20 (U main_v34) t r j

theorem emb21 (A : S1024x1024.Idx → EReal) (t : Fin cfg0.N) (r : Fin 1024) (j : Fin 1024) :
    A ((win0_21.blk t).view.emb (ix2 r j)) = A (ix2 r j) := by
  refine congrArg A (funext fun a => Fin.ext ((win0_21.rect_emb_val t (ix2 r j) a).trans ?_))
  rw [(idx_fixed t).2.2.2.2.2.2.2.2.2.2]
  fin_cases a <;> simp [ix2]

theorem blkAt21 (t : Fin cfg0.N) (r : Fin 1024) (j : Fin 1024) :
    ((cfg0.win 21).blk t).view.read (Elt Ideal) (U (Pipeline.arrRef spec0 21)) (ix2 r j : S1024x1024.Idx)
    = U main_v36 (ix2 r j : S1024x1024.Idx) :=
  emb21 (U main_v36) t r j

end

variable (m : (ℓ : Loc nD Cert.Kernel2Ideal.τ sig) → Buf (Elt Ideal) ℓ) (c : Dev nD)

/-- The batch and the position of row `r` of block `t`. -/
def bat (t : Fin cfg0.N) (r : Fin 512) : Fin 16 := ⟨(512 * t.val + r.val) / 4096, by have : t.val < 128 := t.isLt; omega⟩
def pos (t : Fin cfg0.N) (r : Fin 512) : Fin 4096 := ⟨(512 * t.val + r.val) % 4096, by omega⟩

theorem ib_0 (t : Fin cfg0.N) (r : Fin 512) (j : Fin 1024) :
    iblk m c 0 t (ix2 r j : S512x1024.Idx) = m ((c : Thread nD Cert.Kernel2Ideal.τ).loc main_arg0) (ix3 (bat t r) (pos t r) j : S16x4096x1024.Idx) :=
  (blkAt0 c (V m c) t r j).trans (V_v9 m c _ j)

theorem ib_1 (t : Fin cfg0.N) (r : Fin 512) (j : Fin 512) :
    iblk m c 1 t (ix2 r j : S512x512.Idx) = m ((c : Thread nD Cert.Kernel2Ideal.τ).loc main_arg1) (ix3 (bat t r) (pos t r) j : S16x4096x512.Idx) :=
  (blkAt1 c (V m c) t r j).trans (V_v1 m c _ j)

theorem ib_2 (t : Fin cfg0.N) (r : Fin 512) (j : Fin 512) :
    iblk m c 2 t (ix2 (⟨r.val / 4, by omega⟩ : Fin 128) (⟨r.val % 4 * 512 + j.val, by omega⟩ : Fin 2048) : S128x2048.Idx)
    = m ((c : Thread nD Cert.Kernel2Ideal.τ).loc main_arg2) (ix3 (bat t r) (pos t r) j : S16x4096x512.Idx) := by
  refine (blkAt2 c (V m c) t _ _).trans ((V_v3 m c _ _).trans (congrArg _ ?_))
  have ht : t.val < 128 := t.isLt
  have e0 : (128 * t.val + r.val / 4) / 1024 = (512 * t.val + r.val) / 4096 := by omega
  have e1 : (r.val % 4 * 512 + j.val) / 512 = r.val % 4 := by omega
  have e2 : (r.val % 4 * 512 + j.val) % 512 = j.val := by omega
  have e3 : (128 * t.val + r.val / 4) % 1024 * 4 + r.val % 4 = (512 * t.val + r.val) % 4096 := by omega
  refine congr (congrArg₂ ix3 (Fin.ext e0) (Fin.ext ?_)) (Fin.ext e2)
  show (128 * t.val + r.val / 4) % 1024 * 4 + (r.val % 4 * 512 + j.val) / 512 = (512 * t.val + r.val) % 4096
  rw [e1, e3]

theorem ib_3 (t : Fin cfg0.N) (r : Fin 512) (j : Fin 512) :
    iblk m c 3 t (ix2 (⟨r.val / 16, by omega⟩ : Fin 32) (⟨r.val % 16 * 512 + j.val, by omega⟩ : Fin 8192) : S32x8192.Idx)
    = m ((c : Thread nD Cert.Kernel2Ideal.τ).loc main_arg3) (ix3 (bat t r) (pos t r) j : S16x4096x512.Idx) := by
  refine (blkAt3 c (V m c) t _ _).trans ((V_v5 m c _ _).trans (congrArg _ ?_))
  have ht : t.val < 128 := t.isLt
  have e0 : (32 * t.val + r.val / 16) / 256 = (512 * t.val + r.val) / 4096 := by omega
  have e1 : (r.val % 16 * 512 + j.val) / 512 = r.val % 16 := by omega
  have e2 : (r.val % 16 * 512 + j.val) % 512 = j.val := by omega
  have e3 : (32 * t.val + r.val / 16) % 256 * 16 + r.val % 16 = (512 * t.val + r.val) % 4096 := by omega
  refine congr (congrArg₂ ix3 (Fin.ext e0) (Fin.ext ?_)) (Fin.ext e2)
  show (32 * t.val + r.val / 16) % 256 * 16 + (r.val % 16 * 512 + j.val) / 512 = (512 * t.val + r.val) % 4096
  rw [e1, e3]

theorem ib_4 (t : Fin cfg0.N) (r : Fin 512) (j : Fin 128) :
    iblk m c 4 t (ix2 r j : S512x128.Idx) = m ((c : Thread nD Cert.Kernel2Ideal.τ).loc main_arg4) (ix3 (bat t r) (pos t r) j : S16x4096x128.Idx) :=
  (blkAt4 c (V m c) t r j).trans (V_v6 m c _ j)

theorem ib_5 (t : Fin cfg0.N) (r : Fin 512) (j : Fin 128) :
    iblk m c 5 t (ix2 (⟨r.val / 4, by omega⟩ : Fin 128) (⟨r.val % 4 * 128 + j.val, by omega⟩ : Fin 512) : S128x512.Idx)
    = m ((c : Thread nD Cert.Kernel2Ideal.τ).loc main_arg5) (ix3 (bat t r) (pos t r) j : S16x4096x128.Idx) := by
  refine (blkAt5 c (V m c) t _ _).trans ((V_v7 m c _ _).trans (congrArg _ ?_))
  have ht : t.val < 128 := t.isLt
  have e0 : (128 * t.val + r.val / 4) / 1024 = (512 * t.val + r.val) / 4096 := by omega
  have e1 : (r.val % 4 * 128 + j.val) / 128 = r.val % 4 := by omega
  have e2 : (r.val % 4 * 128 + j.val) % 128 = j.val := by omega
  have e3 : (128 * t.val + r.val / 4) % 1024 * 4 + r.val % 4 = (512 * t.val + r.val) % 4096 := by omega
  refine congr (congrArg₂ ix3 (Fin.ext e0) (Fin.ext ?_)) (Fin.ext e2)
  show (128 * t.val + r.val / 4) % 1024 * 4 + (r.val % 4 * 128 + j.val) / 128 = (512 * t.val + r.val) % 4096
  rw [e1, e3]

theorem ib_6 (t : Fin cfg0.N) (r : Fin 512) (j : Fin 128) :
    iblk m c 6 t (ix2 (⟨r.val / 16, by omega⟩ : Fin 32) (⟨r.val % 16 * 128 + j.val, by omega⟩ : Fin 2048) : S32x2048.Idx)
    = m ((c : Thread nD Cert.Kernel2Ideal.τ).loc main_arg6) (ix3 (bat t r) (pos t r) j : S16x4096x128.Idx) := by
  refine (blkAt6 c (V m c) t _ _).trans ((V_v8 m c _ _).trans (congrArg _ ?_))
  have ht : t.val < 128 := t.isLt
  have e0 : (32 * t.val + r.val / 16) / 256 = (512 * t.val + r.val) / 4096 := by omega
  have e1 : (r.val % 16 * 128 + j.val) / 128 = r.val % 16 := by omega
  have e2 : (r.val % 16 * 128 + j.val) % 128 = j.val := by omega
  have e3 : (32 * t.val + r.val / 16) % 256 * 16 + r.val % 16 = (512 * t.val + r.val) % 4096 := by omega
  refine congr (congrArg₂ ix3 (Fin.ext e0) (Fin.ext ?_)) (Fin.ext e2)
  show (32 * t.val + r.val / 16) % 256 * 16 + (r.val % 16 * 128 + j.val) / 128 = (512 * t.val + r.val) % 4096
  rw [e1, e3]

theorem ib_7 (t : Fin cfg0.N) (r : Fin 512) (j : Fin 512) :
    iblk m c 7 t (ix2 r j : S512x512.Idx) = m ((c : Thread nD Cert.Kernel2Ideal.τ).loc main_arg7) (ix3 (bat t r) (pos t r) j : S16x4096x512.Idx) :=
  (blkAt7 c (V m c) t r j).trans (V_v11 m c _ j)

theorem ib_8 (t : Fin cfg0.N) (r : Fin 512) (j : Fin 1024) :
    iblk m c 8 t (ix2 r j : S512x1024.Idx) = m ((c : Thread nD Cert.Kernel2Ideal.τ).loc main_arg8) (ix3 (bat t r) (pos t r) j : S16x4096x1024.Idx) :=
  (blkAt8 c (V m c) t r j).trans (V_v13 m c _ j)

theorem ib_9 (t : Fin cfg0.N) (r : Fin 512) (j : Fin 1024) :
    iblk m c 9 t (ix2 r j : S512x1024.Idx) = m ((c : Thread nD Cert.Kernel2Ideal.τ).loc main_arg9) (ix3 (bat t r) (pos t r) j : S16x4096x1024.Idx) :=
  (blkAt9 c (V m c) t r j).trans (V_v15 m c _ j)

theorem ib_10 (t : Fin cfg0.N) (r : Fin 512) (j : Fin 256) :
    iblk m c 10 t (ix2 r j : S512x256.Idx) = m ((c : Thread nD Cert.Kernel2Ideal.τ).loc main_arg10) (ix4 (0 : Fin 1) (bat t r) (pos t r) j : S1x16x4096x256.Idx) :=
  (blkAt10 c (V m c) t r j).trans (V_v17 m c _ j)

theorem ib_11 (t : Fin cfg0.N) (h : Fin 128) (j : Fin 512) :
    iblk m c 11 t (ix2 h j : S128x512.Idx) = if j.val / 64 = h.val then (1 : EReal) else 0 :=
  (blkAt11 c (V m c) t h j).trans (V_v46 m c h j)

theorem ib_12 (t : Fin cfg0.N) (i : Fin 512) (j : Fin 1024) :
    iblk m c 12 t (ix2 i j : S512x1024.Idx) = m ((c : Thread nD Cert.Kernel2Ideal.τ).loc main_arg11) (ix3 (0 : Fin 1) i j : S1x512x1024.Idx) :=
  (blkAt12 c (V m c) t i j).trans (V_v19 m c i j)

theorem ib_13 (t : Fin cfg0.N) (i : Fin 512) (j : Fin 1024) :
    iblk m c 13 t (ix2 i j : S512x1024.Idx) = m ((c : Thread nD Cert.Kernel2Ideal.τ).loc main_arg12) (ix3 (0 : Fin 1) i j : S1x512x1024.Idx) :=
  (blkAt13 c (V m c) t i j).trans (V_v21 m c i j)

theorem ib_14 (t : Fin cfg0.N) (i : Fin 1024) (j : Fin 1024) :
    iblk m c 14 t (ix2 i j : S1024x1024.Idx) = m ((c : Thread nD Cert.Kernel2Ideal.τ).loc main_arg13) (ix3 (0 : Fin 1) i j : S1x1024x1024.Idx) :=
  (blkAt14 c (V m c) t i j).trans (V_v23 m c i j)

theorem ib_15 (t : Fin cfg0.N) (j : Fin 1024) :
    iblk m c 15 t (ix2 (0 : Fin 1) j : S1x1024.Idx) = m ((c : Thread nD Cert.Kernel2Ideal.τ).loc main_arg14) (ix2 (0 : Fin 1) j : S1x1024.Idx) :=
  (blkAt15 c (V m c) t 0 j).trans (V_v25 m c j)

theorem ib_16 (t : Fin cfg0.N) (j : Fin 1024) :
    iblk m c 16 t (ix2 (0 : Fin 1) j : S1x1024.Idx) = m ((c : Thread nD Cert.Kernel2Ideal.τ).loc main_arg15) (ix2 (0 : Fin 1) j : S1x1024.Idx) :=
  (blkAt16 c (V m c) t 0 j).trans (V_v27 m c j)

theorem ib_17 (t : Fin cfg0.N) (j : Fin 1024) :
    iblk m c 17 t (ix2 (0 : Fin 1) j : S1x1024.Idx) = m ((c : Thread nD Cert.Kernel2Ideal.τ).loc main_arg16) (ix1 j : S1024.Idx) :=
  (blkAt17 c (V m c) t 0 j).trans (V_v28 m c j)

theorem ib_18 (t : Fin cfg0.N) (i : Fin 1024) (j : Fin 5632) :
    iblk m c 18 t (ix2 i j : S1024x5632.Idx) = m ((c : Thread nD Cert.Kernel2Ideal.τ).loc main_arg17) (ix3 (0 : Fin 1) i j : S1x1024x5632.Idx) :=
  (blkAt18 c (V m c) t i j).trans (V_v30 m c i j)

theorem ib_19 (t : Fin cfg0.N) (i : Fin 2816) (j : Fin 1024) :
    iblk m c 19 t (ix2 i j : S2816x1024.Idx) = m ((c : Thread nD Cert.Kernel2Ideal.τ).loc main_arg18) (ix3 (0 : Fin 1) i j : S1x2816x1024.Idx) :=
  (blkAt19 c (V m c) t i j).trans (V_v32 m c i j)

theorem ib_20 (t : Fin cfg0.N) (i : Fin 256) (j : Fin 1024) :
    iblk m c 20 t (ix2 i j : S256x1024.Idx) = m ((c : Thread nD Cert.Kernel2Ideal.τ).loc main_arg19) (ix3 (0 : Fin 1) i j : S1x256x1024.Idx) :=
  (blkAt20 c (V m c) t i j).trans (V_v34 m c i j)

theorem ib_21 (t : Fin cfg0.N) (i : Fin 1024) (j : Fin 1024) :
    iblk m c 21 t (ix2 i j : S1024x1024.Idx) = m ((c : Thread nD Cert.Kernel2Ideal.τ).loc main_arg20) (ix3 (0 : Fin 1) i j : S1x1024x1024.Idx) :=
  (blkAt21 c (V m c) t i j).trans (V_v36 m c i j)

end Back
end
-- ==== Proof.BackArr.lean ====
/-
  The output array of the layer's last kernel as a function of its arguments.
-/
module

public import proofs.«01_k».proof.Proof.BackPoint
public import proofs.«01_k».proof.Proof.BackSlab
public import proofs.«01_k».proof.Proof.BackBlocks

@[expose] public section

set_option maxRecDepth 16384

noncomputable section

namespace Back

open Idealize.ShloMosaic Idealize.ShloMosaic.TcCoe Cert.Kernel2Ideal Cert.Kernel2Ideal.Gen Idealize.SL.Sem

theorem rowOut_congr {x x' : Fin 1024 → EReal} {ga ga' : Fin 1024 → EReal} {gb gb' : Fin 1024 → EReal} {l l' : Fin 3 → Fin 8 → EReal} {o o' : Fin 3 → Fin 512 → EReal} {yb yb' : Fin 512 → EReal} {p p' : Fin 256 → EReal} {wa wa' : Fin 512 → Fin 1024 → EReal} {wb wb' : Fin 512 → Fin 1024 → EReal} {wo wo' : Fin 1024 → Fin 1024 → EReal} {nf nf' : Fin 1024 → EReal} {np np' : Fin 1024 → EReal} {nl nl' : Fin 1024 → EReal} {wgu wgu' : Fin 1024 → Fin 5632 → EReal} {wd wd' : Fin 2816 → Fin 1024 → EReal} {wpe wpe' : Fin 256 → Fin 1024 → EReal} {wpg wpg' : Fin 1024 → Fin 1024 → EReal}
    (hx : x = x') (hga : ga = ga') (hgb : gb = gb') (hl : l = l') (ho : o = o') (hyb : yb = yb') (hp : p = p') (hwa : wa = wa') (hwb : wb = wb') (hwo : wo = wo') (hnf : nf = nf') (hnp : np = np') (hnl : nl = nl') (hwgu : wgu = wgu') (hwd : wd = wd') (hwpe : wpe = wpe') (hwpg : wpg = wpg') (j : Fin 1024) :
    rowOut x ga gb l o yb p wa wb wo nf np nl wgu wd wpe wpg j = rowOut x' ga' gb' l' o' yb' p' wa' wb' wo' nf' np' nl' wgu' wd' wpe' wpg' j := by
  subst hx hga hgb hl ho hyb hp hwa hwb hwo hnf hnp hnl hwgu hwd hwpe hwpg
  rfl

/-- One row of the stored block, from the blocks that are loaded. -/
theorem out_row (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S128x2048 .bf16) (harg3 : arg3.IsWhole) (arg4 : Memref sig .tc .vmem S32x8192 .bf16) (harg4 : arg4.IsWhole) (arg5 : Memref sig .tc .vmem S512x128 .f32) (harg5 : arg5.IsWhole) (arg6 : Memref sig .tc .vmem S128x512 .f32) (harg6 : arg6.IsWhole) (arg7 : Memref sig .tc .vmem S32x2048 .f32) (harg7 : arg7.IsWhole) (arg8 : Memref sig .tc .vmem S512x512 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x256 .f32) (harg11 : arg11.IsWhole) (arg12 : Memref sig .tc .vmem S128x512 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1024x5632 .bf16) (harg19 : arg19.IsWhole) (arg20 : Memref sig .tc .vmem S2816x1024 .bf16) (harg20 : arg20.IsWhole) (arg21 : Memref sig .tc .vmem S256x1024 .bf16) (harg21 : arg21.IsWhole) (arg22 : Memref sig .tc .vmem S1024x1024 .bf16) (harg22 : arg22.IsWhole) (arg23 : Memref sig .tc .vmem S512x1024 .f32) (harg23 : arg23.IsWhole) (arg24 : Memref sig .tc .vmem S2x4x512x128 .f32) (harg24 : arg24.IsWhole) (arg25 : Memref sig .tc .vmem S2x1x512x128 .f32) (harg25 : arg25.IsWhole)
    (x0 : Vec Ideal S512x1024 .f32) (x1 : Vec Ideal S512x512 .bf16) (x2 : Vec Ideal S128x2048 .bf16) (x3 : Vec Ideal S32x8192 .bf16) (x4 : Vec Ideal S512x128 .f32) (x5 : Vec Ideal S128x512 .f32) (x6 : Vec Ideal S32x2048 .f32) (x7 : Vec Ideal S512x512 .bf16) (x8 : Vec Ideal S512x1024 .bf16) (x9 : Vec Ideal S512x1024 .bf16) (x10 : Vec Ideal S512x256 .f32) (x11 : Vec Ideal S128x512 .bf16) (x12 : Vec Ideal S512x1024 .bf16) (x13 : Vec Ideal S512x1024 .bf16) (x14 : Vec Ideal S1024x1024 .bf16) (x15 : Vec Ideal S1x1024 .f32) (x16 : Vec Ideal S1x1024 .f32) (x17 : Vec Ideal S1x1024 .f32) (x18 : Vec Ideal S1024x5632 .bf16) (x19 : Vec Ideal S2816x1024 .bf16) (x20 : Vec Ideal S256x1024 .bf16) (x21 : Vec Ideal S1024x1024 .bf16)
    (hex : ∀ h c, x11 (ix2 h c) = if c.val / 64 = h.val then (1 : EReal) else 0) (r : Fin 512) (j : Fin 1024) :
    out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21 (ix2 r j)
    = rowOut (row x0 r) (row x8 r) (row x9 r)
        (fun g h => three (x4 (ix2 r (lane h))) (x5 (ix2 (⟨r.val / 4, by omega⟩ : Fin 128) (⟨r.val % 4 * 128 + (lane h).val, by omega⟩ : Fin 512))) (x6 (ix2 (⟨r.val / 16, by omega⟩ : Fin 32) (⟨r.val % 16 * 128 + (lane h).val, by omega⟩ : Fin 2048))) g)
        (fun g c => three (x1 (ix2 r c)) (x2 (ix2 (⟨r.val / 4, by omega⟩ : Fin 128) (⟨r.val % 4 * 512 + c.val, by omega⟩ : Fin 2048))) (x3 (ix2 (⟨r.val / 16, by omega⟩ : Fin 32) (⟨r.val % 16 * 512 + c.val, by omega⟩ : Fin 8192))) g)
        (row x7 r) (row x10 r) (row x12) (row x13) (row x14) (row x15 0) (row x16 0) (row x17 0) (row x18) (row x19) (row x20) (row x21) j := by
  refine (congrFun (out_loads c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 x19 x20 x21) (ix2 r j)).trans ?_
  simp only [whole2_eq, logs4_eq, logsOut_eq, logs16_eq, means4_eq, meansOut_eq, means16_eq]
  rw [harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread]
  refine (outB_row _ _ _ _ _ _ _ _ _ _ _ _ _ _ r _ _ _ (mixer_row _ _ _ _ _ _ _ _ _ hex
    (fun r c => x2 (ix2 (⟨r.val / 4, by omega⟩ : Fin 128) (⟨r.val % 4 * 512 + c.val, by omega⟩ : Fin 2048))) (fun r c => x3 (ix2 (⟨r.val / 16, by omega⟩ : Fin 32) (⟨r.val % 16 * 512 + c.val, by omega⟩ : Fin 8192)))
    (fun s r l => means4_slab arg24.view x2 s.val s.isLt r l) (fun s r l => means16_slab arg24.view x2 x3 s.val s.isLt r l) r) j).trans ?_
  refine rowOut_congr rfl rfl rfl ?_ rfl rfl rfl rfl rfl rfl rfl rfl rfl rfl rfl rfl rfl j
  funext g h
  exact congrArg₂ (fun a b => three (x4 (ix2 r (lane h))) a b g) (logs4_slab arg25.view x5 r (lane h)) (logs16_slab arg25.view x5 x6 r (lane h))

variable (m : (ℓ : Loc nD Cert.Kernel2Ideal.τ sig) → Buf (Elt Ideal) ℓ) (c : Dev nD)

/-- The layer's output from the launch's arguments. -/
def outRow (b : Fin 16) (s : Fin 4096) (j : Fin 1024) : EReal :=
  layer (m ((c : Thread nD Cert.Kernel2Ideal.τ).loc main_arg0)) (m ((c : Thread nD Cert.Kernel2Ideal.τ).loc main_arg1)) (m ((c : Thread nD Cert.Kernel2Ideal.τ).loc main_arg2)) (m ((c : Thread nD Cert.Kernel2Ideal.τ).loc main_arg3)) (m ((c : Thread nD Cert.Kernel2Ideal.τ).loc main_arg4)) (m ((c : Thread nD Cert.Kernel2Ideal.τ).loc main_arg5)) (m ((c : Thread nD Cert.Kernel2Ideal.τ).loc main_arg6)) (m ((c : Thread nD Cert.Kernel2Ideal.τ).loc main_arg7)) (m ((c : Thread nD Cert.Kernel2Ideal.τ).loc main_arg8)) (m ((c : Thread nD Cert.Kernel2Ideal.τ).loc main_arg9)) (m ((c : Thread nD Cert.Kernel2Ideal.τ).loc main_arg10)) (m ((c : Thread nD Cert.Kernel2Ideal.τ).loc main_arg11)) (m ((c : Thread nD Cert.Kernel2Ideal.τ).loc main_arg12)) (m ((c : Thread nD Cert.Kernel2Ideal.τ).loc main_arg13)) (m ((c : Thread nD Cert.Kernel2Ideal.τ).loc main_arg14)) (m ((c : Thread nD Cert.Kernel2Ideal.τ).loc main_arg15)) (m ((c : Thread nD Cert.Kernel2Ideal.τ).loc main_arg16)) (m ((c : Thread nD Cert.Kernel2Ideal.τ).loc main_arg17)) (m ((c : Thread nD Cert.Kernel2Ideal.τ).loc main_arg18)) (m ((c : Thread nD Cert.Kernel2Ideal.τ).loc main_arg19)) (m ((c : Thread nD Cert.Kernel2Ideal.τ).loc main_arg20)) b s j

theorem outs_at (t : Fin cfg0.N) (r : Fin 512) (j : Fin 1024) : outsAt0 m c t (ix2 r j) = outRow m c (bat t r) (pos t r) j := by
  unfold outsAt0
  refine (out_row _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ib_11 m c t) r j).trans ?_
  refine rowOut_congr (funext fun j => ib_0 m c t r j) (funext fun j => ib_8 m c t r j) (funext fun j => ib_9 m c t r j) ?_ ?_
    (funext fun j => ib_7 m c t r j) (funext fun j => ib_10 m c t r j) (funext fun i => funext fun j => ib_12 m c t i j)
    (funext fun i => funext fun j => ib_13 m c t i j) (funext fun i => funext fun j => ib_14 m c t i j) (funext fun j => ib_15 m c t j)
    (funext fun j => ib_16 m c t j) (funext fun j => ib_17 m c t j) (funext fun i => funext fun j => ib_18 m c t i j)
    (funext fun i => funext fun j => ib_19 m c t i j) (funext fun i => funext fun j => ib_20 m c t i j)
    (funext fun i => funext fun j => ib_21 m c t i j) j
  · funext g h
    rw [ib_4 m c t r (lane h), ib_5 m c t r (lane h), ib_6 m c t r (lane h)]
  · funext g d
    rw [ib_1 m c t r d, ib_2 m c t r d, ib_3 m c t r d]

theorem place22 (A : Fin 16 → Fin 4096 → Fin 1024 → EReal) (t : Fin cfg0.N) (y : S512x1024.Idx) :
    A (bat t (y 0)) (pos t (y 0)) (y 1)
    = (fun i : S65536x1024.Idx => A ⟨(i 0).val / 4096, by have : (i 0).val < 65536 := (i 0).isLt; omega⟩ ⟨(i 0).val % 4096, by omega⟩ (i 1))
      ((win0_22.blk t).view.emb y) := by
  have e : (win0_22.blk t).view.emb y = ix2 ⟨512 * t.val + (y 0).val, by have : t.val < 128 := t.isLt; have : (y 0).val < 512 := (y 0).isLt; omega⟩ (y 1) := by
    funext a
    refine Fin.ext ((win0_22.rect_emb_val t y a).trans ?_)
    rw [(idx_moving t).2.2.2.2.2.2.2.2.2.2.2]
    fin_cases a <;> simp [ix2] <;> omega
  rw [e]; rfl

/-- The output array. -/
theorem arr22 : (dats m 0 c).arrAt 22 cfg0.N
    = fun i : S65536x1024.Idx => outRow m c ⟨(i 0).val / 4096, by have : (i 0).val < 65536 := (i 0).isLt; omega⟩ ⟨(i 0).val % 4096, by omega⟩ (i 1) :=
  (dats m 0 c).arrAt_eq_of_covers 22 _ (by decide +kernel) fun t _ y =>
    (congrFun (after0_22 m c t) _).trans (((congrArg (outsAt0 m c t) (show y = ix2 (y 0) (y 1) by funext a; fin_cases a <;> rfl)).trans
      (outs_at m c t (y 0) (y 1))).trans (place22 (outRow m c) t y))

end Back
end
-- ==== Proof.BackRun.lean ====
/-
  The runs of the layer's last kernel: what they leave in the output, and that they leave the arguments.
-/
module

public import proofs.«01_k».proof.Proof.BackFrame

@[expose] public section

set_option maxRecDepth 16384

noncomputable section

namespace Back

open Idealize.ShloMosaic Idealize.ShloMosaic.TcCoe Cert.Kernel2Ideal Cert.Kernel2Ideal.Gen Idealize.SL.Sem

variable {F : FTy → Type} [FloatOps F] (m : (ℓ : Loc nD Cert.Kernel2Ideal.τ sig) → Buf (Elt F) ℓ) (ρ : Dev nD → PrngReg)

/-- The output array after a run. -/
theorem post22 (r : PUnit × MemSt nD τ sig (Elt F)) (h : Pipeline.FramePost cfgs (dats m) 0 (V m) r) (c : Dev nD) :
    r.2.mem ((c : Thread nD τ).loc main_v47) = (dats m 0 c).arrAt 22 cfg0.N :=
  (h c).1 22

/-! ## The arguments are as launched -/

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- A run leaves the output array at the pipeline's, and the arguments. -/
theorem run_blocks : θ_run defs (onTc (τ := τ) (main (F := F))) ⟨m, fun _ => 0, ρ⟩ fun r => ∀ c : Dev nD,
      r.2.mem ((c : Thread nD τ).loc main_v47) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c⟩)
    (run_main m ρ)

/-- A run leaves the arguments. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

/-- A run leaves the arguments and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Back
end
-- ==== Proof.BackSame.lean ====
/-
  The frame of the layer's last kernel, read with the floats of the formats.
-/
module

public import proofs.«01_k».proof.Defs
public import proofs.«01_k».proof.Proof.BackRun
public import proofs.«01_k».proof.Proof.Gen.Kernel2

@[expose] public section

set_option maxRecDepth 16384

noncomputable section

namespace Back

open Idealize.ShloMosaic Idealize.ShloMosaic.TcCoe Idealize.SL.Sem

set_option maxHeartbeats 20000000 in
/-- The two programs have the same text: their body tables agree. -/
theorem rows_same : Cert.Kernel2.defs₀ (F := Bits) = Cert.Kernel2Ideal.defs₀ (F := Bits) := by
  unfold Cert.Kernel2.defs₀ Cert.Kernel2Ideal.defs₀
  refine congrArg Defs.onTc ?_
  funext l a
  match l, a with
  | 0, (t, s) => rfl

set_option maxHeartbeats 20000000 in
theorem defs_same : Cert.Kernel2.defs (F := Bits) = Cert.Kernel2Ideal.defs (F := Bits) :=
  congrArg (Pipeline.defs (Cert.Kernel2Ideal.pcfgs (F := Bits))) rows_same

set_option maxHeartbeats 20000000 in
/-- So the one run serves both. -/
theorem frame_kernel : Cert.quiescent_Kernel2 := by
  intro m ρ _
  rw [defs_same]
  exact frame (F := Bits) m ρ

end Back
end
-- ==== Proof.BackRef.lean ====
/-
  The reference of the layer's last kernel, in stages, each read at an index.
-/
module

public import proofs.«01_k».proof.Proof.BackRow
public import proofs.«01_k».proof.Proof.Soft
public import proofs.«01_k».proof.Proof.Gen.Reference2Ideal.Run
public import Idealize.ShloMosaic.Lib.Pointwise

@[expose] public section

set_option maxRecDepth 16384

noncomputable section

namespace Back

open Idealize.ShloMosaic Idealize.ShloMosaic.TcCoe Cert.Reference2Ideal Cert.Reference2Ideal.Gen Idealize.SL.Sem

section Stages

variable {F : FTy → Type} [FloatOps F]

/-- The three groups' logarithms, in base e. -/
def lsR (l1 l2 l3 : FVec F S16x4096x128 .f32) : FVec F S3x16x4096x8 .f32 :=
  mulf (extractStridedSlice S3x16x4096x8 ![0, 0, 0, 0] (concatenate S3x16x4096x128 0 [⟨S1x16x4096x128, (broadcastInDim S1x16x4096x128 ![1, 2, 3] bcast_S16x4096x128_S1x16x4096x128_1_2_3 l1)⟩, ⟨S1x16x4096x128, (broadcastInDim S1x16x4096x128 ![1, 2, 3] bcast_S16x4096x128_S1x16x4096x128_1_2_3 l2)⟩, ⟨S1x16x4096x128, (broadcastInDim S1x16x4096x128 ![1, 2, 3] bcast_S16x4096x128_S1x16x4096x128_1_2_3 l3)⟩] concatenates_S1x16x4096x128_S1x16x4096x128_S1x16x4096x128_S3x16x4096x128_d0) slices_S3x16x4096x128_S3x16x4096x8_0_0_0_0) (broadcastInDim S3x16x4096x8 ![] bcast_S_S3x16x4096x8 (Host.log (constant S_ .f32 0x40000000#32)))

def maxR (ls : FVec F S3x16x4096x8 .f32) : FVec F S16x4096x8 .f32 :=
  Host.reduce FloatOps.maximumf ls (constant S_ .f32 0xFF800000#32) reducesTo_S3x16x4096x8_S16x4096x8_d0 h_S_

/-- Their weights, before division by the sum. -/
def wR (ls : FVec F S3x16x4096x8 .f32) : FVec F S3x16x4096x8 .f32 :=
  Host.exp (subf ls (broadcastInDim S3x16x4096x8 ![0, 1, 2, 3] bcast_S1x16x4096x8_S3x16x4096x8_0_1_2_3 (broadcastInDim S1x16x4096x8 ![1, 2, 3] bcast_S16x4096x8_S1x16x4096x8_1_2_3 (maxR ls))))

def sumR (w : FVec F S3x16x4096x8 .f32) : FVec F S16x4096x8 .f32 :=
  Host.reduceAdd w (constant S_ .f32 0x00000000#32) reducesTo_S3x16x4096x8_S16x4096x8_d0 h_S_

def shareR (w : FVec F S3x16x4096x8 .f32) : FVec F S3x16x4096x8 .f32 :=
  mulf w (broadcastInDim S3x16x4096x8 ![0, 1, 2, 3] bcast_S1x16x4096x8_S3x16x4096x8_0_1_2_3 (Host.divf (broadcastInDim S1x16x4096x8 ![] bcast_S_S1x16x4096x8 (constant S_ .f32 0x3F800000#32)) (broadcastInDim S1x16x4096x8 ![1, 2, 3] bcast_S16x4096x8_S1x16x4096x8_1_2_3 (sumR w))))

/-- The three groups' means. -/
def osR (o1 o2 o3 : FVec F S16x4096x512 .f32) : FVec F S3x16x4096x8x64 .f32 :=
  shapeCast _ (concatenate S3x16x4096x512 0 [⟨S1x16x4096x512, (broadcastInDim S1x16x4096x512 ![1, 2, 3] bcast_S16x4096x512_S1x16x4096x512_1_2_3 o1)⟩, ⟨S1x16x4096x512, (broadcastInDim S1x16x4096x512 ![1, 2, 3] bcast_S16x4096x512_S1x16x4096x512_1_2_3 o2)⟩, ⟨S1x16x4096x512, (broadcastInDim S1x16x4096x512 ![1, 2, 3] bcast_S16x4096x512_S1x16x4096x512_1_2_3 o3)⟩] concatenates_S1x16x4096x512_S1x16x4096x512_S1x16x4096x512_S3x16x4096x512_d0) shapeCasts_S3x16x4096x512_S3x16x4096x8x64

def mixSumR (v : FVec F S3x16x4096x8x64 .f32) : FVec F S16x4096x8x64 .f32 :=
  Host.reduceAdd v (constant S_ .f32 0x00000000#32) reducesTo_S3x16x4096x8x64_S16x4096x8x64_d0 h_S_

def mixPartR (w : FVec F S3x16x4096x8 .f32) (o : FVec F S3x16x4096x8x64 .f32) : FVec F S3x16x4096x8x64 .f32 :=
  mulf (broadcastInDim S3x16x4096x8x64 ![0, 1, 2, 3, 4] bcast_S3x16x4096x8x1_S3x16x4096x8x64_0_1_2_3_4 (broadcastInDim S3x16x4096x8x1 ![0, 1, 2, 3] bcast_S3x16x4096x8_S3x16x4096x8x1_0_1_2_3 w)) o

def mixR (w : FVec F S3x16x4096x8 .f32) (o : FVec F S3x16x4096x8x64 .f32) : FVec F S16x4096x512 .f32 :=
  shapeCast _ (mixSumR (mixPartR (shareR w) o)) shapeCasts_S16x4096x8x64_S16x4096x512

def upR (y : FVec F S16x4096x512 .f32) (w : FVec F S1x512x1024 .f32) : FVec F S16x4096x1024 .f32 :=
  Host.dotGeneral dot_S16x4096x512_S512x1024_S16x4096x1024_2_0_01_1_n_n none y (shapeCast _ w shapeCasts_S1x512x1024_S512x1024)

def sqR (w : FVec F S1x1024x1024 .f32) (y : FVec F S16x4096x1024 .f32) : FVec F S16x4096x1024 .f32 :=
  Host.dotGeneral dot_S16x4096x1024_S1024x1024_S16x4096x1024_2_0_01_1_n_n none y (shapeCast _ w shapeCasts_S1x1024x1024_S1024x1024)

def mergeR (x ga gb : FVec F S16x4096x1024 .f32) (ya yb : FVec F S16x4096x512 .f32) (wa wb : FVec F S1x512x1024 .f32) (wo : FVec F S1x1024x1024 .f32) :
    FVec F S16x4096x1024 .f32 :=
  addf x (sqR wo (addf (mulf ga (upR ya wa)) (mulf gb (upR yb wb))))

/-- The rows divided by their root mean squares. -/
def squaresR (x : FVec F S16x4096x1024 .f32) : FVec F S16x4096 .f32 :=
  Host.reduceAdd (mulf x x) (constant S_ .f32 0x00000000#32) reducesTo_S16x4096x1024_S16x4096_d2 h_S_

def rmsR (x : FVec F S16x4096x1024 .f32) (g : FVec F S1024 .f32) : FVec F S16x4096x1024 .f32 :=
  mulf (mulf x (broadcastInDim S16x4096x1024 ![0, 1, 2] bcast_S16x4096x1_S16x4096x1024_0_1_2 (Host.rsqrt (addf (Host.divf (broadcastInDim S16x4096x1 ![0, 1] bcast_S16x4096_S16x4096x1_0_1 (squaresR x)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 g))

def gainR (g : FVec F S1x1024 .f32) : FVec F S1024 .f32 := shapeCast _ g shapeCasts_S1x1024_S1024

def guR (h : FVec F S16x4096x1024 .f32) (w : FVec F S1x1024x5632 .f32) : FVec F S16x4096x5632 .f32 :=
  Host.dotGeneral dot_S16x4096x1024_S1024x5632_S16x4096x5632_2_0_01_1_n_n none h (shapeCast _ w shapeCasts_S1x1024x5632_S1024x5632)

def gateR (v : FVec F S16x4096x5632 .f32) : FVec F S16x4096x2816 .f32 :=
  extractStridedSlice S16x4096x2816 ![0, 0, 0] v slices_S16x4096x5632_S16x4096x2816_0_0_0

def hidR (v : FVec F S16x4096x5632 .f32) : FVec F S16x4096x2816 .f32 :=
  mulf (mulf (gateR v) (Host.divf (broadcastInDim S16x4096x2816 ![] bcast_S_S16x4096x2816 (constant S_ .f32 0x3F800000#32)) (addf (broadcastInDim S16x4096x2816 ![] bcast_S_S16x4096x2816 (constant S_ .f32 0x3F800000#32)) (Host.exp (Host.negf (gateR v)))))) (extractStridedSlice S16x4096x2816 ![0, 0, 2816] v slices_S16x4096x5632_S16x4096x2816_0_0_2816)

def downR (x : FVec F S16x4096x1024 .f32) (h : FVec F S16x4096x2816 .f32) (w : FVec F S1x2816x1024 .f32) : FVec F S16x4096x1024 .f32 :=
  addf x (Host.dotGeneral dot_S16x4096x2816_S2816x1024_S16x4096x1024_2_0_01_1_n_n none h (shapeCast _ w shapeCasts_S1x2816x1024_S2816x1024))

def pleR (x g : FVec F S16x4096x1024 .f32) (p : FVec F S1x16x4096x256 .f32) (wpe : FVec F S1x256x1024 .f32) : FVec F S16x4096x1024 .f32 :=
  addf x (mulf (Host.dotGeneral dot_S16x4096x256_S256x1024_S16x4096x1024_2_0_01_1_n_n none (shapeCast _ p shapeCasts_S1x16x4096x256_S16x4096x256) (shapeCast _ wpe shapeCasts_S1x256x1024_S256x1024)) (Host.divf (broadcastInDim S16x4096x1024 ![] bcast_S_S16x4096x1024 (constant S_ .f32 0x3F800000#32)) (addf (broadcastInDim S16x4096x1024 ![] bcast_S_S16x4096x1024 (constant S_ .f32 0x3F800000#32)) (Host.exp (Host.negf g)))))

/-- The reference's rows, from its arguments. -/
def x1R (x : FVec F S16x4096x1024 .f32) (o1 o2 o3 : FVec F S16x4096x512 .f32) (l1 l2 l3 : FVec F S16x4096x128 .f32) (yb : FVec F S16x4096x512 .f32)
    (ga gb : FVec F S16x4096x1024 .f32) (wa wb : FVec F S1x512x1024 .f32) (wo : FVec F S1x1024x1024 .f32) : FVec F S16x4096x1024 .f32 :=
  mergeR x ga gb (mixR (wR (lsR l1 l2 l3)) (osR o1 o2 o3)) yb wa wb wo

def x2R (x : FVec F S16x4096x1024 .f32) (nf : FVec F S1x1024 .f32) (wgu : FVec F S1x1024x5632 .f32) (wd : FVec F S1x2816x1024 .f32) : FVec F S16x4096x1024 .f32 :=
  downR x (hidR (guR (rmsR x (gainR nf)) wgu)) wd

def x3R (x : FVec F S16x4096x1024 .f32) (np : FVec F S1x1024 .f32) (p : FVec F S1x16x4096x256 .f32) (wpe : FVec F S1x256x1024 .f32) (wpg : FVec F S1x1024x1024 .f32) :
    FVec F S16x4096x1024 .f32 :=
  pleR x (sqR wpg (rmsR x (gainR np))) p wpe

def flatR (x : FVec F S16x4096x1024 .f32) : FVec F S65536x1024 .f32 := shapeCast _ x shapeCasts_S16x4096x1024_S65536x1024

variable (V0 : Valuation τ sig (Elt F))

theorem ref_v38 : Value.res_main_v38 V0 = x1R (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5)) (V0 (Proc.devRef .tc main_arg6))
    (V0 (Proc.devRef .tc main_arg7)) (V0 (Proc.devRef .tc main_arg8)) (V0 (Proc.devRef .tc main_arg9)) (V0 (Proc.devRef .tc main_arg11))
    (V0 (Proc.devRef .tc main_arg12)) (V0 (Proc.devRef .tc main_arg13)) := rfl

theorem ref_v61 : Value.res_main_v61 V0 = x2R (Value.res_main_v38 V0) (V0 (Proc.devRef .tc main_arg14)) (V0 (Proc.devRef .tc main_arg17))
    (V0 (Proc.devRef .tc main_arg18)) := rfl

theorem ref_v88 : Value.res_main_v88 V0 = x3R (Value.res_main_v61 V0) (V0 (Proc.devRef .tc main_arg15)) (V0 (Proc.devRef .tc main_arg10))
    (V0 (Proc.devRef .tc main_arg19)) (V0 (Proc.devRef .tc main_arg20)) := rfl

end Stages

end Back
end
-- ==== Proof.BackRefVal.lean ====
/-
  The reference's stages over the extended reals, read at an index.
-/
module

public import proofs.«01_k».proof.Proof.BackRef
public import proofs.«01_k».proof.Proof.Words

@[expose] public section

set_option maxRecDepth 16384

noncomputable section

namespace Back

open Idealize.ShloMosaic Idealize.ShloMosaic.TcCoe Cert.Reference2Ideal Cert.Reference2Ideal.Gen Idealize.SL.Sem

theorem log2_pos : 0 < Real.log 2 := Real.log_pos (by norm_num)

theorem log_two : Ideal.log (Ideal.ofBits FTy.f32 0x40000000#32) = ((Real.log 2 : ℝ) : EReal) := by
  rw [Attn.two]; exact (Ideal.log_coe _).trans (if_neg (by norm_num))

theorem fold3 (f : Fin 3 → EReal) : Finset.fold max ⊥ f Finset.univ = max (max (f 0) (f 1)) (f 2) := by
  have h : (Finset.univ : Finset (Fin 3)) = {0, 1, 2} := by decide
  rw [h, Finset.fold_insert (by decide), Finset.fold_insert (by decide), Finset.fold_singleton, max_eq_left bot_le, max_assoc]

theorem exp_log2 (z : EReal) : Ideal.exp (((Real.log 2 : ℝ) : EReal) * z) = Ideal.exp2 z := by
  rw [← Attn.exp2_log2, ← mul_assoc, ← EReal.coe_mul, inv_mul_cancel₀ log2_pos.ne', EReal.coe_one, one_mul]

section Mixer

variable (l1 l2 l3 : FVec Ideal S16x4096x128 .f32) (o1 o2 o3 : FVec Ideal S16x4096x512 .f32)

theorem lsR_apply (g : Fin 3) (b : Fin 16) (s : Fin 4096) (h : Fin 8) :
    lsR l1 l2 l3 (ix4 g b s h)
    = three (l1 (ix3 b s (lane h))) (l2 (ix3 b s (lane h))) (l3 (ix3 b s (lane h))) g * ((Real.log 2 : ℝ) : EReal) := by
  fin_cases g <;> pointwise [lsR] <;> exact congrArg _ log_two

theorem osR_apply (g : Fin 3) (b : Fin 16) (s : Fin 4096) (h : Fin 8) (d : Fin 64) :
    osR o1 o2 o3 (ix5 g b s h d)
    = three (o1 (ix3 b s ⟨h.val * 64 + d.val, by omega⟩)) (o2 (ix3 b s ⟨h.val * 64 + d.val, by omega⟩)) (o3 (ix3 b s ⟨h.val * 64 + d.val, by omega⟩)) g := by
  fin_cases g <;> pointwise [osR]

theorem lift_d0 (h : (S3x16x4096x8 : Shape).Reduces [0] S16x4096x8) (b : Fin 16) (s : Fin 4096) (k : Fin 8) (g : Fin 3) :
    h.lift (ix3 b s k) g = ix4 g b s k := by
  funext k; fin_cases k <;> rfl

theorem maxR_apply (s : FVec Ideal S3x16x4096x8 .f32) (b : Fin 16) (r : Fin 4096) (h : Fin 8) :
    maxR s (ix3 b r h) = Finset.fold max ⊥ (fun g => s (ix4 g b r h)) Finset.univ := by
  unfold maxR
  refine (Host.reduce_eq_fold_single _ _ _ _ (by decide) _ _).trans ?_
  rw [show constant (F := Ideal) S_ .f32 0xFF800000#32 (Shape.Idx.first h_S_) = ⊥ from Attn.minus_inf]
  exact congrArg (fun f => Finset.fold max ⊥ f Finset.univ) (funext fun g => congrArg s (lift_d0 _ b r h g))

theorem wR_apply (s : FVec Ideal S3x16x4096x8 .f32) (g : Fin 3) (b : Fin 16) (r : Fin 4096) (h : Fin 8) :
    wR s (ix4 g b r h) = Ideal.exp (s (ix4 g b r h) - Finset.fold max ⊥ (fun g => s (ix4 g b r h)) Finset.univ) := by
  have hx := maxR_apply s b r h
  unfold wR
  generalize maxR s = x at hx ⊢
  pointwise
  rw [hx]

theorem sumR_apply (w : FVec Ideal S3x16x4096x8 .f32) (b : Fin 16) (r : Fin 4096) (h : Fin 8) :
    sumR w (ix3 b r h) = w (ix4 0 b r h) + w (ix4 1 b r h) + w (ix4 2 b r h) := by
  unfold sumR
  pointwise
  exact Fin.sum_univ_three _

theorem shareR_apply (w : FVec Ideal S3x16x4096x8 .f32) (g : Fin 3) (b : Fin 16) (r : Fin 4096) (h : Fin 8) :
    shareR w (ix4 g b r h) = w (ix4 g b r h) * Ideal.div 1 (w (ix4 0 b r h) + w (ix4 1 b r h) + w (ix4 2 b r h)) := by
  have hx := sumR_apply w b r h
  unfold shareR
  generalize sumR w = x at hx ⊢
  pointwise
  rw [hx]

theorem mixSumR_apply (v : FVec Ideal S3x16x4096x8x64 .f32) (b : Fin 16) (r : Fin 4096) (h : Fin 8) (d : Fin 64) :
    mixSumR v (ix4 b r h d) = v (ix5 0 b r h d) + v (ix5 1 b r h d) + v (ix5 2 b r h d) := by
  unfold mixSumR
  pointwise
  exact Fin.sum_univ_three _

theorem mixPartR_apply (w : FVec Ideal S3x16x4096x8 .f32) (o : FVec Ideal S3x16x4096x8x64 .f32) (g : Fin 3) (b : Fin 16) (r : Fin 4096) (h : Fin 8) (d : Fin 64) :
    mixPartR w o (ix5 g b r h d) = w (ix4 g b r h) * o (ix5 g b r h d) := by
  unfold mixPartR
  pointwise

theorem mixR_apply (w : FVec Ideal S3x16x4096x8 .f32) (o : FVec Ideal S3x16x4096x8x64 .f32) (b : Fin 16) (r : Fin 4096) (c : Fin 512) :
    mixR w o (ix3 b r c) = mixSumR (mixPartR (shareR w) o) (ix4 b r (headOf c) ⟨c.val % 64, by omega⟩) := by
  unfold mixR
  generalize mixSumR (mixPartR (shareR w) o) = v
  pointwise
  rfl

/-- The weights are the base-2 ones. -/
theorem weight_row (g : Fin 3) (b : Fin 16) (r : Fin 4096) (h : Fin 8) :
    wR (lsR l1 l2 l3) (ix4 g b r h) = wt (three (l1 (ix3 b r (lane h))) (l2 (ix3 b r (lane h))) (l3 (ix3 b r (lane h)))) g := by
  rw [wR_apply]
  simp only [lsR_apply]
  generalize three (l1 (ix3 b r (lane h))) (l2 (ix3 b r (lane h))) (l3 (ix3 b r (lane h))) = f
  unfold wt
  rw [← fold3, ← exp_log2, Attn.pos_mul_sub log2_pos, Attn.pos_mul_fold log2_pos, mul_comm (f g)]
  exact congrArg (fun v => Ideal.exp (_ - Finset.fold max ⊥ v Finset.univ)) (funext fun g => mul_comm _ _)

theorem mixer_ref (b : Fin 16) (r : Fin 4096) (c : Fin 512) :
    mixR (wR (lsR l1 l2 l3)) (osR o1 o2 o3) (ix3 b r c)
    = mixed (fun g h => three (l1 (ix3 b r (lane h))) (l2 (ix3 b r (lane h))) (l3 (ix3 b r (lane h))) g)
        (fun g c => three (o1 (ix3 b r c)) (o2 (ix3 b r c)) (o3 (ix3 b r c)) g) c := by
  rw [mixR_apply, mixSumR_apply]
  simp only [mixPartR_apply, shareR_apply, weight_row, osR_apply]
  have e : (⟨(headOf c).val * 64 + c.val % 64, by have := c.isLt; simp only [headOf]; omega⟩ : Fin 512) = c := Fin.ext (by simp only [headOf]; omega)
  rw [e]
  rfl

end Mixer

section Products

theorem upR_apply (y : FVec Ideal S16x4096x512 .f32) (w : FVec Ideal S1x512x1024 .f32) (b : Fin 16) (r : Fin 4096) (j : Fin 1024) :
    upR y w (ix3 b r j) = mm (fun c => y (ix3 b r c)) (fun k j => w (ix3 0 k j)) j := by
  unfold upR mm
  pointwise

theorem sqR_apply (w : FVec Ideal S1x1024x1024 .f32) (y : FVec Ideal S16x4096x1024 .f32) (b : Fin 16) (r : Fin 4096) (j : Fin 1024) :
    sqR w y (ix3 b r j) = mm (fun c => y (ix3 b r c)) (fun k j => w (ix3 0 k j)) j := by
  unfold sqR mm
  pointwise

theorem mergeR_apply (x ga gb : FVec Ideal S16x4096x1024 .f32) (ya yb : FVec Ideal S16x4096x512 .f32) (wa wb : FVec Ideal S1x512x1024 .f32)
    (wo : FVec Ideal S1x1024x1024 .f32) (b : Fin 16) (r : Fin 4096) (j : Fin 1024) :
    mergeR x ga gb ya yb wa wb wo (ix3 b r j)
    = merge (fun j => x (ix3 b r j)) (fun j => ga (ix3 b r j)) (fun j => gb (ix3 b r j)) (fun c => ya (ix3 b r c)) (fun c => yb (ix3 b r c))
        (fun k j => wa (ix3 0 k j)) (fun k j => wb (ix3 0 k j)) (fun k j => wo (ix3 0 k j)) j := by
  unfold mergeR merge
  refine congrArg (x (ix3 b r j) + ·) ((sqR_apply wo _ b r j).trans (congrArg (fun v => mm v (fun k j => wo (ix3 0 k j)) j) (funext fun i => ?_)))
  exact congrArg₂ (fun p q => ga (ix3 b r i) * p + gb (ix3 b r i) * q) (upR_apply ya wa b r i) (upR_apply yb wb b r i)

theorem squaresR_apply (x : FVec Ideal S16x4096x1024 .f32) (b : Fin 16) (r : Fin 4096) :
    squaresR x (ix2 b r) = ∑ k, x (ix3 b r k) * x (ix3 b r k) := by
  unfold squaresR
  pointwise

theorem rmsR_apply (x : FVec Ideal S16x4096x1024 .f32) (g : FVec Ideal S1024 .f32) (b : Fin 16) (r : Fin 4096) (j : Fin 1024) :
    rmsR x g (ix3 b r j) = rms (fun j => x (ix3 b r j)) (fun j => g (ix1 j)) j := by
  have hx := squaresR_apply x b r
  unfold rmsR rms
  generalize squaresR x = q at hx ⊢
  pointwise
  rw [hx]

theorem gainR_apply (g : FVec Ideal S1x1024 .f32) (j : Fin 1024) : gainR g (ix1 j) = g (ix2 0 j) := by
  unfold gainR
  pointwise

theorem guR_apply (h : FVec Ideal S16x4096x1024 .f32) (w : FVec Ideal S1x1024x5632 .f32) (b : Fin 16) (r : Fin 4096) (j : Fin 5632) :
    guR h w (ix3 b r j) = mm (fun c => h (ix3 b r c)) (fun k j => w (ix3 0 k j)) j := by
  unfold guR mm
  pointwise

theorem hidR_apply (v : FVec Ideal S16x4096x5632 .f32) (b : Fin 16) (r : Fin 4096) (i : Fin 2816) :
    hidR v (ix3 b r i) = act (v (ix3 b r (gateCol i))) (v (ix3 b r (upCol i))) := by
  unfold hidR gateR act Ideal.logistic
  pointwise
  rfl

theorem downR_apply (x : FVec Ideal S16x4096x1024 .f32) (h : FVec Ideal S16x4096x2816 .f32) (w : FVec Ideal S1x2816x1024 .f32) (b : Fin 16) (r : Fin 4096) (j : Fin 1024) :
    downR x h w (ix3 b r j) = x (ix3 b r j) + mm (fun i => h (ix3 b r i)) (fun k j => w (ix3 0 k j)) j := by
  unfold downR mm
  pointwise

theorem pleR_apply (x g : FVec Ideal S16x4096x1024 .f32) (p : FVec Ideal S1x16x4096x256 .f32) (wpe : FVec Ideal S1x256x1024 .f32) (b : Fin 16) (r : Fin 4096) (j : Fin 1024) :
    pleR x g p wpe (ix3 b r j)
    = x (ix3 b r j) + mm (fun k => p (ix4 0 b r k)) (fun k j => wpe (ix3 0 k j)) j * Ideal.logistic (g (ix3 b r j)) := by
  unfold pleR mm Ideal.logistic
  pointwise

theorem flatR_apply (x : FVec Ideal S16x4096x1024 .f32) (R : Fin 65536) (j : Fin 1024) :
    flatR x (ix2 R j) = x (ix3 ⟨R.val / 4096, by omega⟩ ⟨R.val % 4096, by omega⟩ j) := by
  unfold flatR
  pointwise

end Products

/-! ## The rows -/

theorem x2R_row (x : FVec Ideal S16x4096x1024 .f32) (nf : FVec Ideal S1x1024 .f32) (wgu : FVec Ideal S1x1024x5632 .f32) (wd : FVec Ideal S1x2816x1024 .f32)
    (b : Fin 16) (r : Fin 4096) (j : Fin 1024) :
    x2R x nf wgu wd (ix3 b r j)
    = ffn (fun j => x (ix3 b r j)) (fun j => nf (ix2 0 j)) (fun k j => wgu (ix3 0 k j)) (fun k j => wd (ix3 0 k j)) j := by
  unfold x2R ffn hid
  rw [downR_apply]
  simp only [hidR_apply, guR_apply, rmsR_apply, gainR_apply]

theorem x3R_row (x : FVec Ideal S16x4096x1024 .f32) (np : FVec Ideal S1x1024 .f32) (p : FVec Ideal S1x16x4096x256 .f32) (wpe : FVec Ideal S1x256x1024 .f32)
    (wpg : FVec Ideal S1x1024x1024 .f32) (b : Fin 16) (r : Fin 4096) (j : Fin 1024) :
    x3R x np p wpe wpg (ix3 b r j)
    = ple (fun j => x (ix3 b r j)) (fun j => np (ix2 0 j)) (fun k => p (ix4 0 b r k)) (fun k j => wpe (ix3 0 k j)) (fun k j => wpg (ix3 0 k j)) j := by
  unfold x3R ple
  rw [pleR_apply, sqR_apply]
  simp only [rmsR_apply, gainR_apply]

theorem out_ref (x : FVec Ideal S16x4096x1024 .f32) (o1 o2 o3 : FVec Ideal S16x4096x512 .f32) (l1 l2 l3 : FVec Ideal S16x4096x128 .f32)
    (yb : FVec Ideal S16x4096x512 .f32) (ga gb : FVec Ideal S16x4096x1024 .f32) (p : FVec Ideal S1x16x4096x256 .f32) (wa wb : FVec Ideal S1x512x1024 .f32)
    (wo : FVec Ideal S1x1024x1024 .f32) (nf np : FVec Ideal S1x1024 .f32) (nl : FVec Ideal S1024 .f32) (wgu : FVec Ideal S1x1024x5632 .f32)
    (wd : FVec Ideal S1x2816x1024 .f32) (wpe : FVec Ideal S1x256x1024 .f32) (wpg : FVec Ideal S1x1024x1024 .f32) (R : Fin 65536) (j : Fin 1024) :
    flatR (rmsR (x3R (x2R (x1R x o1 o2 o3 l1 l2 l3 yb ga gb wa wb wo) nf wgu wd) np p wpe wpg) nl) (ix2 R j)
    = layer x o1 o2 o3 l1 l2 l3 yb ga gb p wa wb wo nf np nl wgu wd wpe wpg ⟨R.val / 4096, by omega⟩ ⟨R.val % 4096, by omega⟩ j := by
  rw [flatR_apply, rmsR_apply]
  unfold layer rowOut
  simp only [x3R_row, x2R_row]
  unfold x1R
  simp only [mergeR_apply, mixer_ref]

end Back
end
-- ==== Proof.BackClaims.lean ====
/-
  The claims about the layer's last kernel.
-/
module

public import proofs.«01_k».proof.Defs
public import proofs.«01_k».proof.Proof.BackArr
public import proofs.«01_k».proof.Proof.BackSame
public import proofs.«01_k».proof.Proof.BackRefVal
public import Idealize.ShloMosaic.Lib.Quiescent

@[expose] public section

set_option maxRecDepth 16384

noncomputable section

namespace Back

open Idealize.ShloMosaic Idealize.ShloMosaic.TcCoe Idealize.SL.Sem

theorem frame_ideal : Cert.quiescent_Kernel2Ideal := fun m ρ _ => frame (F := Ideal) m ρ

theorem frame_ref : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

theorem preserved : Cert.preserves_Kernel2_Kernel2Ideal := trivial

section

variable (m' : (ℓ : Loc Cert.Reference2Ideal.nD Cert.Reference2Ideal.τ Cert.Reference2Ideal.sig) → Buf (Elt Ideal) ℓ) (c : Dev Cert.Reference2Ideal.nD)

/-- The reference's result, from its arguments. -/
def refOut : FVec Ideal Cert.Reference2Ideal.S65536x1024 .f32 :=
  flatR (rmsR (x3R (x2R (x1R
    (m' ((c.tc : Thread Cert.Reference2Ideal.nD Cert.Reference2Ideal.τ).loc Cert.Reference2Ideal.main_arg0))
    (m' ((c.tc : Thread Cert.Reference2Ideal.nD Cert.Reference2Ideal.τ).loc Cert.Reference2Ideal.main_arg1))
    (m' ((c.tc : Thread Cert.Reference2Ideal.nD Cert.Reference2Ideal.τ).loc Cert.Reference2Ideal.main_arg2))
    (m' ((c.tc : Thread Cert.Reference2Ideal.nD Cert.Reference2Ideal.τ).loc Cert.Reference2Ideal.main_arg3))
    (m' ((c.tc : Thread Cert.Reference2Ideal.nD Cert.Reference2Ideal.τ).loc Cert.Reference2Ideal.main_arg4))
    (m' ((c.tc : Thread Cert.Reference2Ideal.nD Cert.Reference2Ideal.τ).loc Cert.Reference2Ideal.main_arg5))
    (m' ((c.tc : Thread Cert.Reference2Ideal.nD Cert.Reference2Ideal.τ).loc Cert.Reference2Ideal.main_arg6))
    (m' ((c.tc : Thread Cert.Reference2Ideal.nD Cert.Reference2Ideal.τ).loc Cert.Reference2Ideal.main_arg7))
    (m' ((c.tc : Thread Cert.Reference2Ideal.nD Cert.Reference2Ideal.τ).loc Cert.Reference2Ideal.main_arg8))
    (m' ((c.tc : Thread Cert.Reference2Ideal.nD Cert.Reference2Ideal.τ).loc Cert.Reference2Ideal.main_arg9))
    (m' ((c.tc : Thread Cert.Reference2Ideal.nD Cert.Reference2Ideal.τ).loc Cert.Reference2Ideal.main_arg11))
    (m' ((c.tc : Thread Cert.Reference2Ideal.nD Cert.Reference2Ideal.τ).loc Cert.Reference2Ideal.main_arg12))
    (m' ((c.tc : Thread Cert.Reference2Ideal.nD Cert.Reference2Ideal.τ).loc Cert.Reference2Ideal.main_arg13)))
    (m' ((c.tc : Thread Cert.Reference2Ideal.nD Cert.Reference2Ideal.τ).loc Cert.Reference2Ideal.main_arg14))
    (m' ((c.tc : Thread Cert.Reference2Ideal.nD Cert.Reference2Ideal.τ).loc Cert.Reference2Ideal.main_arg17))
    (m' ((c.tc : Thread Cert.Reference2Ideal.nD Cert.Reference2Ideal.τ).loc Cert.Reference2Ideal.main_arg18)))
    (m' ((c.tc : Thread Cert.Reference2Ideal.nD Cert.Reference2Ideal.τ).loc Cert.Reference2Ideal.main_arg15))
    (m' ((c.tc : Thread Cert.Reference2Ideal.nD Cert.Reference2Ideal.τ).loc Cert.Reference2Ideal.main_arg10))
    (m' ((c.tc : Thread Cert.Reference2Ideal.nD Cert.Reference2Ideal.τ).loc Cert.Reference2Ideal.main_arg19))
    (m' ((c.tc : Thread Cert.Reference2Ideal.nD Cert.Reference2Ideal.τ).loc Cert.Reference2Ideal.main_arg20)))
    (m' ((c.tc : Thread Cert.Reference2Ideal.nD Cert.Reference2Ideal.τ).loc Cert.Reference2Ideal.main_arg16)))

end

/-- Both programs leave the same output. -/
theorem same : Cert.algebraic_Kernel2Ideal_Reference2Ideal := by
  intro m g m' g' _ hagree
  have e0 : ∀ c : Dev Cert.Kernel2Ideal.nD, refOut m' c
      = fun i : Cert.Kernel2Ideal.S65536x1024.Idx => outRow m c ⟨(i 0).val / 4096, by have : (i 0).val < 65536 := (i 0).isLt; omega⟩ ⟨(i 0).val % 4096, by omega⟩ (i 1) := by
    intro c
    obtain ⟨h0, h1, h2, h3, h4, h5, h6, h7, h8, h9, h10, h11, h12, h13, h14, h15, h16, h17, h18, h19, h20⟩ := hagree c
    unfold refOut
    rw [h0, h1, h2, h3, h4, h5, h6, h7, h8, h9, h10, h11, h12, h13, h14, h15, h16, h17, h18, h19, h20]
    funext i
    refine (congrArg _ (show i = ix2 (i 0) (i 1) by funext a; fin_cases a <;> rfl)).trans ?_
    exact out_ref _ _ _ _ _ _ _ _ _ _ _ _ _ _ _ _ _ _ _ _ _ (i 0) (i 1)
  refine ⟨fun c => (dats m 0 c).arrAt 22 Cert.Kernel2Ideal.cfg0.N, run_blocks (F := Ideal) m g, ?_⟩
  exact (θ_run Cert.Reference2Ideal.defs _ _).mono (fun _ h c => ⟨(h c).1.trans ((e0 c).trans (arr22 m c).symm), (h c).2⟩)
    (Cert.Reference2Ideal.Value.run (F := Ideal) m' g')

end Back
end
-- ==== Proof.lean ====
module

public import proofs.«01_k».proof.Defs
public import proofs.«01_k».proof.Proof.Claims
public import proofs.«01_k».proof.Proof.BackClaims
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2
public import proofs.«01_k».proof.Proof.Gen.Kernel2Ideal
public import proofs.«01_k».proof.Proof.Gen.Kernel2Ideal.Frame.RunA
public import proofs.«01_k».proof.Proof.Gen.Reference2Ideal
public import proofs.«01_k».proof.Proof.Gen.Reference2Ideal.Run

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Attn.frame_kernel, Attn.frame_ideal, Attn.frame_ref, Back.frame_kernel, Back.frame_ideal, Back.frame_ref,
    Attn.preserved, Attn.same, Back.preserved, Back.same⟩

end Cert.Proof

end
